-- ==== Defs.lean ====
def Pre_Cd (m : (ℓ : Loc Cert.Cd.nD Cert.Cd.τ Cert.Cd.sig) → Buf (Elt Bits) ℓ) : Prop :=
  True

def Pre_CdIdeal (m : (ℓ : Loc Cert.CdIdeal.nD Cert.CdIdeal.τ Cert.CdIdeal.sig) → Buf (Elt Ideal) ℓ) : Prop :=
  True

def Pre_CdRefIdeal (m : (ℓ : Loc Cert.CdRefIdeal.nD Cert.CdRefIdeal.τ Cert.CdRefIdeal.sig) → Buf (Elt Ideal) ℓ) : Prop :=
  True

def Pre_Nm (m : (ℓ : Loc Cert.Nm.nD Cert.Nm.τ Cert.Nm.sig) → Buf (Elt Bits) ℓ) : Prop :=
  True

def Pre_NmIdeal (m : (ℓ : Loc Cert.NmIdeal.nD Cert.NmIdeal.τ Cert.NmIdeal.sig) → Buf (Elt Ideal) ℓ) : Prop :=
  True

def Pre_NmRefIdeal (m : (ℓ : Loc Cert.NmRefIdeal.nD Cert.NmRefIdeal.τ Cert.NmRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ab (m : (ℓ : Loc Cert.Ab.nD Cert.Ab.τ Cert.Ab.sig) → Buf (Elt Bits) ℓ) : Prop :=
  True

def Pre_AbIdeal (m : (ℓ : Loc Cert.AbIdeal.nD Cert.AbIdeal.τ Cert.AbIdeal.sig) → Buf (Elt Ideal) ℓ) : Prop :=
  True

def Pre_AbRefIdeal (m : (ℓ : Loc Cert.AbRefIdeal.nD Cert.AbRefIdeal.τ Cert.AbRefIdeal.sig) → Buf (Elt Ideal) ℓ) : Prop :=
  True

def Pre_Dsa (m : (ℓ : Loc Cert.Dsa.nD Cert.Dsa.τ Cert.Dsa.sig) → Buf (Elt Bits) ℓ) : Prop :=
  True

def Pre_DsaIdeal (m : (ℓ : Loc Cert.DsaIdeal.nD Cert.DsaIdeal.τ Cert.DsaIdeal.sig) → Buf (Elt Ideal) ℓ) : Prop :=
  True

def Pre_DsaRefIdeal (m : (ℓ : Loc Cert.DsaRefIdeal.nD Cert.DsaRefIdeal.τ Cert.DsaRefIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_GdnRefIdeal (m : (ℓ : Loc Cert.GdnRefIdeal.nD Cert.GdnRefIdeal.τ Cert.GdnRefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasIdeal_last_bucket_finite [hPre_last_bucket_finite : Cert.Pre_last_bucket_finite.Facts] (m : (ℓ : Loc Cert.BiasIdeal.nD Cert.BiasIdeal.τ Cert.BiasIdeal.sig) → Buf (Elt Ideal) ℓ) : Prop :=
  ∀ c : Dev Cert.BiasIdeal.nD,
    (Cert.Pre_last_bucket_finite.fn (F := Ideal) (m ((c.tc : Thread Cert.BiasIdeal.nD Cert.BiasIdeal.τ).loc Cert.BiasIdeal.main_arg0))) = (fun _ => 1#1)

def Pre_BiasRefIdeal (m : (ℓ : Loc Cert.BiasRefIdeal.nD Cert.BiasRefIdeal.τ Cert.BiasRefIdeal.sig) → Buf (Elt Ideal) ℓ) : Prop :=
  True

def Pre_BiasRefIdeal_last_bucket_finite [hPre_last_bucket_finite : Cert.Pre_last_bucket_finite.Facts] (m : (ℓ : Loc Cert.BiasRefIdeal.nD Cert.BiasRefIdeal.τ Cert.BiasRefIdeal.sig) → Buf (Elt Ideal) ℓ) : Prop :=
  ∀ c : Dev Cert.BiasRefIdeal.nD,
    (Cert.Pre_last_bucket_finite.fn (F := Ideal) (m ((c.tc : Thread Cert.BiasRefIdeal.nD Cert.BiasRefIdeal.τ).loc Cert.BiasRefIdeal.main_arg0))) = (fun _ => 1#1)

def quiescent_Cd [hCd : Cert.Cd.Facts] : Prop :=
  ∀ (m : (ℓ : Loc Cert.Cd.nD Cert.Cd.τ Cert.Cd.sig) → Buf (Elt Bits) ℓ) (g : Dev Cert.Cd.nD → PrngReg), Pre_Cd m →
    θ_run (Cert.Cd.defs (F := Bits)) (onTc (τ := Cert.Cd.τ) (Cert.Cd.main (F := Bits))) ⟨m, fun _ => 0, g⟩ (fun r => (∀ c : Dev Cert.Cd.nD,
      r.2.mem ((c.tc : Thread Cert.Cd.nD Cert.Cd.τ).loc Cert.Cd.main_arg0) = m ((c.tc : Thread Cert.Cd.nD Cert.Cd.τ).loc Cert.Cd.main_arg0)
      ∧ r.2.mem ((c.tc : Thread Cert.Cd.nD Cert.Cd.τ).loc Cert.Cd.main_arg1) = m ((c.tc : Thread Cert.Cd.nD Cert.Cd.τ).loc Cert.Cd.main_arg1)
      ∧ r.2.mem ((c.tc : Thread Cert.Cd.nD Cert.Cd.τ).loc Cert.Cd.main_arg2) = m ((c.tc : Thread Cert.Cd.nD Cert.Cd.τ).loc Cert.Cd.main_arg2)
      ∧ r.2.mem ((c.tc : Thread Cert.Cd.nD Cert.Cd.τ).loc Cert.Cd.main_arg3) = m ((c.tc : Thread Cert.Cd.nD Cert.Cd.τ).loc Cert.Cd.main_arg3)
      ∧ r.2.mem ((c.tc : Thread Cert.Cd.nD Cert.Cd.τ).loc Cert.Cd.main_arg4) = m ((c.tc : Thread Cert.Cd.nD Cert.Cd.τ).loc Cert.Cd.main_arg4)
      ∧ r.2.mem ((c.tc : Thread Cert.Cd.nD Cert.Cd.τ).loc Cert.Cd.main_arg5) = m ((c.tc : Thread Cert.Cd.nD Cert.Cd.τ).loc Cert.Cd.main_arg5)
      ∧ r.2.mem ((c.tc : Thread Cert.Cd.nD Cert.Cd.τ).loc Cert.Cd.main_arg6) = m ((c.tc : Thread Cert.Cd.nD Cert.Cd.τ).loc Cert.Cd.main_arg6)
      ∧ r.2.mem ((c.tc : Thread Cert.Cd.nD Cert.Cd.τ).loc Cert.Cd.main_arg7) = m ((c.tc : Thread Cert.Cd.nD Cert.Cd.τ).loc Cert.Cd.main_arg7))
      ∧ r.2.sem = fun _ => 0)

def quiescent_CdIdeal [hCdIdeal : Cert.CdIdeal.Facts] : Prop :=
  ∀ (m : (ℓ : Loc Cert.CdIdeal.nD Cert.CdIdeal.τ Cert.CdIdeal.sig) → Buf (Elt Ideal) ℓ) (g : Dev Cert.CdIdeal.nD → PrngReg), Pre_CdIdeal m →
    θ_run (Cert.CdIdeal.defs (F := Ideal)) (onTc (τ := Cert.CdIdeal.τ) (Cert.CdIdeal.main (F := Ideal))) ⟨m, fun _ => 0, g⟩ (fun r => (∀ c : Dev Cert.CdIdeal.nD,
      r.2.mem ((c.tc : Thread Cert.CdIdeal.nD Cert.CdIdeal.τ).loc Cert.CdIdeal.main_arg0) = m ((c.tc : Thread Cert.CdIdeal.nD Cert.CdIdeal.τ).loc Cert.CdIdeal.main_arg0)
      ∧ r.2.mem ((c.tc : Thread Cert.CdIdeal.nD Cert.CdIdeal.τ).loc Cert.CdIdeal.main_arg1) = m ((c.tc : Thread Cert.CdIdeal.nD Cert.CdIdeal.τ).loc Cert.CdIdeal.main_arg1)
      ∧ r.2.mem ((c.tc : Thread Cert.CdIdeal.nD Cert.CdIdeal.τ).loc Cert.CdIdeal.main_arg2) = m ((c.tc : Thread Cert.CdIdeal.nD Cert.CdIdeal.τ).loc Cert.CdIdeal.main_arg2)
      ∧ r.2.mem ((c.tc : Thread Cert.CdIdeal.nD Cert.CdIdeal.τ).loc Cert.CdIdeal.main_arg3) = m ((c.tc : Thread Cert.CdIdeal.nD Cert.CdIdeal.τ).loc Cert.CdIdeal.main_arg3)
      ∧ r.2.mem ((c.tc : Thread Cert.CdIdeal.nD Cert.CdIdeal.τ).loc Cert.CdIdeal.main_arg4) = m ((c.tc : Thread Cert.CdIdeal.nD Cert.CdIdeal.τ).loc Cert.CdIdeal.main_arg4)
      ∧ r.2.mem ((c.tc : Thread Cert.CdIdeal.nD Cert.CdIdeal.τ).loc Cert.CdIdeal.main_arg5) = m ((c.tc : Thread Cert.CdIdeal.nD Cert.CdIdeal.τ).loc Cert.CdIdeal.main_arg5)
      ∧ r.2.mem ((c.tc : Thread Cert.CdIdeal.nD Cert.CdIdeal.τ).loc Cert.CdIdeal.main_arg6) = m ((c.tc : Thread Cert.CdIdeal.nD Cert.CdIdeal.τ).loc Cert.CdIdeal.main_arg6)
      ∧ r.2.mem ((c.tc : Thread Cert.CdIdeal.nD Cert.CdIdeal.τ).loc Cert.CdIdeal.main_arg7) = m ((c.tc : Thread Cert.CdIdeal.nD Cert.CdIdeal.τ).loc Cert.CdIdeal.main_arg7))
      ∧ r.2.sem = fun _ => 0)

def quiescent_CdRefIdeal [hCdRefIdeal : Cert.CdRefIdeal.Facts] : Prop :=
  ∀ (m : (ℓ : Loc Cert.CdRefIdeal.nD Cert.CdRefIdeal.τ Cert.CdRefIdeal.sig) → Buf (Elt Ideal) ℓ) (g : Dev Cert.CdRefIdeal.nD → PrngReg), Pre_CdRefIdeal m →
    θ_run (Cert.CdRefIdeal.defs (F := Ideal)) (onTc (τ := Cert.CdRefIdeal.τ) (Cert.CdRefIdeal.main (F := Ideal))) ⟨m, fun _ => 0, g⟩ (fun r => (∀ c : Dev Cert.CdRefIdeal.nD,
      r.2.mem ((c.tc : Thread Cert.CdRefIdeal.nD Cert.CdRefIdeal.τ).loc Cert.CdRefIdeal.main_arg0) = m ((c.tc : Thread Cert.CdRefIdeal.nD Cert.CdRefIdeal.τ).loc Cert.CdRefIdeal.main_arg0)
      ∧ r.2.mem ((c.tc : Thread Cert.CdRefIdeal.nD Cert.CdRefIdeal.τ).loc Cert.CdRefIdeal.main_arg1) = m ((c.tc : Thread Cert.CdRefIdeal.nD Cert.CdRefIdeal.τ).loc Cert.CdRefIdeal.main_arg1)
      ∧ r.2.mem ((c.tc : Thread Cert.CdRefIdeal.nD Cert.CdRefIdeal.τ).loc Cert.CdRefIdeal.main_arg2) = m ((c.tc : Thread Cert.CdRefIdeal.nD Cert.CdRefIdeal.τ).loc Cert.CdRefIdeal.main_arg2)
      ∧ r.2.mem ((c.tc : Thread Cert.CdRefIdeal.nD Cert.CdRefIdeal.τ).loc Cert.CdRefIdeal.main_arg3) = m ((c.tc : Thread Cert.CdRefIdeal.nD Cert.CdRefIdeal.τ).loc Cert.CdRefIdeal.main_arg3)
      ∧ r.2.mem ((c.tc : Thread Cert.CdRefIdeal.nD Cert.CdRefIdeal.τ).loc Cert.CdRefIdeal.main_arg4) = m ((c.tc : Thread Cert.CdRefIdeal.nD Cert.CdRefIdeal.τ).loc Cert.CdRefIdeal.main_arg4)
      ∧ r.2.mem ((c.tc : Thread Cert.CdRefIdeal.nD Cert.CdRefIdeal.τ).loc Cert.CdRefIdeal.main_arg5) = m ((c.tc : Thread Cert.CdRefIdeal.nD Cert.CdRefIdeal.τ).loc Cert.CdRefIdeal.main_arg5)
      ∧ r.2.mem ((c.tc : Thread Cert.CdRefIdeal.nD Cert.CdRefIdeal.τ).loc Cert.CdRefIdeal.main_arg6) = m ((c.tc : Thread Cert.CdRefIdeal.nD Cert.CdRefIdeal.τ).loc Cert.CdRefIdeal.main_arg6)
      ∧ r.2.mem ((c.tc : Thread Cert.CdRefIdeal.nD Cert.CdRefIdeal.τ).loc Cert.CdRefIdeal.main_arg7) = m ((c.tc : Thread Cert.CdRefIdeal.nD Cert.CdRefIdeal.τ).loc Cert.CdRefIdeal.main_arg7))
      ∧ r.2.sem = fun _ => 0)

def quiescent_Nm [hNm : Cert.Nm.Facts] : Prop :=
  ∀ (m : (ℓ : Loc Cert.Nm.nD Cert.Nm.τ Cert.Nm.sig) → Buf (Elt Bits) ℓ) (g : Dev Cert.Nm.nD → PrngReg), Pre_Nm m →
    θ_run (Cert.Nm.defs (F := Bits)) (onTc (τ := Cert.Nm.τ) (Cert.Nm.main (F := Bits))) ⟨m, fun _ => 0, g⟩ (fun r => (∀ c : Dev Cert.Nm.nD,
      r.2.mem ((c.tc : Thread Cert.Nm.nD Cert.Nm.τ).loc Cert.Nm.main_arg0) = m ((c.tc : Thread Cert.Nm.nD Cert.Nm.τ).loc Cert.Nm.main_arg0)
      ∧ r.2.mem ((c.tc : Thread Cert.Nm.nD Cert.Nm.τ).loc Cert.Nm.main_arg1) = m ((c.tc : Thread Cert.Nm.nD Cert.Nm.τ).loc Cert.Nm.main_arg1)
      ∧ r.2.mem ((c.tc : Thread Cert.Nm.nD Cert.Nm.τ).loc Cert.Nm.main_arg2) = m ((c.tc : Thread Cert.Nm.nD Cert.Nm.τ).loc Cert.Nm.main_arg2))
      ∧ r.2.sem = fun _ => 0)

def quiescent_NmIdeal [hNmIdeal : Cert.NmIdeal.Facts] : Prop :=
  ∀ (m : (ℓ : Loc Cert.NmIdeal.nD Cert.NmIdeal.τ Cert.NmIdeal.sig) → Buf (Elt Ideal) ℓ) (g : Dev Cert.NmIdeal.nD → PrngReg), Pre_NmIdeal m →
    θ_run (Cert.NmIdeal.defs (F := Ideal)) (onTc (τ := Cert.NmIdeal.τ) (Cert.NmIdeal.main (F := Ideal))) ⟨m, fun _ => 0, g⟩ (fun r => (∀ c : Dev Cert.NmIdeal.nD,
      r.2.mem ((c.tc : Thread Cert.NmIdeal.nD Cert.NmIdeal.τ).loc Cert.NmIdeal.main_arg0) = m ((c.tc : Thread Cert.NmIdeal.nD Cert.NmIdeal.τ).loc Cert.NmIdeal.main_arg0)
      ∧ r.2.mem ((c.tc : Thread Cert.NmIdeal.nD Cert.NmIdeal.τ).loc Cert.NmIdeal.main_arg1) = m ((c.tc : Thread Cert.NmIdeal.nD Cert.NmIdeal.τ).loc Cert.NmIdeal.main_arg1)
      ∧ r.2.mem ((c.tc : Thread Cert.NmIdeal.nD Cert.NmIdeal.τ).loc Cert.NmIdeal.main_arg2) = m ((c.tc : Thread Cert.NmIdeal.nD Cert.NmIdeal.τ).loc Cert.NmIdeal.main_arg2))
      ∧ r.2.sem = fun _ => 0)

def quiescent_NmRefIdeal [hNmRefIdeal : Cert.NmRefIdeal.Facts] : Prop :=
  ∀ (m : (ℓ : Loc Cert.NmRefIdeal.nD Cert.NmRefIdeal.τ Cert.NmRefIdeal.sig) → Buf (Elt Ideal) ℓ) (g : Dev Cert.NmRefIdeal.nD → PrngReg), Pre_NmRefIdeal m →
    θ_run (Cert.NmRefIdeal.defs (F := Ideal)) (onTc (τ := Cert.NmRefIdeal.τ) (Cert.NmRefIdeal.main (F := Ideal))) ⟨m, fun _ => 0, g⟩ (fun r => (∀ c : Dev Cert.NmRefIdeal.nD,
      r.2.mem ((c.tc : Thread Cert.NmRefIdeal.nD Cert.NmRefIdeal.τ).loc Cert.NmRefIdeal.main_arg0) = m ((c.tc : Thread Cert.NmRefIdeal.nD Cert.NmRefIdeal.τ).loc Cert.NmRefIdeal.main_arg0)
      ∧ r.2.mem ((c.tc : Thread Cert.NmRefIdeal.nD Cert.NmRefIdeal.τ).loc Cert.NmRefIdeal.main_arg1) = m ((c.tc : Thread Cert.NmRefIdeal.nD Cert.NmRefIdeal.τ).loc Cert.NmRefIdeal.main_arg1)
      ∧ r.2.mem ((c.tc : Thread Cert.NmRefIdeal.nD Cert.NmRefIdeal.τ).loc Cert.NmRefIdeal.main_arg2) = m ((c.tc : Thread Cert.NmRefIdeal.nD Cert.NmRefIdeal.τ).loc Cert.NmRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Ab [hAb : Cert.Ab.Facts] : Prop :=
  ∀ (m : (ℓ : Loc Cert.Ab.nD Cert.Ab.τ Cert.Ab.sig) → Buf (Elt Bits) ℓ) (g : Dev Cert.Ab.nD → PrngReg), Pre_Ab m →
    θ_run (Cert.Ab.defs (F := Bits)) (onTc (τ := Cert.Ab.τ) (Cert.Ab.main (F := Bits))) ⟨m, fun _ => 0, g⟩ (fun r => (∀ c : Dev Cert.Ab.nD,
      r.2.mem ((c.tc : Thread Cert.Ab.nD Cert.Ab.τ).loc Cert.Ab.main_arg0) = m ((c.tc : Thread Cert.Ab.nD Cert.Ab.τ).loc Cert.Ab.main_arg0)
      ∧ r.2.mem ((c.tc : Thread Cert.Ab.nD Cert.Ab.τ).loc Cert.Ab.main_arg1) = m ((c.tc : Thread Cert.Ab.nD Cert.Ab.τ).loc Cert.Ab.main_arg1)
      ∧ r.2.mem ((c.tc : Thread Cert.Ab.nD Cert.Ab.τ).loc Cert.Ab.main_arg2) = m ((c.tc : Thread Cert.Ab.nD Cert.Ab.τ).loc Cert.Ab.main_arg2))
      ∧ r.2.sem = fun _ => 0)

def quiescent_AbIdeal [hAbIdeal : Cert.AbIdeal.Facts] : Prop :=
  ∀ (m : (ℓ : Loc Cert.AbIdeal.nD Cert.AbIdeal.τ Cert.AbIdeal.sig) → Buf (Elt Ideal) ℓ) (g : Dev Cert.AbIdeal.nD → PrngReg), Pre_AbIdeal m →
    θ_run (Cert.AbIdeal.defs (F := Ideal)) (onTc (τ := Cert.AbIdeal.τ) (Cert.AbIdeal.main (F := Ideal))) ⟨m, fun _ => 0, g⟩ (fun r => (∀ c : Dev Cert.AbIdeal.nD,
      r.2.mem ((c.tc : Thread Cert.AbIdeal.nD Cert.AbIdeal.τ).loc Cert.AbIdeal.main_arg0) = m ((c.tc : Thread Cert.AbIdeal.nD Cert.AbIdeal.τ).loc Cert.AbIdeal.main_arg0)
      ∧ r.2.mem ((c.tc : Thread Cert.AbIdeal.nD Cert.AbIdeal.τ).loc Cert.AbIdeal.main_arg1) = m ((c.tc : Thread Cert.AbIdeal.nD Cert.AbIdeal.τ).loc Cert.AbIdeal.main_arg1)
      ∧ r.2.mem ((c.tc : Thread Cert.AbIdeal.nD Cert.AbIdeal.τ).loc Cert.AbIdeal.main_arg2) = m ((c.tc : Thread Cert.AbIdeal.nD Cert.AbIdeal.τ).loc Cert.AbIdeal.main_arg2))
      ∧ r.2.sem = fun _ => 0)

def quiescent_AbRefIdeal [hAbRefIdeal : Cert.AbRefIdeal.Facts] : Prop :=
  ∀ (m : (ℓ : Loc Cert.AbRefIdeal.nD Cert.AbRefIdeal.τ Cert.AbRefIdeal.sig) → Buf (Elt Ideal) ℓ) (g : Dev Cert.AbRefIdeal.nD → PrngReg), Pre_AbRefIdeal m →
    θ_run (Cert.AbRefIdeal.defs (F := Ideal)) (onTc (τ := Cert.AbRefIdeal.τ) (Cert.AbRefIdeal.main (F := Ideal))) ⟨m, fun _ => 0, g⟩ (fun r => (∀ c : Dev Cert.AbRefIdeal.nD,
      r.2.mem ((c.tc : Thread Cert.AbRefIdeal.nD Cert.AbRefIdeal.τ).loc Cert.AbRefIdeal.main_arg0) = m ((c.tc : Thread Cert.AbRefIdeal.nD Cert.AbRefIdeal.τ).loc Cert.AbRefIdeal.main_arg0)
      ∧ r.2.mem ((c.tc : Thread Cert.AbRefIdeal.nD Cert.AbRefIdeal.τ).loc Cert.AbRefIdeal.main_arg1) = m ((c.tc : Thread Cert.AbRefIdeal.nD Cert.AbRefIdeal.τ).loc Cert.AbRefIdeal.main_arg1)
      ∧ r.2.mem ((c.tc : Thread Cert.AbRefIdeal.nD Cert.AbRefIdeal.τ).loc Cert.AbRefIdeal.main_arg2) = m ((c.tc : Thread Cert.AbRefIdeal.nD Cert.AbRefIdeal.τ).loc Cert.AbRefIdeal.main_arg2))
      ∧ r.2.sem = fun _ => 0)

def quiescent_Dsa [hDsa : Cert.Dsa.Facts] : Prop :=
  ∀ (m : (ℓ : Loc Cert.Dsa.nD Cert.Dsa.τ Cert.Dsa.sig) → Buf (Elt Bits) ℓ) (g : Dev Cert.Dsa.nD → PrngReg), Pre_Dsa m →
    θ_run (Cert.Dsa.defs (F := Bits)) (onTc (τ := Cert.Dsa.τ) (Cert.Dsa.main (F := Bits))) ⟨m, fun _ => 0, g⟩ (fun r => (∀ c : Dev Cert.Dsa.nD,
      r.2.mem ((c.tc : Thread Cert.Dsa.nD Cert.Dsa.τ).loc Cert.Dsa.main_arg0) = m ((c.tc : Thread Cert.Dsa.nD Cert.Dsa.τ).loc Cert.Dsa.main_arg0)
      ∧ r.2.mem ((c.tc : Thread Cert.Dsa.nD Cert.Dsa.τ).loc Cert.Dsa.main_arg1) = m ((c.tc : Thread Cert.Dsa.nD Cert.Dsa.τ).loc Cert.Dsa.main_arg1)
      ∧ r.2.mem ((c.tc : Thread Cert.Dsa.nD Cert.Dsa.τ).loc Cert.Dsa.main_arg2) = m ((c.tc : Thread Cert.Dsa.nD Cert.Dsa.τ).loc Cert.Dsa.main_arg2)
      ∧ r.2.mem ((c.tc : Thread Cert.Dsa.nD Cert.Dsa.τ).loc Cert.Dsa.main_arg3) = m ((c.tc : Thread Cert.Dsa.nD Cert.Dsa.τ).loc Cert.Dsa.main_arg3)
      ∧ r.2.mem ((c.tc : Thread Cert.Dsa.nD Cert.Dsa.τ).loc Cert.Dsa.main_arg4) = m ((c.tc : Thread Cert.Dsa.nD Cert.Dsa.τ).loc Cert.Dsa.main_arg4)
      ∧ r.2.mem ((c.tc : Thread Cert.Dsa.nD Cert.Dsa.τ).loc Cert.Dsa.main_arg5) = m ((c.tc : Thread Cert.Dsa.nD Cert.Dsa.τ).loc Cert.Dsa.main_arg5)
      ∧ r.2.mem ((c.tc : Thread Cert.Dsa.nD Cert.Dsa.τ).loc Cert.Dsa.main_arg6) = m ((c.tc : Thread Cert.Dsa.nD Cert.Dsa.τ).loc Cert.Dsa.main_arg6)
      ∧ r.2.mem ((c.tc : Thread Cert.Dsa.nD Cert.Dsa.τ).loc Cert.Dsa.main_arg7) = m ((c.tc : Thread Cert.Dsa.nD Cert.Dsa.τ).loc Cert.Dsa.main_arg7)
      ∧ r.2.mem ((c.tc : Thread Cert.Dsa.nD Cert.Dsa.τ).loc Cert.Dsa.main_arg8) = m ((c.tc : Thread Cert.Dsa.nD Cert.Dsa.τ).loc Cert.Dsa.main_arg8)
      ∧ r.2.mem ((c.tc : Thread Cert.Dsa.nD Cert.Dsa.τ).loc Cert.Dsa.main_arg9) = m ((c.tc : Thread Cert.Dsa.nD Cert.Dsa.τ).loc Cert.Dsa.main_arg9)
      ∧ r.2.mem ((c.tc : Thread Cert.Dsa.nD Cert.Dsa.τ).loc Cert.Dsa.main_arg10) = m ((c.tc : Thread Cert.Dsa.nD Cert.Dsa.τ).loc Cert.Dsa.main_arg10)
      ∧ r.2.mem ((c.tc : Thread Cert.Dsa.nD Cert.Dsa.τ).loc Cert.Dsa.main_arg11) = m ((c.tc : Thread Cert.Dsa.nD Cert.Dsa.τ).loc Cert.Dsa.main_arg11))
      ∧ r.2.sem = fun _ => 0)

def quiescent_DsaIdeal [hDsaIdeal : Cert.DsaIdeal.Facts] : Prop :=
  ∀ (m : (ℓ : Loc Cert.DsaIdeal.nD Cert.DsaIdeal.τ Cert.DsaIdeal.sig) → Buf (Elt Ideal) ℓ) (g : Dev Cert.DsaIdeal.nD → PrngReg), Pre_DsaIdeal m →
    θ_run (Cert.DsaIdeal.defs (F := Ideal)) (onTc (τ := Cert.DsaIdeal.τ) (Cert.DsaIdeal.main (F := Ideal))) ⟨m, fun _ => 0, g⟩ (fun r => (∀ c : Dev Cert.DsaIdeal.nD,
      r.2.mem ((c.tc : Thread Cert.DsaIdeal.nD Cert.DsaIdeal.τ).loc Cert.DsaIdeal.main_arg0) = m ((c.tc : Thread Cert.DsaIdeal.nD Cert.DsaIdeal.τ).loc Cert.DsaIdeal.main_arg0)
      ∧ r.2.mem ((c.tc : Thread Cert.DsaIdeal.nD Cert.DsaIdeal.τ).loc Cert.DsaIdeal.main_arg1) = m ((c.tc : Thread Cert.DsaIdeal.nD Cert.DsaIdeal.τ).loc Cert.DsaIdeal.main_arg1)
      ∧ r.2.mem ((c.tc : Thread Cert.DsaIdeal.nD Cert.DsaIdeal.τ).loc Cert.DsaIdeal.main_arg2) = m ((c.tc : Thread Cert.DsaIdeal.nD Cert.DsaIdeal.τ).loc Cert.DsaIdeal.main_arg2)
      ∧ r.2.mem ((c.tc : Thread Cert.DsaIdeal.nD Cert.DsaIdeal.τ).loc Cert.DsaIdeal.main_arg3) = m ((c.tc : Thread Cert.DsaIdeal.nD Cert.DsaIdeal.τ).loc Cert.DsaIdeal.main_arg3)
      ∧ r.2.mem ((c.tc : Thread Cert.DsaIdeal.nD Cert.DsaIdeal.τ).loc Cert.DsaIdeal.main_arg4) = m ((c.tc : Thread Cert.DsaIdeal.nD Cert.DsaIdeal.τ).loc Cert.DsaIdeal.main_arg4)
      ∧ r.2.mem ((c.tc : Thread Cert.DsaIdeal.nD Cert.DsaIdeal.τ).loc Cert.DsaIdeal.main_arg5) = m ((c.tc : Thread Cert.DsaIdeal.nD Cert.DsaIdeal.τ).loc Cert.DsaIdeal.main_arg5)
      ∧ r.2.mem ((c.tc : Thread Cert.DsaIdeal.nD Cert.DsaIdeal.τ).loc Cert.DsaIdeal.main_arg6) = m ((c.tc : Thread Cert.DsaIdeal.nD Cert.DsaIdeal.τ).loc Cert.DsaIdeal.main_arg6)
      ∧ r.2.mem ((c.tc : Thread Cert.DsaIdeal.nD Cert.DsaIdeal.τ).loc Cert.DsaIdeal.main_arg7) = m ((c.tc : Thread Cert.DsaIdeal.nD Cert.DsaIdeal.τ).loc Cert.DsaIdeal.main_arg7)
      ∧ r.2.mem ((c.tc : Thread Cert.DsaIdeal.nD Cert.DsaIdeal.τ).loc Cert.DsaIdeal.main_arg8) = m ((c.tc : Thread Cert.DsaIdeal.nD Cert.DsaIdeal.τ).loc Cert.DsaIdeal.main_arg8)
      ∧ r.2.mem ((c.tc : Thread Cert.DsaIdeal.nD Cert.DsaIdeal.τ).loc Cert.DsaIdeal.main_arg9) = m ((c.tc : Thread Cert.DsaIdeal.nD Cert.DsaIdeal.τ).loc Cert.DsaIdeal.main_arg9)
      ∧ r.2.mem ((c.tc : Thread Cert.DsaIdeal.nD Cert.DsaIdeal.τ).loc Cert.DsaIdeal.main_arg10) = m ((c.tc : Thread Cert.DsaIdeal.nD Cert.DsaIdeal.τ).loc Cert.DsaIdeal.main_arg10)
      ∧ r.2.mem ((c.tc : Thread Cert.DsaIdeal.nD Cert.DsaIdeal.τ).loc Cert.DsaIdeal.main_arg11) = m ((c.tc : Thread Cert.DsaIdeal.nD Cert.DsaIdeal.τ).loc Cert.DsaIdeal.main_arg11))
      ∧ r.2.sem = fun _ => 0)

def quiescent_DsaRefIdeal [hDsaRefIdeal : Cert.DsaRefIdeal.Facts] : Prop :=
  ∀ (m : (ℓ : Loc Cert.DsaRefIdeal.nD Cert.DsaRefIdeal.τ Cert.DsaRefIdeal.sig) → Buf (Elt Ideal) ℓ) (g : Dev Cert.DsaRefIdeal.nD → PrngReg), Pre_DsaRefIdeal m →
    θ_run (Cert.DsaRefIdeal.defs (F := Ideal)) (onTc (τ := Cert.DsaRefIdeal.τ) (Cert.DsaRefIdeal.main (F := Ideal))) ⟨m, fun _ => 0, g⟩ (fun r => (∀ c : Dev Cert.DsaRefIdeal.nD,
      r.2.mem ((c.tc : Thread Cert.DsaRefIdeal.nD Cert.DsaRefIdeal.τ).loc Cert.DsaRefIdeal.main_arg0) = m ((c.tc : Thread Cert.DsaRefIdeal.nD Cert.DsaRefIdeal.τ).loc Cert.DsaRefIdeal.main_arg0)
      ∧ r.2.mem ((c.tc : Thread Cert.DsaRefIdeal.nD Cert.DsaRefIdeal.τ).loc Cert.DsaRefIdeal.main_arg1) = m ((c.tc : Thread Cert.DsaRefIdeal.nD Cert.DsaRefIdeal.τ).loc Cert.DsaRefIdeal.main_arg1)
      ∧ r.2.mem ((c.tc : Thread Cert.DsaRefIdeal.nD Cert.DsaRefIdeal.τ).loc Cert.DsaRefIdeal.main_arg2) = m ((c.tc : Thread Cert.DsaRefIdeal.nD Cert.DsaRefIdeal.τ).loc Cert.DsaRefIdeal.main_arg2)
      ∧ r.2.mem ((c.tc : Thread Cert.DsaRefIdeal.nD Cert.DsaRefIdeal.τ).loc Cert.DsaRefIdeal.main_arg3) = m ((c.tc : Thread Cert.DsaRefIdeal.nD Cert.DsaRefIdeal.τ).loc Cert.DsaRefIdeal.main_arg3)
      ∧ r.2.mem ((c.tc : Thread Cert.DsaRefIdeal.nD Cert.DsaRefIdeal.τ).loc Cert.DsaRefIdeal.main_arg4) = m ((c.tc : Thread Cert.DsaRefIdeal.nD Cert.DsaRefIdeal.τ).loc Cert.DsaRefIdeal.main_arg4)
      ∧ r.2.mem ((c.tc : Thread Cert.DsaRefIdeal.nD Cert.DsaRefIdeal.τ).loc Cert.DsaRefIdeal.main_arg5) = m ((c.tc : Thread Cert.DsaRefIdeal.nD Cert.DsaRefIdeal.τ).loc Cert.DsaRefIdeal.main_arg5)
      ∧ r.2.mem ((c.tc : Thread Cert.DsaRefIdeal.nD Cert.DsaRefIdeal.τ).loc Cert.DsaRefIdeal.main_arg6) = m ((c.tc : Thread Cert.DsaRefIdeal.nD Cert.DsaRefIdeal.τ).loc Cert.DsaRefIdeal.main_arg6)
      ∧ r.2.mem ((c.tc : Thread Cert.DsaRefIdeal.nD Cert.DsaRefIdeal.τ).loc Cert.DsaRefIdeal.main_arg7) = m ((c.tc : Thread Cert.DsaRefIdeal.nD Cert.DsaRefIdeal.τ).loc Cert.DsaRefIdeal.main_arg7)
      ∧ r.2.mem ((c.tc : Thread Cert.DsaRefIdeal.nD Cert.DsaRefIdeal.τ).loc Cert.DsaRefIdeal.main_arg8) = m ((c.tc : Thread Cert.DsaRefIdeal.nD Cert.DsaRefIdeal.τ).loc Cert.DsaRefIdeal.main_arg8)
      ∧ r.2.mem ((c.tc : Thread Cert.DsaRefIdeal.nD Cert.DsaRefIdeal.τ).loc Cert.DsaRefIdeal.main_arg9) = m ((c.tc : Thread Cert.DsaRefIdeal.nD Cert.DsaRefIdeal.τ).loc Cert.DsaRefIdeal.main_arg9)
      ∧ r.2.mem ((c.tc : Thread Cert.DsaRefIdeal.nD Cert.DsaRefIdeal.τ).loc Cert.DsaRefIdeal.main_arg10) = m ((c.tc : Thread Cert.DsaRefIdeal.nD Cert.DsaRefIdeal.τ).loc Cert.DsaRefIdeal.main_arg10)
      ∧ r.2.mem ((c.tc : Thread Cert.DsaRefIdeal.nD Cert.DsaRefIdeal.τ).loc Cert.DsaRefIdeal.main_arg11) = m ((c.tc : Thread Cert.DsaRefIdeal.nD Cert.DsaRefIdeal.τ).loc Cert.DsaRefIdeal.main_arg11))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4))
      ∧ r.2.sem = fun _ => 0)

def quiescent_GdnRefIdeal [hGdnRefIdeal : Cert.GdnRefIdeal.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2)
      ∧ r.2.mem ((c.tc : Thread Cert.GdnRefIdeal.nD Cert.GdnRefIdeal.τ).loc Cert.GdnRefIdeal.main_arg3) = m ((c.tc : Thread Cert.GdnRefIdeal.nD Cert.GdnRefIdeal.τ).loc Cert.GdnRefIdeal.main_arg3)
      ∧ r.2.mem ((c.tc : Thread Cert.GdnRefIdeal.nD Cert.GdnRefIdeal.τ).loc Cert.GdnRefIdeal.main_arg4) = m ((c.tc : Thread Cert.GdnRefIdeal.nD Cert.GdnRefIdeal.τ).loc Cert.GdnRefIdeal.main_arg4))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasIdeal_pre_last_bucket_finite [hBiasIdeal : Cert.BiasIdeal.Facts] [hPre_last_bucket_finite : Cert.Pre_last_bucket_finite.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal_last_bucket_finite m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def quiescent_BiasRefIdeal_pre_last_bucket_finite [hBiasRefIdeal : Cert.BiasRefIdeal.Facts] [hPre_last_bucket_finite : Cert.Pre_last_bucket_finite.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal_last_bucket_finite m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def preserves_Cd_CdIdeal : Prop :=
  True

def algebraic_CdIdeal_CdRefIdeal [hCdIdeal : Cert.CdIdeal.Facts] [hCdRefIdeal : Cert.CdRefIdeal.Facts] : Prop :=
  ∀ (m : (ℓ : Loc Cert.CdIdeal.nD Cert.CdIdeal.τ Cert.CdIdeal.sig) → Buf (Elt Ideal) ℓ) (g : Dev Cert.CdIdeal.nD → PrngReg)
    (m' : (ℓ : Loc Cert.CdRefIdeal.nD Cert.CdRefIdeal.τ Cert.CdRefIdeal.sig) → Buf (Elt Ideal) ℓ) (g' : Dev Cert.CdRefIdeal.nD → PrngReg), Pre_CdIdeal m →
    (∀ c : Dev Cert.CdIdeal.nD,
      m' ((c.tc : Thread Cert.CdRefIdeal.nD Cert.CdRefIdeal.τ).loc Cert.CdRefIdeal.main_arg0) = m ((c.tc : Thread Cert.CdIdeal.nD Cert.CdIdeal.τ).loc Cert.CdIdeal.main_arg0)
      ∧ m' ((c.tc : Thread Cert.CdRefIdeal.nD Cert.CdRefIdeal.τ).loc Cert.CdRefIdeal.main_arg1) = m ((c.tc : Thread Cert.CdIdeal.nD Cert.CdIdeal.τ).loc Cert.CdIdeal.main_arg1)
      ∧ m' ((c.tc : Thread Cert.CdRefIdeal.nD Cert.CdRefIdeal.τ).loc Cert.CdRefIdeal.main_arg2) = m ((c.tc : Thread Cert.CdIdeal.nD Cert.CdIdeal.τ).loc Cert.CdIdeal.main_arg2)
      ∧ m' ((c.tc : Thread Cert.CdRefIdeal.nD Cert.CdRefIdeal.τ).loc Cert.CdRefIdeal.main_arg3) = m ((c.tc : Thread Cert.CdIdeal.nD Cert.CdIdeal.τ).loc Cert.CdIdeal.main_arg3)
      ∧ m' ((c.tc : Thread Cert.CdRefIdeal.nD Cert.CdRefIdeal.τ).loc Cert.CdRefIdeal.main_arg4) = m ((c.tc : Thread Cert.CdIdeal.nD Cert.CdIdeal.τ).loc Cert.CdIdeal.main_arg4)
      ∧ m' ((c.tc : Thread Cert.CdRefIdeal.nD Cert.CdRefIdeal.τ).loc Cert.CdRefIdeal.main_arg5) = m ((c.tc : Thread Cert.CdIdeal.nD Cert.CdIdeal.τ).loc Cert.CdIdeal.main_arg5)
      ∧ m' ((c.tc : Thread Cert.CdRefIdeal.nD Cert.CdRefIdeal.τ).loc Cert.CdRefIdeal.main_arg6) = m ((c.tc : Thread Cert.CdIdeal.nD Cert.CdIdeal.τ).loc Cert.CdIdeal.main_arg6)
      ∧ m' ((c.tc : Thread Cert.CdRefIdeal.nD Cert.CdRefIdeal.τ).loc Cert.CdRefIdeal.main_arg7) = m ((c.tc : Thread Cert.CdIdeal.nD Cert.CdIdeal.τ).loc Cert.CdIdeal.main_arg7)) →
    ∃ (v0 : (c : Dev Cert.CdIdeal.nD) → Buf (Elt Ideal) ((c.tc : Thread Cert.CdIdeal.nD Cert.CdIdeal.τ).loc Cert.CdIdeal.main_v4)),
      θ_run (Cert.CdIdeal.defs (F := Ideal)) (onTc (τ := Cert.CdIdeal.τ) (Cert.CdIdeal.main (F := Ideal))) ⟨m, fun _ => 0, g⟩ (fun r => ∀ c : Dev Cert.CdIdeal.nD,
          r.2.mem ((c.tc : Thread Cert.CdIdeal.nD Cert.CdIdeal.τ).loc Cert.CdIdeal.main_v4) = v0 c
          ∧ r.2.mem ((c.tc : Thread Cert.CdIdeal.nD Cert.CdIdeal.τ).loc Cert.CdIdeal.main_arg0) = m ((c.tc : Thread Cert.CdIdeal.nD Cert.CdIdeal.τ).loc Cert.CdIdeal.main_arg0)
          ∧ r.2.mem ((c.tc : Thread Cert.CdIdeal.nD Cert.CdIdeal.τ).loc Cert.CdIdeal.main_arg1) = m ((c.tc : Thread Cert.CdIdeal.nD Cert.CdIdeal.τ).loc Cert.CdIdeal.main_arg1)
          ∧ r.2.mem ((c.tc : Thread Cert.CdIdeal.nD Cert.CdIdeal.τ).loc Cert.CdIdeal.main_arg2) = m ((c.tc : Thread Cert.CdIdeal.nD Cert.CdIdeal.τ).loc Cert.CdIdeal.main_arg2)
          ∧ r.2.mem ((c.tc : Thread Cert.CdIdeal.nD Cert.CdIdeal.τ).loc Cert.CdIdeal.main_arg3) = m ((c.tc : Thread Cert.CdIdeal.nD Cert.CdIdeal.τ).loc Cert.CdIdeal.main_arg3)
          ∧ r.2.mem ((c.tc : Thread Cert.CdIdeal.nD Cert.CdIdeal.τ).loc Cert.CdIdeal.main_arg4) = m ((c.tc : Thread Cert.CdIdeal.nD Cert.CdIdeal.τ).loc Cert.CdIdeal.main_arg4)
          ∧ r.2.mem ((c.tc : Thread Cert.CdIdeal.nD Cert.CdIdeal.τ).loc Cert.CdIdeal.main_arg5) = m ((c.tc : Thread Cert.CdIdeal.nD Cert.CdIdeal.τ).loc Cert.CdIdeal.main_arg5)
          ∧ r.2.mem ((c.tc : Thread Cert.CdIdeal.nD Cert.CdIdeal.τ).loc Cert.CdIdeal.main_arg6) = m ((c.tc : Thread Cert.CdIdeal.nD Cert.CdIdeal.τ).loc Cert.CdIdeal.main_arg6)
          ∧ r.2.mem ((c.tc : Thread Cert.CdIdeal.nD Cert.CdIdeal.τ).loc Cert.CdIdeal.main_arg7) = m ((c.tc : Thread Cert.CdIdeal.nD Cert.CdIdeal.τ).loc Cert.CdIdeal.main_arg7))
      ∧ θ_run (Cert.CdRefIdeal.defs (F := Ideal)) (onTc (τ := Cert.CdRefIdeal.τ) (Cert.CdRefIdeal.main (F := Ideal))) ⟨m', fun _ => 0, g'⟩ (fun r => ∀ c : Dev Cert.CdRefIdeal.nD,
          r.2.mem ((c.tc : Thread Cert.CdRefIdeal.nD Cert.CdRefIdeal.τ).loc Cert.CdRefIdeal.main_v293) = v0 c
          ∧ r.2.mem ((c.tc : Thread Cert.CdRefIdeal.nD Cert.CdRefIdeal.τ).loc Cert.CdRefIdeal.main_arg0) = m' ((c.tc : Thread Cert.CdRefIdeal.nD Cert.CdRefIdeal.τ).loc Cert.CdRefIdeal.main_arg0)
          ∧ r.2.mem ((c.tc : Thread Cert.CdRefIdeal.nD Cert.CdRefIdeal.τ).loc Cert.CdRefIdeal.main_arg1) = m' ((c.tc : Thread Cert.CdRefIdeal.nD Cert.CdRefIdeal.τ).loc Cert.CdRefIdeal.main_arg1)
          ∧ r.2.mem ((c.tc : Thread Cert.CdRefIdeal.nD Cert.CdRefIdeal.τ).loc Cert.CdRefIdeal.main_arg2) = m' ((c.tc : Thread Cert.CdRefIdeal.nD Cert.CdRefIdeal.τ).loc Cert.CdRefIdeal.main_arg2)
          ∧ r.2.mem ((c.tc : Thread Cert.CdRefIdeal.nD Cert.CdRefIdeal.τ).loc Cert.CdRefIdeal.main_arg3) = m' ((c.tc : Thread Cert.CdRefIdeal.nD Cert.CdRefIdeal.τ).loc Cert.CdRefIdeal.main_arg3)
          ∧ r.2.mem ((c.tc : Thread Cert.CdRefIdeal.nD Cert.CdRefIdeal.τ).loc Cert.CdRefIdeal.main_arg4) = m' ((c.tc : Thread Cert.CdRefIdeal.nD Cert.CdRefIdeal.τ).loc Cert.CdRefIdeal.main_arg4)
          ∧ r.2.mem ((c.tc : Thread Cert.CdRefIdeal.nD Cert.CdRefIdeal.τ).loc Cert.CdRefIdeal.main_arg5) = m' ((c.tc : Thread Cert.CdRefIdeal.nD Cert.CdRefIdeal.τ).loc Cert.CdRefIdeal.main_arg5)
          ∧ r.2.mem ((c.tc : Thread Cert.CdRefIdeal.nD Cert.CdRefIdeal.τ).loc Cert.CdRefIdeal.main_arg6) = m' ((c.tc : Thread Cert.CdRefIdeal.nD Cert.CdRefIdeal.τ).loc Cert.CdRefIdeal.main_arg6)
          ∧ r.2.mem ((c.tc : Thread Cert.CdRefIdeal.nD Cert.CdRefIdeal.τ).loc Cert.CdRefIdeal.main_arg7) = m' ((c.tc : Thread Cert.CdRefIdeal.nD Cert.CdRefIdeal.τ).loc Cert.CdRefIdeal.main_arg7))

def preserves_Nm_NmIdeal : Prop :=
  True

def algebraic_NmIdeal_NmRefIdeal [hNmIdeal : Cert.NmIdeal.Facts] [hNmRefIdeal : Cert.NmRefIdeal.Facts] : Prop :=
  ∀ (m : (ℓ : Loc Cert.NmIdeal.nD Cert.NmIdeal.τ Cert.NmIdeal.sig) → Buf (Elt Ideal) ℓ) (g : Dev Cert.NmIdeal.nD → PrngReg)
    (m' : (ℓ : Loc Cert.NmRefIdeal.nD Cert.NmRefIdeal.τ Cert.NmRefIdeal.sig) → Buf (Elt Ideal) ℓ) (g' : Dev Cert.NmRefIdeal.nD → PrngReg), Pre_NmIdeal m →
    (∀ c : Dev Cert.NmIdeal.nD,
      m' ((c.tc : Thread Cert.NmRefIdeal.nD Cert.NmRefIdeal.τ).loc Cert.NmRefIdeal.main_arg0) = m ((c.tc : Thread Cert.NmIdeal.nD Cert.NmIdeal.τ).loc Cert.NmIdeal.main_arg0)
      ∧ m' ((c.tc : Thread Cert.NmRefIdeal.nD Cert.NmRefIdeal.τ).loc Cert.NmRefIdeal.main_arg1) = m ((c.tc : Thread Cert.NmIdeal.nD Cert.NmIdeal.τ).loc Cert.NmIdeal.main_arg1)
      ∧ m' ((c.tc : Thread Cert.NmRefIdeal.nD Cert.NmRefIdeal.τ).loc Cert.NmRefIdeal.main_arg2) = m ((c.tc : Thread Cert.NmIdeal.nD Cert.NmIdeal.τ).loc Cert.NmIdeal.main_arg2)) →
    ∃ (v0 : (c : Dev Cert.NmIdeal.nD) → Buf (Elt Ideal) ((c.tc : Thread Cert.NmIdeal.nD Cert.NmIdeal.τ).loc Cert.NmIdeal.main_v2)),
      θ_run (Cert.NmIdeal.defs (F := Ideal)) (onTc (τ := Cert.NmIdeal.τ) (Cert.NmIdeal.main (F := Ideal))) ⟨m, fun _ => 0, g⟩ (fun r => ∀ c : Dev Cert.NmIdeal.nD,
          r.2.mem ((c.tc : Thread Cert.NmIdeal.nD Cert.NmIdeal.τ).loc Cert.NmIdeal.main_v2) = v0 c
          ∧ r.2.mem ((c.tc : Thread Cert.NmIdeal.nD Cert.NmIdeal.τ).loc Cert.NmIdeal.main_arg0) = m ((c.tc : Thread Cert.NmIdeal.nD Cert.NmIdeal.τ).loc Cert.NmIdeal.main_arg0)
          ∧ r.2.mem ((c.tc : Thread Cert.NmIdeal.nD Cert.NmIdeal.τ).loc Cert.NmIdeal.main_arg1) = m ((c.tc : Thread Cert.NmIdeal.nD Cert.NmIdeal.τ).loc Cert.NmIdeal.main_arg1)
          ∧ r.2.mem ((c.tc : Thread Cert.NmIdeal.nD Cert.NmIdeal.τ).loc Cert.NmIdeal.main_arg2) = m ((c.tc : Thread Cert.NmIdeal.nD Cert.NmIdeal.τ).loc Cert.NmIdeal.main_arg2))
      ∧ θ_run (Cert.NmRefIdeal.defs (F := Ideal)) (onTc (τ := Cert.NmRefIdeal.τ) (Cert.NmRefIdeal.main (F := Ideal))) ⟨m', fun _ => 0, g'⟩ (fun r => ∀ c : Dev Cert.NmRefIdeal.nD,
          r.2.mem ((c.tc : Thread Cert.NmRefIdeal.nD Cert.NmRefIdeal.τ).loc Cert.NmRefIdeal.main_v14) = v0 c
          ∧ r.2.mem ((c.tc : Thread Cert.NmRefIdeal.nD Cert.NmRefIdeal.τ).loc Cert.NmRefIdeal.main_arg0) = m' ((c.tc : Thread Cert.NmRefIdeal.nD Cert.NmRefIdeal.τ).loc Cert.NmRefIdeal.main_arg0)
          ∧ r.2.mem ((c.tc : Thread Cert.NmRefIdeal.nD Cert.NmRefIdeal.τ).loc Cert.NmRefIdeal.main_arg1) = m' ((c.tc : Thread Cert.NmRefIdeal.nD Cert.NmRefIdeal.τ).loc Cert.NmRefIdeal.main_arg1)
          ∧ r.2.mem ((c.tc : Thread Cert.NmRefIdeal.nD Cert.NmRefIdeal.τ).loc Cert.NmRefIdeal.main_arg2) = m' ((c.tc : Thread Cert.NmRefIdeal.nD Cert.NmRefIdeal.τ).loc Cert.NmRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Ab_AbIdeal : Prop :=
  True

def algebraic_AbIdeal_AbRefIdeal [hAbIdeal : Cert.AbIdeal.Facts] [hAbRefIdeal : Cert.AbRefIdeal.Facts] : Prop :=
  ∀ (m : (ℓ : Loc Cert.AbIdeal.nD Cert.AbIdeal.τ Cert.AbIdeal.sig) → Buf (Elt Ideal) ℓ) (g : Dev Cert.AbIdeal.nD → PrngReg)
    (m' : (ℓ : Loc Cert.AbRefIdeal.nD Cert.AbRefIdeal.τ Cert.AbRefIdeal.sig) → Buf (Elt Ideal) ℓ) (g' : Dev Cert.AbRefIdeal.nD → PrngReg), Pre_AbIdeal m →
    (∀ c : Dev Cert.AbIdeal.nD,
      m' ((c.tc : Thread Cert.AbRefIdeal.nD Cert.AbRefIdeal.τ).loc Cert.AbRefIdeal.main_arg0) = m ((c.tc : Thread Cert.AbIdeal.nD Cert.AbIdeal.τ).loc Cert.AbIdeal.main_arg0)
      ∧ m' ((c.tc : Thread Cert.AbRefIdeal.nD Cert.AbRefIdeal.τ).loc Cert.AbRefIdeal.main_arg1) = m ((c.tc : Thread Cert.AbIdeal.nD Cert.AbIdeal.τ).loc Cert.AbIdeal.main_arg1)
      ∧ m' ((c.tc : Thread Cert.AbRefIdeal.nD Cert.AbRefIdeal.τ).loc Cert.AbRefIdeal.main_arg2) = m ((c.tc : Thread Cert.AbIdeal.nD Cert.AbIdeal.τ).loc Cert.AbIdeal.main_arg2)) →
    ∃ (v0 : (c : Dev Cert.AbIdeal.nD) → Buf (Elt Ideal) ((c.tc : Thread Cert.AbIdeal.nD Cert.AbIdeal.τ).loc Cert.AbIdeal.main_v16_0)) (v1 : (c : Dev Cert.AbIdeal.nD) → Buf (Elt Ideal) ((c.tc : Thread Cert.AbIdeal.nD Cert.AbIdeal.τ).loc Cert.AbIdeal.main_v16_1)),
      θ_run (Cert.AbIdeal.defs (F := Ideal)) (onTc (τ := Cert.AbIdeal.τ) (Cert.AbIdeal.main (F := Ideal))) ⟨m, fun _ => 0, g⟩ (fun r => ∀ c : Dev Cert.AbIdeal.nD,
          r.2.mem ((c.tc : Thread Cert.AbIdeal.nD Cert.AbIdeal.τ).loc Cert.AbIdeal.main_v16_0) = v0 c
          ∧ r.2.mem ((c.tc : Thread Cert.AbIdeal.nD Cert.AbIdeal.τ).loc Cert.AbIdeal.main_v16_1) = v1 c
          ∧ r.2.mem ((c.tc : Thread Cert.AbIdeal.nD Cert.AbIdeal.τ).loc Cert.AbIdeal.main_arg0) = m ((c.tc : Thread Cert.AbIdeal.nD Cert.AbIdeal.τ).loc Cert.AbIdeal.main_arg0)
          ∧ r.2.mem ((c.tc : Thread Cert.AbIdeal.nD Cert.AbIdeal.τ).loc Cert.AbIdeal.main_arg1) = m ((c.tc : Thread Cert.AbIdeal.nD Cert.AbIdeal.τ).loc Cert.AbIdeal.main_arg1)
          ∧ r.2.mem ((c.tc : Thread Cert.AbIdeal.nD Cert.AbIdeal.τ).loc Cert.AbIdeal.main_arg2) = m ((c.tc : Thread Cert.AbIdeal.nD Cert.AbIdeal.τ).loc Cert.AbIdeal.main_arg2))
      ∧ θ_run (Cert.AbRefIdeal.defs (F := Ideal)) (onTc (τ := Cert.AbRefIdeal.τ) (Cert.AbRefIdeal.main (F := Ideal))) ⟨m', fun _ => 0, g'⟩ (fun r => ∀ c : Dev Cert.AbRefIdeal.nD,
          r.2.mem ((c.tc : Thread Cert.AbRefIdeal.nD Cert.AbRefIdeal.τ).loc Cert.AbRefIdeal.main_v27) = v0 c
          ∧ r.2.mem ((c.tc : Thread Cert.AbRefIdeal.nD Cert.AbRefIdeal.τ).loc Cert.AbRefIdeal.main_v26) = v1 c
          ∧ r.2.mem ((c.tc : Thread Cert.AbRefIdeal.nD Cert.AbRefIdeal.τ).loc Cert.AbRefIdeal.main_arg0) = m' ((c.tc : Thread Cert.AbRefIdeal.nD Cert.AbRefIdeal.τ).loc Cert.AbRefIdeal.main_arg0)
          ∧ r.2.mem ((c.tc : Thread Cert.AbRefIdeal.nD Cert.AbRefIdeal.τ).loc Cert.AbRefIdeal.main_arg1) = m' ((c.tc : Thread Cert.AbRefIdeal.nD Cert.AbRefIdeal.τ).loc Cert.AbRefIdeal.main_arg1)
          ∧ r.2.mem ((c.tc : Thread Cert.AbRefIdeal.nD Cert.AbRefIdeal.τ).loc Cert.AbRefIdeal.main_arg2) = m' ((c.tc : Thread Cert.AbRefIdeal.nD Cert.AbRefIdeal.τ).loc Cert.AbRefIdeal.main_arg2))

def preserves_Dsa_DsaIdeal : Prop :=
  True

def algebraic_DsaIdeal_DsaRefIdeal [hDsaIdeal : Cert.DsaIdeal.Facts] [hDsaRefIdeal : Cert.DsaRefIdeal.Facts] : Prop :=
  ∀ (m : (ℓ : Loc Cert.DsaIdeal.nD Cert.DsaIdeal.τ Cert.DsaIdeal.sig) → Buf (Elt Ideal) ℓ) (g : Dev Cert.DsaIdeal.nD → PrngReg)
    (m' : (ℓ : Loc Cert.DsaRefIdeal.nD Cert.DsaRefIdeal.τ Cert.DsaRefIdeal.sig) → Buf (Elt Ideal) ℓ) (g' : Dev Cert.DsaRefIdeal.nD → PrngReg), Pre_DsaIdeal m →
    (∀ c : Dev Cert.DsaIdeal.nD,
      m' ((c.tc : Thread Cert.DsaRefIdeal.nD Cert.DsaRefIdeal.τ).loc Cert.DsaRefIdeal.main_arg0) = m ((c.tc : Thread Cert.DsaIdeal.nD Cert.DsaIdeal.τ).loc Cert.DsaIdeal.main_arg0)
      ∧ m' ((c.tc : Thread Cert.DsaRefIdeal.nD Cert.DsaRefIdeal.τ).loc Cert.DsaRefIdeal.main_arg1) = m ((c.tc : Thread Cert.DsaIdeal.nD Cert.DsaIdeal.τ).loc Cert.DsaIdeal.main_arg1)
      ∧ m' ((c.tc : Thread Cert.DsaRefIdeal.nD Cert.DsaRefIdeal.τ).loc Cert.DsaRefIdeal.main_arg2) = m ((c.tc : Thread Cert.DsaIdeal.nD Cert.DsaIdeal.τ).loc Cert.DsaIdeal.main_arg2)
      ∧ m' ((c.tc : Thread Cert.DsaRefIdeal.nD Cert.DsaRefIdeal.τ).loc Cert.DsaRefIdeal.main_arg3) = m ((c.tc : Thread Cert.DsaIdeal.nD Cert.DsaIdeal.τ).loc Cert.DsaIdeal.main_arg3)
      ∧ m' ((c.tc : Thread Cert.DsaRefIdeal.nD Cert.DsaRefIdeal.τ).loc Cert.DsaRefIdeal.main_arg4) = m ((c.tc : Thread Cert.DsaIdeal.nD Cert.DsaIdeal.τ).loc Cert.DsaIdeal.main_arg4)
      ∧ m' ((c.tc : Thread Cert.DsaRefIdeal.nD Cert.DsaRefIdeal.τ).loc Cert.DsaRefIdeal.main_arg5) = m ((c.tc : Thread Cert.DsaIdeal.nD Cert.DsaIdeal.τ).loc Cert.DsaIdeal.main_arg5)
      ∧ m' ((c.tc : Thread Cert.DsaRefIdeal.nD Cert.DsaRefIdeal.τ).loc Cert.DsaRefIdeal.main_arg6) = m ((c.tc : Thread Cert.DsaIdeal.nD Cert.DsaIdeal.τ).loc Cert.DsaIdeal.main_arg6)
      ∧ m' ((c.tc : Thread Cert.DsaRefIdeal.nD Cert.DsaRefIdeal.τ).loc Cert.DsaRefIdeal.main_arg7) = m ((c.tc : Thread Cert.DsaIdeal.nD Cert.DsaIdeal.τ).loc Cert.DsaIdeal.main_arg7)
      ∧ m' ((c.tc : Thread Cert.DsaRefIdeal.nD Cert.DsaRefIdeal.τ).loc Cert.DsaRefIdeal.main_arg8) = m ((c.tc : Thread Cert.DsaIdeal.nD Cert.DsaIdeal.τ).loc Cert.DsaIdeal.main_arg8)
      ∧ m' ((c.tc : Thread Cert.DsaRefIdeal.nD Cert.DsaRefIdeal.τ).loc Cert.DsaRefIdeal.main_arg9) = m ((c.tc : Thread Cert.DsaIdeal.nD Cert.DsaIdeal.τ).loc Cert.DsaIdeal.main_arg9)
      ∧ m' ((c.tc : Thread Cert.DsaRefIdeal.nD Cert.DsaRefIdeal.τ).loc Cert.DsaRefIdeal.main_arg10) = m ((c.tc : Thread Cert.DsaIdeal.nD Cert.DsaIdeal.τ).loc Cert.DsaIdeal.main_arg10)
      ∧ m' ((c.tc : Thread Cert.DsaRefIdeal.nD Cert.DsaRefIdeal.τ).loc Cert.DsaRefIdeal.main_arg11) = m ((c.tc : Thread Cert.DsaIdeal.nD Cert.DsaIdeal.τ).loc Cert.DsaIdeal.main_arg11)) →
    ∃ (v0 : (c : Dev Cert.DsaIdeal.nD) → Buf (Elt Ideal) ((c.tc : Thread Cert.DsaIdeal.nD Cert.DsaIdeal.τ).loc Cert.DsaIdeal.main_v11_0)) (v1 : (c : Dev Cert.DsaIdeal.nD) → Buf (Elt Ideal) ((c.tc : Thread Cert.DsaIdeal.nD Cert.DsaIdeal.τ).loc Cert.DsaIdeal.main_v11_1)) (v2 : (c : Dev Cert.DsaIdeal.nD) → Buf (Elt Ideal) ((c.tc : Thread Cert.DsaIdeal.nD Cert.DsaIdeal.τ).loc Cert.DsaIdeal.main_v11_2)) (v3 : (c : Dev Cert.DsaIdeal.nD) → Buf (Elt Ideal) ((c.tc : Thread Cert.DsaIdeal.nD Cert.DsaIdeal.τ).loc Cert.DsaIdeal.main_v11_3)) (v4 : (c : Dev Cert.DsaIdeal.nD) → Buf (Elt Ideal) ((c.tc : Thread Cert.DsaIdeal.nD Cert.DsaIdeal.τ).loc Cert.DsaIdeal.main_v11_4)) (v5 : (c : Dev Cert.DsaIdeal.nD) → Buf (Elt Ideal) ((c.tc : Thread Cert.DsaIdeal.nD Cert.DsaIdeal.τ).loc Cert.DsaIdeal.main_v11_5)),
      θ_run (Cert.DsaIdeal.defs (F := Ideal)) (onTc (τ := Cert.DsaIdeal.τ) (Cert.DsaIdeal.main (F := Ideal))) ⟨m, fun _ => 0, g⟩ (fun r => ∀ c : Dev Cert.DsaIdeal.nD,
          r.2.mem ((c.tc : Thread Cert.DsaIdeal.nD Cert.DsaIdeal.τ).loc Cert.DsaIdeal.main_v11_0) = v0 c
          ∧ r.2.mem ((c.tc : Thread Cert.DsaIdeal.nD Cert.DsaIdeal.τ).loc Cert.DsaIdeal.main_v11_1) = v1 c
          ∧ r.2.mem ((c.tc : Thread Cert.DsaIdeal.nD Cert.DsaIdeal.τ).loc Cert.DsaIdeal.main_v11_2) = v2 c
          ∧ r.2.mem ((c.tc : Thread Cert.DsaIdeal.nD Cert.DsaIdeal.τ).loc Cert.DsaIdeal.main_v11_3) = v3 c
          ∧ r.2.mem ((c.tc : Thread Cert.DsaIdeal.nD Cert.DsaIdeal.τ).loc Cert.DsaIdeal.main_v11_4) = v4 c
          ∧ r.2.mem ((c.tc : Thread Cert.DsaIdeal.nD Cert.DsaIdeal.τ).loc Cert.DsaIdeal.main_v11_5) = v5 c
          ∧ r.2.mem ((c.tc : Thread Cert.DsaIdeal.nD Cert.DsaIdeal.τ).loc Cert.DsaIdeal.main_arg0) = m ((c.tc : Thread Cert.DsaIdeal.nD Cert.DsaIdeal.τ).loc Cert.DsaIdeal.main_arg0)
          ∧ r.2.mem ((c.tc : Thread Cert.DsaIdeal.nD Cert.DsaIdeal.τ).loc Cert.DsaIdeal.main_arg1) = m ((c.tc : Thread Cert.DsaIdeal.nD Cert.DsaIdeal.τ).loc Cert.DsaIdeal.main_arg1)
          ∧ r.2.mem ((c.tc : Thread Cert.DsaIdeal.nD Cert.DsaIdeal.τ).loc Cert.DsaIdeal.main_arg2) = m ((c.tc : Thread Cert.DsaIdeal.nD Cert.DsaIdeal.τ).loc Cert.DsaIdeal.main_arg2)
          ∧ r.2.mem ((c.tc : Thread Cert.DsaIdeal.nD Cert.DsaIdeal.τ).loc Cert.DsaIdeal.main_arg3) = m ((c.tc : Thread Cert.DsaIdeal.nD Cert.DsaIdeal.τ).loc Cert.DsaIdeal.main_arg3)
          ∧ r.2.mem ((c.tc : Thread Cert.DsaIdeal.nD Cert.DsaIdeal.τ).loc Cert.DsaIdeal.main_arg4) = m ((c.tc : Thread Cert.DsaIdeal.nD Cert.DsaIdeal.τ).loc Cert.DsaIdeal.main_arg4)
          ∧ r.2.mem ((c.tc : Thread Cert.DsaIdeal.nD Cert.DsaIdeal.τ).loc Cert.DsaIdeal.main_arg5) = m ((c.tc : Thread Cert.DsaIdeal.nD Cert.DsaIdeal.τ).loc Cert.DsaIdeal.main_arg5)
          ∧ r.2.mem ((c.tc : Thread Cert.DsaIdeal.nD Cert.DsaIdeal.τ).loc Cert.DsaIdeal.main_arg6) = m ((c.tc : Thread Cert.DsaIdeal.nD Cert.DsaIdeal.τ).loc Cert.DsaIdeal.main_arg6)
          ∧ r.2.mem ((c.tc : Thread Cert.DsaIdeal.nD Cert.DsaIdeal.τ).loc Cert.DsaIdeal.main_arg7) = m ((c.tc : Thread Cert.DsaIdeal.nD Cert.DsaIdeal.τ).loc Cert.DsaIdeal.main_arg7)
          ∧ r.2.mem ((c.tc : Thread Cert.DsaIdeal.nD Cert.DsaIdeal.τ).loc Cert.DsaIdeal.main_arg8) = m ((c.tc : Thread Cert.DsaIdeal.nD Cert.DsaIdeal.τ).loc Cert.DsaIdeal.main_arg8)
          ∧ r.2.mem ((c.tc : Thread Cert.DsaIdeal.nD Cert.DsaIdeal.τ).loc Cert.DsaIdeal.main_arg9) = m ((c.tc : Thread Cert.DsaIdeal.nD Cert.DsaIdeal.τ).loc Cert.DsaIdeal.main_arg9)
          ∧ r.2.mem ((c.tc : Thread Cert.DsaIdeal.nD Cert.DsaIdeal.τ).loc Cert.DsaIdeal.main_arg10) = m ((c.tc : Thread Cert.DsaIdeal.nD Cert.DsaIdeal.τ).loc Cert.DsaIdeal.main_arg10)
          ∧ r.2.mem ((c.tc : Thread Cert.DsaIdeal.nD Cert.DsaIdeal.τ).loc Cert.DsaIdeal.main_arg11) = m ((c.tc : Thread Cert.DsaIdeal.nD Cert.DsaIdeal.τ).loc Cert.DsaIdeal.main_arg11))
      ∧ θ_run (Cert.DsaRefIdeal.defs (F := Ideal)) (onTc (τ := Cert.DsaRefIdeal.τ) (Cert.DsaRefIdeal.main (F := Ideal))) ⟨m', fun _ => 0, g'⟩ (fun r => ∀ c : Dev Cert.DsaRefIdeal.nD,
          r.2.mem ((c.tc : Thread Cert.DsaRefIdeal.nD Cert.DsaRefIdeal.τ).loc Cert.DsaRefIdeal.main_v97) = v0 c
          ∧ r.2.mem ((c.tc : Thread Cert.DsaRefIdeal.nD Cert.DsaRefIdeal.τ).loc Cert.DsaRefIdeal.main_v98) = v1 c
          ∧ r.2.mem ((c.tc : Thread Cert.DsaRefIdeal.nD Cert.DsaRefIdeal.τ).loc Cert.DsaRefIdeal.main_v99) = v2 c
          ∧ r.2.mem ((c.tc : Thread Cert.DsaRefIdeal.nD Cert.DsaRefIdeal.τ).loc Cert.DsaRefIdeal.main_v100) = v3 c
          ∧ r.2.mem ((c.tc : Thread Cert.DsaRefIdeal.nD Cert.DsaRefIdeal.τ).loc Cert.DsaRefIdeal.main_v101) = v4 c
          ∧ r.2.mem ((c.tc : Thread Cert.DsaRefIdeal.nD Cert.DsaRefIdeal.τ).loc Cert.DsaRefIdeal.main_v102) = v5 c
          ∧ r.2.mem ((c.tc : Thread Cert.DsaRefIdeal.nD Cert.DsaRefIdeal.τ).loc Cert.DsaRefIdeal.main_arg0) = m' ((c.tc : Thread Cert.DsaRefIdeal.nD Cert.DsaRefIdeal.τ).loc Cert.DsaRefIdeal.main_arg0)
          ∧ r.2.mem ((c.tc : Thread Cert.DsaRefIdeal.nD Cert.DsaRefIdeal.τ).loc Cert.DsaRefIdeal.main_arg1) = m' ((c.tc : Thread Cert.DsaRefIdeal.nD Cert.DsaRefIdeal.τ).loc Cert.DsaRefIdeal.main_arg1)
          ∧ r.2.mem ((c.tc : Thread Cert.DsaRefIdeal.nD Cert.DsaRefIdeal.τ).loc Cert.DsaRefIdeal.main_arg2) = m' ((c.tc : Thread Cert.DsaRefIdeal.nD Cert.DsaRefIdeal.τ).loc Cert.DsaRefIdeal.main_arg2)
          ∧ r.2.mem ((c.tc : Thread Cert.DsaRefIdeal.nD Cert.DsaRefIdeal.τ).loc Cert.DsaRefIdeal.main_arg3) = m' ((c.tc : Thread Cert.DsaRefIdeal.nD Cert.DsaRefIdeal.τ).loc Cert.DsaRefIdeal.main_arg3)
          ∧ r.2.mem ((c.tc : Thread Cert.DsaRefIdeal.nD Cert.DsaRefIdeal.τ).loc Cert.DsaRefIdeal.main_arg4) = m' ((c.tc : Thread Cert.DsaRefIdeal.nD Cert.DsaRefIdeal.τ).loc Cert.DsaRefIdeal.main_arg4)
          ∧ r.2.mem ((c.tc : Thread Cert.DsaRefIdeal.nD Cert.DsaRefIdeal.τ).loc Cert.DsaRefIdeal.main_arg5) = m' ((c.tc : Thread Cert.DsaRefIdeal.nD Cert.DsaRefIdeal.τ).loc Cert.DsaRefIdeal.main_arg5)
          ∧ r.2.mem ((c.tc : Thread Cert.DsaRefIdeal.nD Cert.DsaRefIdeal.τ).loc Cert.DsaRefIdeal.main_arg6) = m' ((c.tc : Thread Cert.DsaRefIdeal.nD Cert.DsaRefIdeal.τ).loc Cert.DsaRefIdeal.main_arg6)
          ∧ r.2.mem ((c.tc : Thread Cert.DsaRefIdeal.nD Cert.DsaRefIdeal.τ).loc Cert.DsaRefIdeal.main_arg7) = m' ((c.tc : Thread Cert.DsaRefIdeal.nD Cert.DsaRefIdeal.τ).loc Cert.DsaRefIdeal.main_arg7)
          ∧ r.2.mem ((c.tc : Thread Cert.DsaRefIdeal.nD Cert.DsaRefIdeal.τ).loc Cert.DsaRefIdeal.main_arg8) = m' ((c.tc : Thread Cert.DsaRefIdeal.nD Cert.DsaRefIdeal.τ).loc Cert.DsaRefIdeal.main_arg8)
          ∧ r.2.mem ((c.tc : Thread Cert.DsaRefIdeal.nD Cert.DsaRefIdeal.τ).loc Cert.DsaRefIdeal.main_arg9) = m' ((c.tc : Thread Cert.DsaRefIdeal.nD Cert.DsaRefIdeal.τ).loc Cert.DsaRefIdeal.main_arg9)
          ∧ r.2.mem ((c.tc : Thread Cert.DsaRefIdeal.nD Cert.DsaRefIdeal.τ).loc Cert.DsaRefIdeal.main_arg10) = m' ((c.tc : Thread Cert.DsaRefIdeal.nD Cert.DsaRefIdeal.τ).loc Cert.DsaRefIdeal.main_arg10)
          ∧ r.2.mem ((c.tc : Thread Cert.DsaRefIdeal.nD Cert.DsaRefIdeal.τ).loc Cert.DsaRefIdeal.main_arg11) = m' ((c.tc : Thread Cert.DsaRefIdeal.nD Cert.DsaRefIdeal.τ).loc Cert.DsaRefIdeal.main_arg11))

def preserves_Gdn_GdnIdeal : Prop :=
  True

def algebraic_GdnIdeal_GdnRefIdeal [hGdnIdeal : Cert.GdnIdeal.Facts] [hGdnRefIdeal : Cert.GdnRefIdeal.Facts] : Prop :=
  ∀ (m : (ℓ : Loc Cert.GdnIdeal.nD Cert.GdnIdeal.τ Cert.GdnIdeal.sig) → Buf (Elt Ideal) ℓ) (g : Dev Cert.GdnIdeal.nD → PrngReg)
    (m' : (ℓ : Loc Cert.GdnRefIdeal.nD Cert.GdnRefIdeal.τ Cert.GdnRefIdeal.sig) → Buf (Elt Ideal) ℓ) (g' : Dev Cert.GdnRefIdeal.nD → PrngReg), Pre_GdnIdeal m →
    (∀ c : Dev Cert.GdnIdeal.nD,
      m' ((c.tc : Thread Cert.GdnRefIdeal.nD Cert.GdnRefIdeal.τ).loc Cert.GdnRefIdeal.main_arg0) = m ((c.tc : Thread Cert.GdnIdeal.nD Cert.GdnIdeal.τ).loc Cert.GdnIdeal.main_arg0)
      ∧ m' ((c.tc : Thread Cert.GdnRefIdeal.nD Cert.GdnRefIdeal.τ).loc Cert.GdnRefIdeal.main_arg1) = m ((c.tc : Thread Cert.GdnIdeal.nD Cert.GdnIdeal.τ).loc Cert.GdnIdeal.main_arg1)
      ∧ m' ((c.tc : Thread Cert.GdnRefIdeal.nD Cert.GdnRefIdeal.τ).loc Cert.GdnRefIdeal.main_arg2) = m ((c.tc : Thread Cert.GdnIdeal.nD Cert.GdnIdeal.τ).loc Cert.GdnIdeal.main_arg2)
      ∧ m' ((c.tc : Thread Cert.GdnRefIdeal.nD Cert.GdnRefIdeal.τ).loc Cert.GdnRefIdeal.main_arg3) = m ((c.tc : Thread Cert.GdnIdeal.nD Cert.GdnIdeal.τ).loc Cert.GdnIdeal.main_arg3)
      ∧ m' ((c.tc : Thread Cert.GdnRefIdeal.nD Cert.GdnRefIdeal.τ).loc Cert.GdnRefIdeal.main_arg4) = m ((c.tc : Thread Cert.GdnIdeal.nD Cert.GdnIdeal.τ).loc Cert.GdnIdeal.main_arg4)) →
    ∃ (v0 : (c : Dev Cert.GdnIdeal.nD) → Buf (Elt Ideal) ((c.tc : Thread Cert.GdnIdeal.nD Cert.GdnIdeal.τ).loc Cert.GdnIdeal.main_v10_0)) (v1 : (c : Dev Cert.GdnIdeal.nD) → Buf (Elt Ideal) ((c.tc : Thread Cert.GdnIdeal.nD Cert.GdnIdeal.τ).loc Cert.GdnIdeal.main_v10_1)) (v2 : (c : Dev Cert.GdnIdeal.nD) → Buf (Elt Ideal) ((c.tc : Thread Cert.GdnIdeal.nD Cert.GdnIdeal.τ).loc Cert.GdnIdeal.main_v10_2)) (v3 : (c : Dev Cert.GdnIdeal.nD) → Buf (Elt Ideal) ((c.tc : Thread Cert.GdnIdeal.nD Cert.GdnIdeal.τ).loc Cert.GdnIdeal.main_v10_3)) (v4 : (c : Dev Cert.GdnIdeal.nD) → Buf (Elt Ideal) ((c.tc : Thread Cert.GdnIdeal.nD Cert.GdnIdeal.τ).loc Cert.GdnIdeal.main_v10_4)) (v5 : (c : Dev Cert.GdnIdeal.nD) → Buf (Elt Ideal) ((c.tc : Thread Cert.GdnIdeal.nD Cert.GdnIdeal.τ).loc Cert.GdnIdeal.main_v10_5)),
      θ_run (Cert.GdnIdeal.defs (F := Ideal)) (onTc (τ := Cert.GdnIdeal.τ) (Cert.GdnIdeal.main (F := Ideal))) ⟨m, fun _ => 0, g⟩ (fun r => ∀ c : Dev Cert.GdnIdeal.nD,
          r.2.mem ((c.tc : Thread Cert.GdnIdeal.nD Cert.GdnIdeal.τ).loc Cert.GdnIdeal.main_v10_0) = v0 c
          ∧ r.2.mem ((c.tc : Thread Cert.GdnIdeal.nD Cert.GdnIdeal.τ).loc Cert.GdnIdeal.main_v10_1) = v1 c
          ∧ r.2.mem ((c.tc : Thread Cert.GdnIdeal.nD Cert.GdnIdeal.τ).loc Cert.GdnIdeal.main_v10_2) = v2 c
          ∧ r.2.mem ((c.tc : Thread Cert.GdnIdeal.nD Cert.GdnIdeal.τ).loc Cert.GdnIdeal.main_v10_3) = v3 c
          ∧ r.2.mem ((c.tc : Thread Cert.GdnIdeal.nD Cert.GdnIdeal.τ).loc Cert.GdnIdeal.main_v10_4) = v4 c
          ∧ r.2.mem ((c.tc : Thread Cert.GdnIdeal.nD Cert.GdnIdeal.τ).loc Cert.GdnIdeal.main_v10_5) = v5 c
          ∧ r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
          ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
          ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
          ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
          ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4))
      ∧ θ_run (Cert.GdnRefIdeal.defs (F := Ideal)) (onTc (τ := Cert.GdnRefIdeal.τ) (Cert.GdnRefIdeal.main (F := Ideal))) ⟨m', fun _ => 0, g'⟩ (fun r => ∀ c : Dev Cert.GdnRefIdeal.nD,
          r.2.mem ((c.tc : Thread Cert.GdnRefIdeal.nD Cert.GdnRefIdeal.τ).loc Cert.GdnRefIdeal.main_v91) = v0 c
          ∧ r.2.mem ((c.tc : Thread Cert.GdnRefIdeal.nD Cert.GdnRefIdeal.τ).loc Cert.GdnRefIdeal.main_v92) = v1 c
          ∧ r.2.mem ((c.tc : Thread Cert.GdnRefIdeal.nD Cert.GdnRefIdeal.τ).loc Cert.GdnRefIdeal.main_v93) = v2 c
          ∧ r.2.mem ((c.tc : Thread Cert.GdnRefIdeal.nD Cert.GdnRefIdeal.τ).loc Cert.GdnRefIdeal.main_v94) = v3 c
          ∧ r.2.mem ((c.tc : Thread Cert.GdnRefIdeal.nD Cert.GdnRefIdeal.τ).loc Cert.GdnRefIdeal.main_v95) = v4 c
          ∧ r.2.mem ((c.tc : Thread Cert.GdnRefIdeal.nD Cert.GdnRefIdeal.τ).loc Cert.GdnRefIdeal.main_v96) = v5 c
          ∧ r.2.mem ((c.tc : Thread Cert.GdnRefIdeal.nD Cert.GdnRefIdeal.τ).loc Cert.GdnRefIdeal.main_arg0) = m' ((c.tc : Thread Cert.GdnRefIdeal.nD Cert.GdnRefIdeal.τ).loc Cert.GdnRefIdeal.main_arg0)
          ∧ r.2.mem ((c.tc : Thread Cert.GdnRefIdeal.nD Cert.GdnRefIdeal.τ).loc Cert.GdnRefIdeal.main_arg1) = m' ((c.tc : Thread Cert.GdnRefIdeal.nD Cert.GdnRefIdeal.τ).loc Cert.GdnRefIdeal.main_arg1)
          ∧ r.2.mem ((c.tc : Thread Cert.GdnRefIdeal.nD Cert.GdnRefIdeal.τ).loc Cert.GdnRefIdeal.main_arg2) = m' ((c.tc : Thread Cert.GdnRefIdeal.nD Cert.GdnRefIdeal.τ).loc Cert.GdnRefIdeal.main_arg2)
          ∧ r.2.mem ((c.tc : Thread Cert.GdnRefIdeal.nD Cert.GdnRefIdeal.τ).loc Cert.GdnRefIdeal.main_arg3) = m' ((c.tc : Thread Cert.GdnRefIdeal.nD Cert.GdnRefIdeal.τ).loc Cert.GdnRefIdeal.main_arg3)
          ∧ r.2.mem ((c.tc : Thread Cert.GdnRefIdeal.nD Cert.GdnRefIdeal.τ).loc Cert.GdnRefIdeal.main_arg4) = m' ((c.tc : Thread Cert.GdnRefIdeal.nD Cert.GdnRefIdeal.τ).loc Cert.GdnRefIdeal.main_arg4))

def preserves_Bias_BiasIdeal : Prop :=
  True

def algebraic_BiasIdeal_BiasRefIdeal_pre_last_bucket_finite [hBiasIdeal : Cert.BiasIdeal.Facts] [hBiasRefIdeal : Cert.BiasRefIdeal.Facts] [hPre_last_bucket_finite : Cert.Pre_last_bucket_finite.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal_last_bucket_finite m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v0)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v67) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def Claim : Prop :=
  ∃ (hCd : Cert.Cd.Facts) (hCdIdeal : Cert.CdIdeal.Facts) (hCdRefIdeal : Cert.CdRefIdeal.Facts) (hNm : Cert.Nm.Facts) (hNmIdeal : Cert.NmIdeal.Facts) (hNmRefIdeal : Cert.NmRefIdeal.Facts) (hOut : Cert.Out.Facts) (hOutIdeal : Cert.OutIdeal.Facts) (hOutRefIdeal : Cert.OutRefIdeal.Facts) (hAb : Cert.Ab.Facts) (hAbIdeal : Cert.AbIdeal.Facts) (hAbRefIdeal : Cert.AbRefIdeal.Facts) (hDsa : Cert.Dsa.Facts) (hDsaIdeal : Cert.DsaIdeal.Facts) (hDsaRefIdeal : Cert.DsaRefIdeal.Facts) (hGdn : Cert.Gdn.Facts) (hGdnIdeal : Cert.GdnIdeal.Facts) (hGdnRefIdeal : Cert.GdnRefIdeal.Facts) (hBias : Cert.Bias.Facts) (hBiasIdeal : Cert.BiasIdeal.Facts) (hBiasRefIdeal : Cert.BiasRefIdeal.Facts) (hPre_last_bucket_finite : Cert.Pre_last_bucket_finite.Facts),
    quiescent_Cd (hCd := hCd)
    ∧ quiescent_CdIdeal (hCdIdeal := hCdIdeal)
    ∧ quiescent_CdRefIdeal (hCdRefIdeal := hCdRefIdeal)
    ∧ quiescent_Nm (hNm := hNm)
    ∧ quiescent_NmIdeal (hNmIdeal := hNmIdeal)
    ∧ quiescent_NmRefIdeal (hNmRefIdeal := hNmRefIdeal)
    ∧ quiescent_Out (hOut := hOut)
    ∧ quiescent_OutIdeal (hOutIdeal := hOutIdeal)
    ∧ quiescent_OutRefIdeal (hOutRefIdeal := hOutRefIdeal)
    ∧ quiescent_Ab (hAb := hAb)
    ∧ quiescent_AbIdeal (hAbIdeal := hAbIdeal)
    ∧ quiescent_AbRefIdeal (hAbRefIdeal := hAbRefIdeal)
    ∧ quiescent_Dsa (hDsa := hDsa)
    ∧ quiescent_DsaIdeal (hDsaIdeal := hDsaIdeal)
    ∧ quiescent_DsaRefIdeal (hDsaRefIdeal := hDsaRefIdeal)
    ∧ quiescent_Gdn (hGdn := hGdn)
    ∧ quiescent_GdnIdeal (hGdnIdeal := hGdnIdeal)
    ∧ quiescent_GdnRefIdeal (hGdnRefIdeal := hGdnRefIdeal)
    ∧ quiescent_Bias (hBias := hBias)
    ∧ quiescent_BiasIdeal (hBiasIdeal := hBiasIdeal)
    ∧ quiescent_BiasIdeal_pre_last_bucket_finite (hBiasIdeal := hBiasIdeal) (hPre_last_bucket_finite := hPre_last_bucket_finite)
    ∧ quiescent_BiasRefIdeal (hBiasRefIdeal := hBiasRefIdeal)
    ∧ quiescent_BiasRefIdeal_pre_last_bucket_finite (hBiasRefIdeal := hBiasRefIdeal) (hPre_last_bucket_finite := hPre_last_bucket_finite)
    ∧ preserves_Cd_CdIdeal
    ∧ algebraic_CdIdeal_CdRefIdeal (hCdIdeal := hCdIdeal) (hCdRefIdeal := hCdRefIdeal)
    ∧ preserves_Nm_NmIdeal
    ∧ algebraic_NmIdeal_NmRefIdeal (hNmIdeal := hNmIdeal) (hNmRefIdeal := hNmRefIdeal)
    ∧ preserves_Out_OutIdeal
    ∧ algebraic_OutIdeal_OutRefIdeal (hOutIdeal := hOutIdeal) (hOutRefIdeal := hOutRefIdeal)
    ∧ preserves_Ab_AbIdeal
    ∧ algebraic_AbIdeal_AbRefIdeal (hAbIdeal := hAbIdeal) (hAbRefIdeal := hAbRefIdeal)
    ∧ preserves_Dsa_DsaIdeal
    ∧ algebraic_DsaIdeal_DsaRefIdeal (hDsaIdeal := hDsaIdeal) (hDsaRefIdeal := hDsaRefIdeal)
    ∧ preserves_Gdn_GdnIdeal
    ∧ algebraic_GdnIdeal_GdnRefIdeal (hGdnIdeal := hGdnIdeal) (hGdnRefIdeal := hGdnRefIdeal)
    ∧ preserves_Bias_BiasIdeal
    ∧ algebraic_BiasIdeal_BiasRefIdeal_pre_last_bucket_finite (hBiasIdeal := hBiasIdeal) (hBiasRefIdeal := hBiasRefIdeal) (hPre_last_bucket_finite := hPre_last_bucket_finite)
-- ==== Pre_last_bucket_finite.lean ====
abbrev S32x8 : Shape := ⟨2, ![32, 8]⟩
abbrev S1x8 : Shape := ⟨2, ![1, 8]⟩
abbrev S8 : Shape := ⟨1, ![8]⟩
abbrev S_ : Shape := ⟨0, ![]⟩

class Facts : Prop where
  slices_S32x8_S1x8_31_0 : S32x8.Slices ![31, 0] S1x8
  shapeCasts_S1x8_S8 : S1x8.ShapeCasts S8
  bcast_S_S8 : S_.BroadcastsInDim S8 (![] : Fin 0 → Fin S8.rank)

variable [Facts]

def fn {F : FTy → Type} [FloatOps F] (main_arg0 : FVec F S32x8 .f32) : IVec S8 1 :=
  let main_v0 : FVec F S1x8 .f32 := (extractStridedSlice S1x8 ![31, 0] · slices_S32x8_S1x8_31_0) main_arg0
  let main_v1 : FVec F S8 .f32 := shapeCast S8 main_v0 shapeCasts_S1x8_S8
  let main_v2 : FVec F S8 .f32 := Host.absf main_v1
  let main_cst : FVec F S_ .f32 := constant S_ .f32 0x7F800000#32
  let main_v3 : FVec F S8 .f32 := broadcastInDim S8 ![] bcast_S_S8 main_cst
  let main_v4 : IVec S8 1 := cmpf .olt main_v2 main_v3
  main_v4
-- ==== Cd.lean ====
abbrev S32768x7168 : Shape := ⟨2, ![32768, 7168]⟩
abbrev S32768x2048 : Shape := ⟨2, ![32768, 2048]⟩
abbrev S2048x2048 : Shape := ⟨2, ![2048, 2048]⟩
abbrev S31x1024 : Shape := ⟨2, ![31, 1024]⟩
abbrev S1024 : Shape := ⟨1, ![1024]⟩
abbrev S3x1024 : Shape := ⟨2, ![3, 1024]⟩
abbrev S1x1024 : Shape := ⟨2, ![1, 1024]⟩
abbrev S256x1024 : Shape := ⟨2, ![256, 1024]⟩
abbrev S32x1024 : Shape := ⟨2, ![32, 1024]⟩
abbrev S16x1024 : Shape := ⟨2, ![16, 1024]⟩
abbrev S256x2048 : Shape := ⟨2, ![256, 2048]⟩
abbrev S8x288x1024 : Shape := ⟨3, ![8, 288, 1024]⟩
abbrev S272x1024 : Shape := ⟨2, ![272, 1024]⟩
abbrev S2x256x2048 : Shape := ⟨3, ![2, 256, 2048]⟩
abbrev S1x256x2048 : Shape := ⟨3, ![1, 256, 2048]⟩
abbrev S1x32x1024 : Shape := ⟨3, ![1, 32, 1024]⟩
abbrev S1x256x1024 : Shape := ⟨3, ![1, 256, 1024]⟩
abbrev S1x280x1024 : Shape := ⟨3, ![1, 280, 1024]⟩
abbrev S280x1024 : Shape := ⟨2, ![280, 1024]⟩
abbrev S256 : Shape := ⟨1, ![256]⟩
abbrev S256x1 : Shape := ⟨2, ![256, 1]⟩

abbrev nBuf : Space → Nat
  | .hbm => 13
  | .vmem => 35
  | .smem => 0
  | _ => 0

abbrev bufTy : (tb : Table) → Fin (tcTables nBuf tb) → BufTy
  | .hbm, ⟨0, _⟩ => ⟨S32768x7168, .bf16⟩
  | .hbm, ⟨1, _⟩ => ⟨S32768x2048, .f32⟩
  | .hbm, ⟨2, _⟩ => ⟨S2048x2048, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S3x1024, .f32⟩
  | .hbm, ⟨8, _⟩ => ⟨S2048x2048, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S32768x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S32x1024, .bf16⟩
  | .local _ .vmem, ⟨5, _⟩ => ⟨S32x1024, .bf16⟩
  | .local _ .vmem, ⟨6, _⟩ => ⟨S32x1024, .bf16⟩
  | .local _ .vmem, ⟨7, _⟩ => ⟨S32x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S16x1024, .bf16⟩
  | .local _ .vmem, ⟨17, _⟩ => ⟨S16x1024, .bf16⟩
  | .local _ .vmem, ⟨18, _⟩ => ⟨S16x1024, .bf16⟩
  | .local _ .vmem, ⟨19, _⟩ => ⟨S16x1024, .bf16⟩
  | .local _ .vmem, ⟨20, _⟩ => ⟨S256x1024, .bf16⟩
  | .local _ .vmem, ⟨21, _⟩ => ⟨S256x1024, .bf16⟩
  | .local _ .vmem, ⟨22, _⟩ => ⟨S256x2048, .f32⟩
  | .local _ .vmem, ⟨23, _⟩ => ⟨S256x2048, .f32⟩
  | .local _ .vmem, ⟨24, _⟩ => ⟨S2048x2048, .bf16⟩
  | .local _ .vmem, ⟨25, _⟩ => ⟨S31x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S3x1024, .f32⟩
  | .local _ .vmem, ⟨30, _⟩ => ⟨S256x2048, .f32⟩
  | .local _ .vmem, ⟨31, _⟩ => ⟨S256x2048, .f32⟩
  | .local _ .vmem, ⟨32, _⟩ => ⟨S8x288x1024, .f32⟩
  | .local _ .vmem, ⟨33, _⟩ => ⟨S272x1024, .f32⟩
  | .local _ .vmem, ⟨34, _⟩ => ⟨S2x256x2048, .bf16⟩
  | _, _ => ⟨S32768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg18_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![129], ![false]⟩

def k0_off1 (i : grid0.Coords) : Fin 3 → Nat :=
  let c1_i32 : BitVec 32 := 1#32
  let arg0 : BitVec 32 := BitVec.ofNat 32 (i 0).val
  let c2_i32 : BitVec 32 := 2#32
  let v2 : BitVec 32 := Scalar.remsi arg0 c2_i32
  let v7 : BitVec 32 := Scalar.subi c1_i32 v2
  let v8 : Index := Scalar.indexCast v7
  let c0_3 : Index := 0#32
  let c0_4 : Index := 0#32
  ![v8.toNat, 0, 0]
def k0_off2 (i : grid0.Coords) : Fin 3 → Nat :=
  let arg0 : BitVec 32 := BitVec.ofNat 32 (i 0).val
  let c2_i32 : BitVec 32 := 2#32
  let v2 : BitVec 32 := Scalar.remsi arg0 c2_i32
  let v318 : Index := Scalar.indexCast v2
  let c0_216 : Index := 0#32
  let c0_217 : Index := 0#32
  ![v318.toNat, 0, 0]
def k0_off3 (i : grid0.Coords) : Fin 3 → Nat :=
  let arg0 : BitVec 32 := BitVec.ofNat 32 (i 0).val
  let c2_i32 : BitVec 32 := 2#32
  let v2 : BitVec 32 := Scalar.remsi arg0 c2_i32
  let v371 : Index := Scalar.indexCast v2
  let c0_251 : Index := 0#32
  let c1024 : Index := 1024#32
  ![v371.toNat, 0, 1024]
def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_4 (i : grid0.Coords) : Fin 2 → Nat :=
  let arg0 : BitVec 32 := BitVec.ofNat 32 (i 0).val
  let c127_i32 : BitVec 32 := 127#32
  let v0 : BitVec 32 := Scalar.minsi arg0 c127_i32
  let c2_i32 : BitVec 32 := 2#32
  let c0_i32 : BitVec 32 := 0#32
  ![v0.toNat, c2_i32.toNat]

def cc0_transform_5 (i : grid0.Coords) : Fin 2 → Nat :=
  let arg0 : BitVec 32 := BitVec.ofNat 32 (i 0).val
  let c127_i32 : BitVec 32 := 127#32
  let v0 : BitVec 32 := Scalar.minsi arg0 c127_i32
  let c3_i32 : BitVec 32 := 3#32
  let c0_i32 : BitVec 32 := 0#32
  ![v0.toNat, c3_i32.toNat]

def cc0_transform_6 (i : grid0.Coords) : Fin 2 → Nat :=
  let arg0 : BitVec 32 := BitVec.ofNat 32 (i 0).val
  let c127_i32 : BitVec 32 := 127#32
  let v0 : BitVec 32 := Scalar.minsi arg0 c127_i32
  let c4_i32 : BitVec 32 := 4#32
  let c0_i32 : BitVec 32 := 0#32
  ![v0.toNat, c4_i32.toNat]

def cc0_transform_7 (i : grid0.Coords) : Fin 2 → Nat :=
  let arg0 : BitVec 32 := BitVec.ofNat 32 (i 0).val
  let c127_i32 : BitVec 32 := 127#32
  let v0 : BitVec 32 := Scalar.minsi arg0 c127_i32
  let c5_i32 : BitVec 32 := 5#32
  let c0_i32 : BitVec 32 := 0#32
  ![v0.toNat, c5_i32.toNat]

def cc0_transform_8 (i : grid0.Coords) : Fin 2 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c4_i32 : BitVec 32 := 4#32
  let c0_i32_0 : BitVec 32 := 0#32
  ![v3.toNat, c4_i32.toNat]

def cc0_transform_9 (i : grid0.Coords) : Fin 2 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c5_i32 : BitVec 32 := 5#32
  let c0_i32_0 : BitVec 32 := 0#32
  ![v3.toNat, c5_i32.toNat]

def cc0_transform_10 (i : grid0.Coords) : Fin 2 → Nat :=
  let arg0 : BitVec 32 := BitVec.ofNat 32 (i 0).val
  let c127_i32 : BitVec 32 := 127#32
  let v0 : BitVec 32 := Scalar.minsi arg0 c127_i32
  let c6_i32 : BitVec 32 := 6#32
  let c0_i32 : BitVec 32 := 0#32
  ![v0.toNat, c6_i32.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S31x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== CdRefIdeal.lean ====
abbrev S32768x7168 : Shape := ⟨2, ![32768, 7168]⟩
abbrev S32768x2048 : Shape := ⟨2, ![32768, 2048]⟩
abbrev S2048x2048 : Shape := ⟨2, ![2048, 2048]⟩
abbrev S31x1024 : Shape := ⟨2, ![31, 1024]⟩
abbrev S1024 : Shape := ⟨1, ![1024]⟩
abbrev S3x1024 : Shape := ⟨2, ![3, 1024]⟩
abbrev S8x4096x7168 : Shape := ⟨3, ![8, 4096, 7168]⟩
abbrev S8x4096x1024 : Shape := ⟨3, ![8, 4096, 1024]⟩
abbrev S_ : Shape := ⟨0, ![]⟩
abbrev S8x4126x1024 : Shape := ⟨3, ![8, 4126, 1024]⟩
abbrev S1x1024 : Shape := ⟨2, ![1, 1024]⟩
abbrev S1x1x1024 : Shape := ⟨3, ![1, 1, 1024]⟩
abbrev S8x4096 : Shape := ⟨2, ![8, 4096]⟩
abbrev S8x4096x1 : Shape := ⟨3, ![8, 4096, 1]⟩
abbrev S8x4098x1024 : Shape := ⟨3, ![8, 4098, 1024]⟩
abbrev S8x4096x2048 : Shape := ⟨3, ![8, 4096, 2048]⟩

abbrev nBuf : Space → Nat
  | .hbm => 339
  | .vmem => 0
  | .smem => 0
  | _ => 0

abbrev hbmTy0_0 (i : Nat) : BufTy := match i % 128 with
  | 0 => ⟨S32768x7168, .bf16⟩
  | 1 => ⟨S32768x2048, .f32⟩
  | 2 => ⟨S2048x2048, .f32⟩
  | 3 => ⟨S31x1024, .f32⟩
  | 4 => ⟨S1024, .f32⟩
  | 5 => ⟨S1024, .f32⟩
  | 6 => ⟨S1024, .f32⟩
  | 7 => ⟨S3x1024, .f32⟩
  | 8 => ⟨S32768x7168, .f32⟩
  | 9 => ⟨S8x4096x7168, .f32⟩
  | 10 => ⟨S8x4096x1024, .f32⟩
  | 11 => ⟨S8x4096x1024, .f32⟩
  | 12 => ⟨S8x4096x1024, .f32⟩
  | 13 => ⟨S8x4096x1024, .f32⟩
  | 14 => ⟨S8x4096x1024, .f32⟩
  | 15 => ⟨S8x4096x1024, .f32⟩
  | 16 => ⟨S8x4096x1024, .f32⟩
  | 17 => ⟨S8x4096x1024, .f32⟩
  | 18 => ⟨S8x4096x1024, .f32⟩
  | 19 => ⟨S_, .f32⟩
  | 20 => ⟨S8x4096x1024, .f32⟩
  | 21 => ⟨S8x4096x1024, .f32⟩
  | 22 => ⟨S_, .f32⟩
  | 23 => ⟨S8x4096x1024, .f32⟩
  | 24 => ⟨S8x4096x1024, .f32⟩
  | 25 => ⟨S8x4096x1024, .f32⟩
  | 26 => ⟨S_, .i32⟩
  | 27 => ⟨S_, .f32⟩
  | 28 => ⟨S8x4126x1024, .f32⟩
  | 29 => ⟨S1x1024, .f32⟩
  | 30 => ⟨S1024, .f32⟩
  | 31 => ⟨S8x4096x1024, .f32⟩
  | 32 => ⟨S1x1x1024, .f32⟩
  | 33 => ⟨S8x4096x1024, .f32⟩
  | 34 => ⟨S8x4096x1024, .f32⟩
  | 35 => ⟨S_, .f32⟩
  | 36 => ⟨S8x4096x1024, .f32⟩
  | 37 => ⟨S8x4096x1024, .f32⟩
  | 38 => ⟨S1x1024, .f32⟩
  | 39 => ⟨S1024, .f32⟩
  | 40 => ⟨S8x4096x1024, .f32⟩
  | 41 => ⟨S1x1x1024, .f32⟩
  | 42 => ⟨S8x4096x1024, .f32⟩
  | 43 => ⟨S8x4096x1024, .f32⟩
  | 44 => ⟨S8x4096x1024, .f32⟩
  | 45 => ⟨S1x1024, .f32⟩
  | 46 => ⟨S1024, .f32⟩
  | 47 => ⟨S8x4096x1024, .f32⟩
  | 48 => ⟨S1x1x1024, .f32⟩
  | 49 => ⟨S8x4096x1024, .f32⟩
  | 50 => ⟨S8x4096x1024, .f32⟩
  | 51 => ⟨S8x4096x1024, .f32⟩
  | 52 => ⟨S1x1024, .f32⟩
  | 53 => ⟨S1024, .f32⟩
  | 54 => ⟨S8x4096x1024, .f32⟩
  | 55 => ⟨S1x1x1024, .f32⟩
  | 56 => ⟨S8x4096x1024, .f32⟩
  | 57 => ⟨S8x4096x1024, .f32⟩
  | 58 => ⟨S8x4096x1024, .f32⟩
  | 59 => ⟨S1x1024, .f32⟩
  | 60 => ⟨S1024, .f32⟩
  | 61 => ⟨S8x4096x1024, .f32⟩
  | 62 => ⟨S1x1x1024, .f32⟩
  | 63 => ⟨S8x4096x1024, .f32⟩
  | 64 => ⟨S8x4096x1024, .f32⟩
  | 65 => ⟨S8x4096x1024, .f32⟩
  | 66 => ⟨S1x1024, .f32⟩
  | 67 => ⟨S1024, .f32⟩
  | 68 => ⟨S8x4096x1024, .f32⟩
  | 69 => ⟨S1x1x1024, .f32⟩
  | 70 => ⟨S8x4096x1024, .f32⟩
  | 71 => ⟨S8x4096x1024, .f32⟩
  | 72 => ⟨S8x4096x1024, .f32⟩
  | 73 => ⟨S1x1024, .f32⟩
  | 74 => ⟨S1024, .f32⟩
  | 75 => ⟨S8x4096x1024, .f32⟩
  | 76 => ⟨S1x1x1024, .f32⟩
  | 77 => ⟨S8x4096x1024, .f32⟩
  | 78 => ⟨S8x4096x1024, .f32⟩
  | 79 => ⟨S8x4096x1024, .f32⟩
  | 80 => ⟨S1x1024, .f32⟩
  | 81 => ⟨S1024, .f32⟩
  | 82 => ⟨S8x4096x1024, .f32⟩
  | 83 => ⟨S1x1x1024, .f32⟩
  | 84 => ⟨S8x4096x1024, .f32⟩
  | 85 => ⟨S8x4096x1024, .f32⟩
  | 86 => ⟨S8x4096x1024, .f32⟩
  | 87 => ⟨S1x1024, .f32⟩
  | 88 => ⟨S1024, .f32⟩
  | 89 => ⟨S8x4096x1024, .f32⟩
  | 90 => ⟨S1x1x1024, .f32⟩
  | 91 => ⟨S8x4096x1024, .f32⟩
  | 92 => ⟨S8x4096x1024, .f32⟩
  | 93 => ⟨S8x4096x1024, .f32⟩
  | 94 => ⟨S1x1024, .f32⟩
  | 95 => ⟨S1024, .f32⟩
  | 96 => ⟨S8x4096x1024, .f32⟩
  | 97 => ⟨S1x1x1024, .f32⟩
  | 98 => ⟨S8x4096x1024, .f32⟩
  | 99 => ⟨S8x4096x1024, .f32⟩
  | 100 => ⟨S8x4096x1024, .f32⟩
  | 101 => ⟨S1x1024, .f32⟩
  | 102 => ⟨S1024, .f32⟩
  | 103 => ⟨S8x4096x1024, .f32⟩
  | 104 => ⟨S1x1x1024, .f32⟩
  | 105 => ⟨S8x4096x1024, .f32⟩
  | 106 => ⟨S8x4096x1024, .f32⟩
  | 107 => ⟨S8x4096x1024, .f32⟩
  | 108 => ⟨S1x1024, .f32⟩
  | 109 => ⟨S1024, .f32⟩
  | 110 => ⟨S8x4096x1024, .f32⟩
  | 111 => ⟨S1x1x1024, .f32⟩
  | 112 => ⟨S8x4096x1024, .f32⟩
  | 113 => ⟨S8x4096x1024, .f32⟩
  | 114 => ⟨S8x4096x1024, .f32⟩
  | 115 => ⟨S1x1024, .f32⟩
  | 116 => ⟨S1024, .f32⟩
  | 117 => ⟨S8x4096x1024, .f32⟩
  | 118 => ⟨S1x1x1024, .f32⟩
  | 119 => ⟨S8x4096x1024, .f32⟩
  | 120 => ⟨S8x4096x1024, .f32⟩
  | 121 => ⟨S8x4096x1024, .f32⟩
  | 122 => ⟨S1x1024, .f32⟩
  | 123 => ⟨S1024, .f32⟩
  | 124 => ⟨S8x4096x1024, .f32⟩
  | 125 => ⟨S1x1x1024, .f32⟩
  | 126 => ⟨S8x4096x1024, .f32⟩
  | 127 => ⟨S8x4096x1024, .f32⟩
  | _ => ⟨S32768x7168, .bf16⟩

abbrev hbmTy0_1 (i : Nat) : BufTy := match i % 128 with
  | 0 => ⟨S8x4096x1024, .f32⟩
  | 1 => ⟨S1x1024, .f32⟩
  | 2 => ⟨S1024, .f32⟩
  | 3 => ⟨S8x4096x1024, .f32⟩
  | 4 => ⟨S1x1x1024, .f32⟩
  | 5 => ⟨S8x4096x1024, .f32⟩
  | 6 => ⟨S8x4096x1024, .f32⟩
  | 7 => ⟨S8x4096x1024, .f32⟩
  | 8 => ⟨S1x1024, .f32⟩
  | 9 => ⟨S1024, .f32⟩
  | 10 => ⟨S8x4096x1024, .f32⟩
  | 11 => ⟨S1x1x1024, .f32⟩
  | 12 => ⟨S8x4096x1024, .f32⟩
  | 13 => ⟨S8x4096x1024, .f32⟩
  | 14 => ⟨S8x4096x1024, .f32⟩
  | 15 => ⟨S1x1024, .f32⟩
  | 16 => ⟨S1024, .f32⟩
  | 17 => ⟨S8x4096x1024, .f32⟩
  | 18 => ⟨S1x1x1024, .f32⟩
  | 19 => ⟨S8x4096x1024, .f32⟩
  | 20 => ⟨S8x4096x1024, .f32⟩
  | 21 => ⟨S8x4096x1024, .f32⟩
  | 22 => ⟨S1x1024, .f32⟩
  | 23 => ⟨S1024, .f32⟩
  | 24 => ⟨S8x4096x1024, .f32⟩
  | 25 => ⟨S1x1x1024, .f32⟩
  | 26 => ⟨S8x4096x1024, .f32⟩
  | 27 => ⟨S8x4096x1024, .f32⟩
  | 28 => ⟨S8x4096x1024, .f32⟩
  | 29 => ⟨S1x1024, .f32⟩
  | 30 => ⟨S1024, .f32⟩
  | 31 => ⟨S8x4096x1024, .f32⟩
  | 32 => ⟨S1x1x1024, .f32⟩
  | 33 => ⟨S8x4096x1024, .f32⟩
  | 34 => ⟨S8x4096x1024, .f32⟩
  | 35 => ⟨S8x4096x1024, .f32⟩
  | 36 => ⟨S1x1024, .f32⟩
  | 37 => ⟨S1024, .f32⟩
  | 38 => ⟨S8x4096x1024, .f32⟩
  | 39 => ⟨S1x1x1024, .f32⟩
  | 40 => ⟨S8x4096x1024, .f32⟩
  | 41 => ⟨S8x4096x1024, .f32⟩
  | 42 => ⟨S8x4096x1024, .f32⟩
  | 43 => ⟨S1x1024, .f32⟩
  | 44 => ⟨S1024, .f32⟩
  | 45 => ⟨S8x4096x1024, .f32⟩
  | 46 => ⟨S1x1x1024, .f32⟩
  | 47 => ⟨S8x4096x1024, .f32⟩
  | 48 => ⟨S8x4096x1024, .f32⟩
  | 49 => ⟨S8x4096x1024, .f32⟩
  | 50 => ⟨S1x1024, .f32⟩
  | 51 => ⟨S1024, .f32⟩
  | 52 => ⟨S8x4096x1024, .f32⟩
  | 53 => ⟨S1x1x1024, .f32⟩
  | 54 => ⟨S8x4096x1024, .f32⟩
  | 55 => ⟨S8x4096x1024, .f32⟩
  | 56 => ⟨S8x4096x1024, .f32⟩
  | 57 => ⟨S1x1024, .f32⟩
  | 58 => ⟨S1024, .f32⟩
  | 59 => ⟨S8x4096x1024, .f32⟩
  | 60 => ⟨S1x1x1024, .f32⟩
  | 61 => ⟨S8x4096x1024, .f32⟩
  | 62 => ⟨S8x4096x1024, .f32⟩
  | 63 => ⟨S8x4096x1024, .f32⟩
  | 64 => ⟨S1x1024, .f32⟩
  | 65 => ⟨S1024, .f32⟩
  | 66 => ⟨S8x4096x1024, .f32⟩
  | 67 => ⟨S1x1x1024, .f32⟩
  | 68 => ⟨S8x4096x1024, .f32⟩
  | 69 => ⟨S8x4096x1024, .f32⟩
  | 70 => ⟨S8x4096x1024, .f32⟩
  | 71 => ⟨S1x1024, .f32⟩
  | 72 => ⟨S1024, .f32⟩
  | 73 => ⟨S8x4096x1024, .f32⟩
  | 74 => ⟨S1x1x1024, .f32⟩
  | 75 => ⟨S8x4096x1024, .f32⟩
  | 76 => ⟨S8x4096x1024, .f32⟩
  | 77 => ⟨S8x4096x1024, .f32⟩
  | 78 => ⟨S1x1024, .f32⟩
  | 79 => ⟨S1024, .f32⟩
  | 80 => ⟨S8x4096x1024, .f32⟩
  | 81 => ⟨S1x1x1024, .f32⟩
  | 82 => ⟨S8x4096x1024, .f32⟩
  | 83 => ⟨S8x4096x1024, .f32⟩
  | 84 => ⟨S8x4096x1024, .f32⟩
  | 85 => ⟨S1x1024, .f32⟩
  | 86 => ⟨S1024, .f32⟩
  | 87 => ⟨S8x4096x1024, .f32⟩
  | 88 => ⟨S1x1x1024, .f32⟩
  | 89 => ⟨S8x4096x1024, .f32⟩
  | 90 => ⟨S8x4096x1024, .f32⟩
  | 91 => ⟨S8x4096x1024, .f32⟩
  | 92 => ⟨S1x1024, .f32⟩
  | 93 => ⟨S1024, .f32⟩
  | 94 => ⟨S8x4096x1024, .f32⟩
  | 95 => ⟨S1x1x1024, .f32⟩
  | 96 => ⟨S8x4096x1024, .f32⟩
  | 97 => ⟨S8x4096x1024, .f32⟩
  | 98 => ⟨S8x4096x1024, .f32⟩
  | 99 => ⟨S1x1024, .f32⟩
  | 100 => ⟨S1024, .f32⟩
  | 101 => ⟨S8x4096x1024, .f32⟩
  | 102 => ⟨S1x1x1024, .f32⟩
  | 103 => ⟨S8x4096x1024, .f32⟩
  | 104 => ⟨S8x4096x1024, .f32⟩
  | 105 => ⟨S8x4096x1024, .f32⟩
  | 106 => ⟨S1x1024, .f32⟩
  | 107 => ⟨S1024, .f32⟩
  | 108 => ⟨S8x4096x1024, .f32⟩
  | 109 => ⟨S1x1x1024, .f32⟩
  | 110 => ⟨S8x4096x1024, .f32⟩
  | 111 => ⟨S8x4096x1024, .f32⟩
  | 112 => ⟨S8x4096x1024, .f32⟩
  | 113 => ⟨S1x1024, .f32⟩
  | 114 => ⟨S1024, .f32⟩
  | 115 => ⟨S8x4096x1024, .f32⟩
  | 116 => ⟨S1x1x1024, .f32⟩
  | 117 => ⟨S8x4096x1024, .f32⟩
  | 118 => ⟨S8x4096x1024, .f32⟩
  | 119 => ⟨S8x4096x1024, .f32⟩
  | 120 => ⟨S1x1x1024, .f32⟩
  | 121 => ⟨S8x4096x1024, .f32⟩
  | 122 => ⟨S8x4096x1024, .f32⟩
  | 123 => ⟨S_, .f32⟩
  | 124 => ⟨S8x4096, .f32⟩
  | 125 => ⟨S8x4096x1, .f32⟩
  | 126 => ⟨S_, .f32⟩
  | 127 => ⟨S8x4096x1, .f32⟩
  | _ => ⟨S32768x7168, .bf16⟩

abbrev hbmTy0_2 (i : Nat) : BufTy := match i % 128 with
  | 0 => ⟨S8x4096x1, .f32⟩
  | 1 => ⟨S8x4096x1024, .f32⟩
  | 2 => ⟨S8x4096x1024, .f32⟩
  | 3 => ⟨S8x4096x1024, .f32⟩
  | 4 => ⟨S_, .f32⟩
  | 5 => ⟨S8x4096, .f32⟩
  | 6 => ⟨S8x4096x1, .f32⟩
  | 7 => ⟨S_, .f32⟩
  | 8 => ⟨S8x4096x1, .f32⟩
  | 9 => ⟨S8x4096x1, .f32⟩
  | 10 => ⟨S_, .f32⟩
  | 11 => ⟨S8x4096x1, .f32⟩
  | 12 => ⟨S8x4096x1, .f32⟩
  | 13 => ⟨S8x4096x1, .f32⟩
  | 14 => ⟨S8x4096x1024, .f32⟩
  | 15 => ⟨S8x4096x1024, .f32⟩
  | 16 => ⟨S1x1x1024, .f32⟩
  | 17 => ⟨S8x4096x1024, .f32⟩
  | 18 => ⟨S8x4096x1024, .f32⟩
  | 19 => ⟨S1x1x1024, .f32⟩
  | 20 => ⟨S8x4096x1024, .f32⟩
  | 21 => ⟨S8x4096x1024, .f32⟩
  | 22 => ⟨S8x4096x1024, .f32⟩
  | 23 => ⟨S8x4096x1024, .f32⟩
  | 24 => ⟨S_, .f32⟩
  | 25 => ⟨S8x4096x1024, .f32⟩
  | 26 => ⟨S8x4096x1024, .f32⟩
  | 27 => ⟨S_, .f32⟩
  | 28 => ⟨S8x4096x1024, .f32⟩
  | 29 => ⟨S8x4096x1024, .f32⟩
  | 30 => ⟨S8x4096x1024, .f32⟩
  | 31 => ⟨S8x4096x1024, .f32⟩
  | 32 => ⟨S8x4096x1024, .f32⟩
  | 33 => ⟨S_, .f32⟩
  | 34 => ⟨S8x4096x1024, .f32⟩
  | 35 => ⟨S8x4096x1024, .f32⟩
  | 36 => ⟨S_, .f32⟩
  | 37 => ⟨S8x4096x1024, .f32⟩
  | 38 => ⟨S8x4096x1024, .f32⟩
  | 39 => ⟨S8x4096x1024, .f32⟩
  | 40 => ⟨S8x4096x1024, .f32⟩
  | 41 => ⟨S8x4096x1024, .f32⟩
  | 42 => ⟨S_, .i32⟩
  | 43 => ⟨S_, .f32⟩
  | 44 => ⟨S8x4098x1024, .f32⟩
  | 45 => ⟨S1x1024, .f32⟩
  | 46 => ⟨S1024, .f32⟩
  | 47 => ⟨S8x4096x1024, .f32⟩
  | 48 => ⟨S1x1x1024, .f32⟩
  | 49 => ⟨S8x4096x1024, .f32⟩
  | 50 => ⟨S8x4096x1024, .f32⟩
  | 51 => ⟨S_, .f32⟩
  | 52 => ⟨S8x4096x1024, .f32⟩
  | 53 => ⟨S8x4096x1024, .f32⟩
  | 54 => ⟨S1x1024, .f32⟩
  | 55 => ⟨S1024, .f32⟩
  | 56 => ⟨S8x4096x1024, .f32⟩
  | 57 => ⟨S1x1x1024, .f32⟩
  | 58 => ⟨S8x4096x1024, .f32⟩
  | 59 => ⟨S8x4096x1024, .f32⟩
  | 60 => ⟨S8x4096x1024, .f32⟩
  | 61 => ⟨S1x1024, .f32⟩
  | 62 => ⟨S1024, .f32⟩
  | 63 => ⟨S8x4096x1024, .f32⟩
  | 64 => ⟨S1x1x1024, .f32⟩
  | 65 => ⟨S8x4096x1024, .f32⟩
  | 66 => ⟨S8x4096x1024, .f32⟩
  | 67 => ⟨S8x4096x1024, .f32⟩
  | 68 => ⟨S8x4096x1024, .f32⟩
  | 69 => ⟨S8x4096x1024, .f32⟩
  | 70 => ⟨S8x4096x1024, .f32⟩
  | 71 => ⟨S_, .f32⟩
  | 72 => ⟨S8x4096x1024, .f32⟩
  | 73 => ⟨S8x4096x1024, .f32⟩
  | 74 => ⟨S_, .f32⟩
  | 75 => ⟨S8x4096x1024, .f32⟩
  | 76 => ⟨S8x4096x1024, .f32⟩
  | 77 => ⟨S8x4096x1024, .f32⟩
  | 78 => ⟨S8x4096x1024, .f32⟩
  | 79 => ⟨S8x4096x2048, .f32⟩
  | 80 => ⟨S8x4096x2048, .f32⟩
  | 81 => ⟨S32768x2048, .f32⟩
  | 82 => ⟨S32768x2048, .f32⟩
  | _ => ⟨S32768x7168, .bf16⟩

abbrev hbmTy (i : Nat) : BufTy := match i / 128 with
  | 0 => hbmTy0_0 i
  | 1 => hbmTy0_1 i
  | 2 => hbmTy0_2 i
  | _ => ⟨S32768x7168, .bf16⟩

abbrev bufTy : (tb : Table) → Fin (tcTables nBuf tb) → BufTy
  | .hbm, ⟨i, _⟩ => hbmTy i
  | _, _ => ⟨S32768x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_cst_2 : Ref sig .tc := ⟨.hbm, 251, rfl⟩
abbrev main_v238 : Ref sig .tc := ⟨.hbm, 252, rfl⟩
abbrev main_v239 : Ref sig .tc := ⟨.hbm, 253, rfl⟩
abbrev main_cst_3 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_cst_4 : Ref sig .tc := ⟨.hbm, 260, rfl⟩
abbrev main_v245 : Ref sig .tc := ⟨.hbm, 261, rfl⟩
abbrev main_v246 : Ref sig .tc := ⟨.hbm, 262, rfl⟩
abbrev main_cst_5 : Ref sig .tc := ⟨.hbm, 263, rfl⟩
abbrev main_v247 : Ref sig .tc := ⟨.hbm, 264, rfl⟩
abbrev main_v248 : Ref sig .tc := ⟨.hbm, 265, rfl⟩
abbrev main_cst_6 : Ref sig .tc := ⟨.hbm, 266, rfl⟩
abbrev main_v249 : Ref sig .tc := ⟨.hbm, 267, rfl⟩
abbrev main_v250 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_v256 : Ref sig .tc := ⟨.hbm, 274, rfl⟩
abbrev main_v257 : Ref sig .tc := ⟨.hbm, 275, rfl⟩
abbrev main_v258 : Ref sig .tc := ⟨.hbm, 276, rfl⟩
abbrev main_v259 : Ref sig .tc := ⟨.hbm, 277, rfl⟩
abbrev main_call1_v0 : Ref sig .tc := ⟨.hbm, 278, rfl⟩
abbrev main_call1_v1 : Ref sig .tc := ⟨.hbm, 279, rfl⟩
abbrev main_call1_cst : Ref sig .tc := ⟨.hbm, 280, rfl⟩
abbrev main_call1_v2 : Ref sig .tc := ⟨.hbm, 281, rfl⟩
abbrev main_call1_v3 : Ref sig .tc := ⟨.hbm, 282, rfl⟩
abbrev main_call1_cst_0 : Ref sig .tc := ⟨.hbm, 283, rfl⟩
abbrev main_call1_v4 : Ref sig .tc := ⟨.hbm, 284, rfl⟩
abbrev main_call1_v5 : Ref sig .tc := ⟨.hbm, 285, rfl⟩
abbrev main_v260 : Ref sig .tc := ⟨.hbm, 286, rfl⟩
abbrev main_call2_v0 : Ref sig .tc := ⟨.hbm, 287, rfl⟩
abbrev main_call2_v1 : Ref sig .tc := ⟨.hbm, 288, rfl⟩
abbrev main_call2_cst : Ref sig .tc := ⟨.hbm, 289, rfl⟩
abbrev main_call2_v2 : Ref sig .tc := ⟨.hbm, 290, rfl⟩
abbrev main_call2_v3 : Ref sig .tc := ⟨.hbm, 291, rfl⟩
abbrev main_call2_cst_0 : Ref sig .tc := ⟨.hbm, 292, rfl⟩
abbrev main_call2_v4 : Ref sig .tc := ⟨.hbm, 293, rfl⟩
abbrev main_call2_v5 : Ref sig .tc := ⟨.hbm, 294, rfl⟩
abbrev main_v261 : Ref sig .tc := ⟨.hbm, 295, rfl⟩
abbrev main_v262 : Ref sig .tc := ⟨.hbm, 296, rfl⟩
abbrev main_v263 : Ref sig .tc := ⟨.hbm, 297, rfl⟩
abbrev main_c_7 : Ref sig .tc := ⟨.hbm, 298, rfl⟩
abbrev main_call3_v0 : Ref sig .tc := ⟨.hbm, 299, rfl⟩
abbrev main_v264 : Ref sig .tc := ⟨.hbm, 300, rfl⟩
abbrev main_v265 : Ref sig .tc := ⟨.hbm, 301, rfl⟩
abbrev main_v266 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_cst_8 : Ref sig .tc := ⟨.hbm, 307, rfl⟩
abbrev main_v271 : Ref sig .tc := ⟨.hbm, 308, rfl⟩
abbrev main_v272 : Ref sig .tc := ⟨.hbm, 309, rfl⟩
abbrev main_v273 : Ref sig .tc := ⟨.hbm, 310, rfl⟩
abbrev main_v274 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_v280 : Ref sig .tc := ⟨.hbm, 317, rfl⟩
abbrev main_v281 : Ref sig .tc := ⟨.hbm, 318, rfl⟩
abbrev main_v282 : Ref sig .tc := ⟨.hbm, 319, rfl⟩
abbrev main_v283 : Ref sig .tc := ⟨.hbm, 320, rfl⟩
abbrev main_v284 : Ref sig .tc := ⟨.hbm, 321, rfl⟩
abbrev main_v285 : Ref sig .tc := ⟨.hbm, 322, rfl⟩
abbrev main_v286 : Ref sig .tc := ⟨.hbm, 323, rfl⟩
abbrev main_v287 : Ref sig .tc := ⟨.hbm, 324, rfl⟩
abbrev main_call4_v0 : Ref sig .tc := ⟨.hbm, 325, rfl⟩
abbrev main_call4_v1 : Ref sig .tc := ⟨.hbm, 326, rfl⟩
abbrev main_call4_cst : Ref sig .tc := ⟨.hbm, 327, rfl⟩
abbrev main_call4_v2 : Ref sig .tc := ⟨.hbm, 328, rfl⟩
abbrev main_call4_v3 : Ref sig .tc := ⟨.hbm, 329, rfl⟩
abbrev main_call4_cst_0 : Ref sig .tc := ⟨.hbm, 330, rfl⟩
abbrev main_call4_v4 : Ref sig .tc := ⟨.hbm, 331, rfl⟩
abbrev main_call4_v5 : Ref sig .tc := ⟨.hbm, 332, rfl⟩
abbrev main_v288 : Ref sig .tc := ⟨.hbm, 333, rfl⟩
abbrev main_v289 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_v293 : Ref sig .tc := ⟨.hbm, 338, rfl⟩

abbrev nD : Nat := 1
abbrev τ : Topo := Topo.v7x

variable {F : FTy → Type} [FloatOps F]
-- ==== Nm.lean ====
abbrev S32768x2048 : Shape := ⟨2, ![32768, 2048]⟩
abbrev S2048 : Shape := ⟨1, ![2048]⟩
abbrev S2048x7168 : Shape := ⟨2, ![2048, 7168]⟩
abbrev S1x2048 : Shape := ⟨2, ![1, 2048]⟩
abbrev S32768x7168 : Shape := ⟨2, ![32768, 7168]⟩
abbrev S1024x2048 : Shape := ⟨2, ![1024, 2048]⟩
abbrev S2048x1792 : Shape := ⟨2, ![2048, 1792]⟩
abbrev S1024x1792 : Shape := ⟨2, ![1024, 1792]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x7168, .f32⟩
  | .hbm, ⟨3, _⟩ => ⟨S2048x7168, .bf16⟩
  | .hbm, ⟨4, _⟩ => ⟨S1x2048, .f32⟩
  | .hbm, ⟨5, _⟩ => ⟨S32768x7168, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1792, .bf16⟩
  | .local _ .vmem, ⟨4, _⟩ => ⟨S2048x1792, .bf16⟩
  | .local _ .vmem, ⟨5, _⟩ => ⟨S1024x1792, .bf16⟩
  | .local _ .vmem, ⟨6, _⟩ => ⟨S1024x1792, .bf16⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NmRefIdeal.lean ====
abbrev S32768x2048 : Shape := ⟨2, ![32768, 2048]⟩
abbrev S2048 : Shape := ⟨1, ![2048]⟩
abbrev S2048x7168 : Shape := ⟨2, ![2048, 7168]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x7168 : Shape := ⟨2, ![32768, 7168]⟩

abbrev nBuf : Space → Nat
  | .hbm => 21
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x7168, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x7168, .f32⟩
  | .hbm, ⟨20, _⟩ => ⟨S32768x7168, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Out.lean ====
abbrev S32768x2048 : Shape := ⟨2, ![32768, 2048]⟩
abbrev S32768x1024 : Shape := ⟨2, ![32768, 1024]⟩
abbrev S2048x2048 : Shape := ⟨2, ![2048, 2048]⟩
abbrev S1024x2048 : Shape := ⟨2, ![1024, 2048]⟩
abbrev S512x2048 : Shape := ⟨2, ![512, 2048]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S2048x2048, .f32⟩
  | .hbm, ⟨4, _⟩ => ⟨S2048x2048, .bf16⟩
  | .hbm, ⟨5, _⟩ => ⟨S1024x2048, .bf16⟩
  | .hbm, ⟨6, _⟩ => ⟨S1024x2048, .bf16⟩
  | .hbm, ⟨7, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S32768x2048 : Shape := ⟨2, ![32768, 2048]⟩
abbrev S32768x1024 : Shape := ⟨2, ![32768, 1024]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S2048x2048, .f32⟩
  | .hbm, ⟨4, _⟩ => ⟨S32768x1024, .f32⟩
  | .hbm, ⟨5, _⟩ => ⟨S32768x1024, .f32⟩
  | .hbm, ⟨6, _⟩ => ⟨S32768x2048, .f32⟩
  | .hbm, ⟨7, _⟩ => ⟨S32768x2048, .f32⟩
  | .hbm, ⟨8, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Ab.lean ====
abbrev S32768x2048 : Shape := ⟨2, ![32768, 2048]⟩
abbrev S2048 : Shape := ⟨1, ![2048]⟩
abbrev S2048x5984 : Shape := ⟨2, ![2048, 5984]⟩
abbrev S2048x512 : Shape := ⟨2, ![2048, 512]⟩
abbrev S2048x256 : Shape := ⟨2, ![2048, 256]⟩
abbrev S2048x64 : Shape := ⟨2, ![2048, 64]⟩
abbrev S2048x16 : Shape := ⟨2, ![2048, 16]⟩
abbrev S2048x1024 : Shape := ⟨2, ![2048, 1024]⟩
abbrev S2048x3072 : Shape := ⟨2, ![2048, 3072]⟩
abbrev S2048x8 : Shape := ⟨2, ![2048, 8]⟩
abbrev S2048x96 : Shape := ⟨2, ![2048, 96]⟩
abbrev S_ : Shape := ⟨0, ![]⟩
abbrev S2048x128 : Shape := ⟨2, ![2048, 128]⟩
abbrev S2048x5888 : Shape := ⟨2, ![2048, 5888]⟩
abbrev S2048x6144 : Shape := ⟨2, ![2048, 6144]⟩
abbrev S1x2048 : Shape := ⟨2, ![1, 2048]⟩
abbrev S32768x6144 : Shape := ⟨2, ![32768, 6144]⟩
abbrev S32768x128 : Shape := ⟨2, ![32768, 128]⟩
abbrev S1024x2048 : Shape := ⟨2, ![1024, 2048]⟩
abbrev S2048x2048 : Shape := ⟨2, ![2048, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 25
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5984, .f32⟩
  | .hbm, ⟨3, _⟩ => ⟨S2048x512, .f32⟩
  | .hbm, ⟨4, _⟩ => ⟨S2048x256, .f32⟩
  | .hbm, ⟨5, _⟩ => ⟨S2048x64, .f32⟩
  | .hbm, ⟨6, _⟩ => ⟨S2048x16, .f32⟩
  | .hbm, ⟨7, _⟩ => ⟨S2048x1024, .f32⟩
  | .hbm, ⟨8, _⟩ => ⟨S2048x3072, .f32⟩
  | .hbm, ⟨9, _⟩ => ⟨S2048x8, .f32⟩
  | .hbm, ⟨10, _⟩ => ⟨S2048x8, .f32⟩
  | .hbm, ⟨11, _⟩ => ⟨S2048x1024, .f32⟩
  | .hbm, ⟨12, _⟩ => ⟨S2048x96, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S2048x5888, .f32⟩
  | .hbm, ⟨17, _⟩ => ⟨S_, .i32⟩
  | .hbm, ⟨18, _⟩ => ⟨S_, .f32⟩
  | .hbm, ⟨19, _⟩ => ⟨S2048x6144, .f32⟩
  | .hbm, ⟨20, _⟩ => ⟨S2048x6144, .bf16⟩
  | .hbm, ⟨21, _⟩ => ⟨S2048x128, .bf16⟩
  | .hbm, ⟨22, _⟩ => ⟨S1x2048, .f32⟩
  | .hbm, ⟨23, _⟩ => ⟨S32768x6144, .bf16⟩
  | .hbm, ⟨24, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S2048x128, .bf16⟩
  | .local _ .vmem, ⟨6, _⟩ => ⟨S1024x2048, .bf16⟩
  | .local _ .vmem, ⟨7, _⟩ => ⟨S1024x2048, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== AbRefIdeal.lean ====
abbrev S32768x2048 : Shape := ⟨2, ![32768, 2048]⟩
abbrev S2048 : Shape := ⟨1, ![2048]⟩
abbrev S2048x5984 : Shape := ⟨2, ![2048, 5984]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5984 : Shape := ⟨2, ![32768, 5984]⟩
abbrev S32768x512 : Shape := ⟨2, ![32768, 512]⟩
abbrev S32768x256 : Shape := ⟨2, ![32768, 256]⟩
abbrev S32768x64 : Shape := ⟨2, ![32768, 64]⟩
abbrev S32768x16 : Shape := ⟨2, ![32768, 16]⟩
abbrev S32768x1024 : Shape := ⟨2, ![32768, 1024]⟩
abbrev S32768x3072 : Shape := ⟨2, ![32768, 3072]⟩
abbrev S32768x8 : Shape := ⟨2, ![32768, 8]⟩
abbrev S32768x6144 : Shape := ⟨2, ![32768, 6144]⟩
abbrev S32768x32 : Shape := ⟨2, ![32768, 32]⟩
abbrev S32768x128 : Shape := ⟨2, ![32768, 128]⟩

abbrev nBuf : Space → Nat
  | .hbm => 36
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5984, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x5984, .f32⟩
  | .hbm, ⟨20, _⟩ => ⟨S32768x512, .f32⟩
  | .hbm, ⟨21, _⟩ => ⟨S32768x256, .f32⟩
  | .hbm, ⟨22, _⟩ => ⟨S32768x64, .f32⟩
  | .hbm, ⟨23, _⟩ => ⟨S32768x16, .f32⟩
  | .hbm, ⟨24, _⟩ => ⟨S32768x1024, .f32⟩
  | .hbm, ⟨25, _⟩ => ⟨S32768x3072, .f32⟩
  | .hbm, ⟨26, _⟩ => ⟨S32768x8, .f32⟩
  | .hbm, ⟨27, _⟩ => ⟨S32768x8, .f32⟩
  | .hbm, ⟨28, _⟩ => ⟨S32768x1024, .f32⟩
  | .hbm, ⟨29, _⟩ => ⟨S_, .f32⟩
  | .hbm, ⟨30, _⟩ => ⟨S32768x256, .f32⟩
  | .hbm, ⟨31, _⟩ => ⟨S32768x6144, .f32⟩
  | .hbm, ⟨32, _⟩ => ⟨S_, .f32⟩
  | .hbm, ⟨33, _⟩ => ⟨S32768x32, .f32⟩
  | .hbm, ⟨34, _⟩ => ⟨S32768x128, .f32⟩
  | .hbm, ⟨35, _⟩ => ⟨S32768x6144, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Dsa.lean ====
abbrev S32768x6144 : Shape := ⟨2, ![32768, 6144]⟩
abbrev S32768x128 : Shape := ⟨2, ![32768, 128]⟩
abbrev S512 : Shape := ⟨1, ![512]⟩
abbrev S256 : Shape := ⟨1, ![256]⟩
abbrev S512x1024 : Shape := ⟨2, ![512, 1024]⟩
abbrev S256x1024 : Shape := ⟨2, ![256, 1024]⟩
abbrev S128 : Shape := ⟨1, ![128]⟩
abbrev S64 : Shape := ⟨1, ![64]⟩
abbrev S1x512 : Shape := ⟨2, ![1, 512]⟩
abbrev S1x256 : Shape := ⟨2, ![1, 256]⟩
abbrev S1024x256 : Shape := ⟨2, ![1024, 256]⟩
abbrev S1x128 : Shape := ⟨2, ![1, 128]⟩
abbrev S1x64 : Shape := ⟨2, ![1, 64]⟩
abbrev S32768x1024 : Shape := ⟨2, ![32768, 1024]⟩
abbrev S64x1152x512 : Shape := ⟨3, ![64, 1152, 512]⟩
abbrev S512x512 : Shape := ⟨2, ![512, 512]⟩
abbrev S512x256 : Shape := ⟨2, ![512, 256]⟩
abbrev S512x128 : Shape := ⟨2, ![512, 128]⟩
abbrev S1x1152x512 : Shape := ⟨3, ![1, 1152, 512]⟩
abbrev S512x1 : Shape := ⟨2, ![512, 1]⟩
abbrev S1024x512 : Shape := ⟨2, ![1024, 512]⟩
abbrev S16x512 : Shape := ⟨2, ![16, 512]⟩
abbrev S128x512 : Shape := ⟨2, ![128, 512]⟩
abbrev S1x128x512 : Shape := ⟨3, ![1, 128, 512]⟩
abbrev S1x16x512 : Shape := ⟨3, ![1, 16, 512]⟩
abbrev S512x64 : Shape := ⟨2, ![512, 64]⟩

abbrev nBuf : Space → Nat
  | .hbm => 29
  | .vmem => 28
  | .smem => 0
  | _ => 0

abbrev bufTy : (tb : Table) → Fin (tcTables nBuf tb) → BufTy
  | .hbm, ⟨0, _⟩ => ⟨S32768x6144, .bf16⟩
  | .hbm, ⟨1, _⟩ => ⟨S32768x128, .f32⟩
  | .hbm, ⟨2, _⟩ => ⟨S512, .f32⟩
  | .hbm, ⟨3, _⟩ => ⟨S256, .f32⟩
  | .hbm, ⟨4, _⟩ => ⟨S512x1024, .f32⟩
  | .hbm, ⟨5, _⟩ => ⟨S512x1024, .f32⟩
  | .hbm, ⟨6, _⟩ => ⟨S256x1024, .f32⟩
  | .hbm, ⟨7, _⟩ => ⟨S256x1024, .f32⟩
  | .hbm, ⟨8, _⟩ => ⟨S128, .f32⟩
  | .hbm, ⟨9, _⟩ => ⟨S128, .f32⟩
  | .hbm, ⟨10, _⟩ => ⟨S64, .f32⟩
  | .hbm, ⟨11, _⟩ => ⟨S64, .f32⟩
  | .hbm, ⟨12, _⟩ => ⟨S1x512, .f32⟩
  | .hbm, ⟨13, _⟩ => ⟨S1x256, .f32⟩
  | .hbm, ⟨14, _⟩ => ⟨S512x1024, .bf16⟩
  | .hbm, ⟨15, _⟩ => ⟨S512x1024, .bf16⟩
  | .hbm, ⟨16, _⟩ => ⟨S256x1024, .bf16⟩
  | .hbm, ⟨17, _⟩ => ⟨S1024x256, .f32⟩
  | .hbm, ⟨18, _⟩ => ⟨S1024x256, .bf16⟩
  | .hbm, ⟨19, _⟩ => ⟨S1x128, .f32⟩
  | .hbm, ⟨20, _⟩ => ⟨S1x128, .f32⟩
  | .hbm, ⟨21, _⟩ => ⟨S1x64, .f32⟩
  | .hbm, ⟨22, _⟩ => ⟨S1x64, .f32⟩
  | .hbm, ⟨23, _⟩ => ⟨S32768x1024, .bf16⟩
  | .hbm, ⟨24, _⟩ => ⟨S32768x1024, .bf16⟩
  | .hbm, ⟨25, _⟩ => ⟨S64x1152x512, .bf16⟩
  | .hbm, ⟨26, _⟩ => ⟨S32768x1024, .bf16⟩
  | .hbm, ⟨27, _⟩ => ⟨S32768x128, .bf16⟩
  | .hbm, ⟨28, _⟩ => ⟨S32768x128, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x128, .f32⟩
  | .local _ .vmem, ⟨5, _⟩ => ⟨S512x128, .f32⟩
  | .local _ .vmem, ⟨6, _⟩ => ⟨S1x512, .f32⟩
  | .local _ .vmem, ⟨7, _⟩ => ⟨S1x256, .f32⟩
  | .local _ .vmem, ⟨8, _⟩ => ⟨S512x1024, .bf16⟩
  | .local _ .vmem, ⟨9, _⟩ => ⟨S512x1024, .bf16⟩
  | .local _ .vmem, ⟨10, _⟩ => ⟨S256x1024, .bf16⟩
  | .local _ .vmem, ⟨11, _⟩ => ⟨S1024x256, .bf16⟩
  | .local _ .vmem, ⟨12, _⟩ => ⟨S1x128, .f32⟩
  | .local _ .vmem, ⟨13, _⟩ => ⟨S1x128, .f32⟩
  | .local _ .vmem, ⟨14, _⟩ => ⟨S1x64, .f32⟩
  | .local _ .vmem, ⟨15, _⟩ => ⟨S1x64, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x1152x512, .bf16⟩
  | .local _ .vmem, ⟨21, _⟩ => ⟨S1x1152x512, .bf16⟩
  | .local _ .vmem, ⟨22, _⟩ => ⟨S512x1024, .bf16⟩
  | .local _ .vmem, ⟨23, _⟩ => ⟨S512x1024, .bf16⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S512x128, .bf16⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1152x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== DsaRefIdeal.lean ====
abbrev S32768x6144 : Shape := ⟨2, ![32768, 6144]⟩
abbrev S32768x128 : Shape := ⟨2, ![32768, 128]⟩
abbrev S512 : Shape := ⟨1, ![512]⟩
abbrev S256 : Shape := ⟨1, ![256]⟩
abbrev S512x1024 : Shape := ⟨2, ![512, 1024]⟩
abbrev S256x1024 : Shape := ⟨2, ![256, 1024]⟩
abbrev S128 : Shape := ⟨1, ![128]⟩
abbrev S64 : Shape := ⟨1, ![64]⟩
abbrev S32768x512 : Shape := ⟨2, ![32768, 512]⟩
abbrev S_ : Shape := ⟨0, ![]⟩
abbrev S32768 : Shape := ⟨1, ![32768]⟩
abbrev S32768x1 : Shape := ⟨2, ![32768, 1]⟩
abbrev S1x512 : Shape := ⟨2, ![1, 512]⟩
abbrev S32768x1024 : Shape := ⟨2, ![32768, 1024]⟩
abbrev S32768x8x128 : Shape := ⟨3, ![32768, 8, 128]⟩
abbrev S32768x8 : Shape := ⟨2, ![32768, 8]⟩
abbrev S32768x8x1 : Shape := ⟨3, ![32768, 8, 1]⟩
abbrev S1x1x128 : Shape := ⟨3, ![1, 1, 128]⟩
abbrev S32768x256 : Shape := ⟨2, ![32768, 256]⟩
abbrev S1x256 : Shape := ⟨2, ![1, 256]⟩
abbrev S64x512x8x128 : Shape := ⟨4, ![64, 512, 8, 128]⟩
abbrev S64x8x128x512 : Shape := ⟨4, ![64, 8, 128, 512]⟩
abbrev S64x8x16x512 : Shape := ⟨4, ![64, 8, 16, 512]⟩
abbrev S64x8x144x512 : Shape := ⟨4, ![64, 8, 144, 512]⟩
abbrev S32768x64 : Shape := ⟨2, ![32768, 64]⟩
abbrev S1x64 : Shape := ⟨2, ![1, 64]⟩
abbrev S64x1152x512 : Shape := ⟨3, ![64, 1152, 512]⟩

abbrev nBuf : Space → Nat
  | .hbm => 135
  | .vmem => 0
  | .smem => 0
  | _ => 0

abbrev hbmTy0_0 (i : Nat) : BufTy := match i % 128 with
  | 0 => ⟨S32768x6144, .bf16⟩
  | 1 => ⟨S32768x128, .f32⟩
  | 2 => ⟨S512, .f32⟩
  | 3 => ⟨S256, .f32⟩
  | 4 => ⟨S512x1024, .f32⟩
  | 5 => ⟨S512x1024, .f32⟩
  | 6 => ⟨S256x1024, .f32⟩
  | 7 => ⟨S256x1024, .f32⟩
  | 8 => ⟨S128, .f32⟩
  | 9 => ⟨S128, .f32⟩
  | 10 => ⟨S64, .f32⟩
  | 11 => ⟨S64, .f32⟩
  | 12 => ⟨S32768x512, .bf16⟩
  | 13 => ⟨S32768x512, .f32⟩
  | 14 => ⟨S32768x512, .f32⟩
  | 15 => ⟨S_, .f32⟩
  | 16 => ⟨S32768, .f32⟩
  | 17 => ⟨S32768x1, .f32⟩
  | 18 => ⟨S_, .f32⟩
  | 19 => ⟨S32768x1, .f32⟩
  | 20 => ⟨S32768x1, .f32⟩
  | 21 => ⟨S_, .f32⟩
  | 22 => ⟨S32768x1, .f32⟩
  | 23 => ⟨S32768x1, .f32⟩
  | 24 => ⟨S32768x1, .f32⟩
  | 25 => ⟨S32768x512, .f32⟩
  | 26 => ⟨S32768x512, .f32⟩
  | 27 => ⟨S1x512, .f32⟩
  | 28 => ⟨S32768x512, .f32⟩
  | 29 => ⟨S32768x512, .f32⟩
  | 30 => ⟨S32768x1024, .f32⟩
  | 31 => ⟨S32768x8x128, .f32⟩
  | 32 => ⟨S32768x8x128, .f32⟩
  | 33 => ⟨S_, .f32⟩
  | 34 => ⟨S32768x8, .f32⟩
  | 35 => ⟨S32768x8x1, .f32⟩
  | 36 => ⟨S_, .f32⟩
  | 37 => ⟨S32768x8x1, .f32⟩
  | 38 => ⟨S32768x8x1, .f32⟩
  | 39 => ⟨S_, .f32⟩
  | 40 => ⟨S32768x8x1, .f32⟩
  | 41 => ⟨S32768x8x1, .f32⟩
  | 42 => ⟨S32768x8x1, .f32⟩
  | 43 => ⟨S32768x8x128, .f32⟩
  | 44 => ⟨S32768x8x128, .f32⟩
  | 45 => ⟨S1x1x128, .f32⟩
  | 46 => ⟨S32768x8x128, .f32⟩
  | 47 => ⟨S32768x8x128, .f32⟩
  | 48 => ⟨S_, .f32⟩
  | 49 => ⟨S32768x8x128, .f32⟩
  | 50 => ⟨S32768x8x128, .f32⟩
  | 51 => ⟨S32768x1024, .f32⟩
  | 52 => ⟨S32768x256, .bf16⟩
  | 53 => ⟨S32768x256, .f32⟩
  | 54 => ⟨S32768x256, .f32⟩
  | 55 => ⟨S_, .f32⟩
  | 56 => ⟨S32768, .f32⟩
  | 57 => ⟨S32768x1, .f32⟩
  | 58 => ⟨S_, .f32⟩
  | 59 => ⟨S32768x1, .f32⟩
  | 60 => ⟨S32768x1, .f32⟩
  | 61 => ⟨S_, .f32⟩
  | 62 => ⟨S32768x1, .f32⟩
  | 63 => ⟨S32768x1, .f32⟩
  | 64 => ⟨S32768x1, .f32⟩
  | 65 => ⟨S32768x256, .f32⟩
  | 66 => ⟨S32768x256, .f32⟩
  | 67 => ⟨S1x256, .f32⟩
  | 68 => ⟨S32768x256, .f32⟩
  | 69 => ⟨S32768x256, .f32⟩
  | 70 => ⟨S32768x1024, .f32⟩
  | 71 => ⟨S32768x8x128, .f32⟩
  | 72 => ⟨S32768x8x128, .f32⟩
  | 73 => ⟨S_, .f32⟩
  | 74 => ⟨S32768x8, .f32⟩
  | 75 => ⟨S32768x8x1, .f32⟩
  | 76 => ⟨S_, .f32⟩
  | 77 => ⟨S32768x8x1, .f32⟩
  | 78 => ⟨S32768x8x1, .f32⟩
  | 79 => ⟨S_, .f32⟩
  | 80 => ⟨S32768x8x1, .f32⟩
  | 81 => ⟨S32768x8x1, .f32⟩
  | 82 => ⟨S32768x8x1, .f32⟩
  | 83 => ⟨S32768x8x128, .f32⟩
  | 84 => ⟨S32768x8x128, .f32⟩
  | 85 => ⟨S1x1x128, .f32⟩
  | 86 => ⟨S32768x8x128, .f32⟩
  | 87 => ⟨S32768x8x128, .f32⟩
  | 88 => ⟨S32768x1024, .f32⟩
  | 89 => ⟨S64x512x8x128, .f32⟩
  | 90 => ⟨S64x8x128x512, .f32⟩
  | 91 => ⟨S_, .f32⟩
  | 92 => ⟨S64x8x16x512, .f32⟩
  | 93 => ⟨S64x8x144x512, .f32⟩
  | 94 => ⟨S32768x64, .f32⟩
  | 95 => ⟨S_, .f32⟩
  | 96 => ⟨S32768, .f32⟩
  | 97 => ⟨S32768x1, .f32⟩
  | 98 => ⟨S_, .f32⟩
  | 99 => ⟨S32768x1, .f32⟩
  | 100 => ⟨S32768x1, .f32⟩
  | 101 => ⟨S32768x64, .f32⟩
  | 102 => ⟨S32768x64, .f32⟩
  | 103 => ⟨S32768x64, .f32⟩
  | 104 => ⟨S_, .f32⟩
  | 105 => ⟨S32768, .f32⟩
  | 106 => ⟨S32768x1, .f32⟩
  | 107 => ⟨S_, .f32⟩
  | 108 => ⟨S32768x1, .f32⟩
  | 109 => ⟨S32768x1, .f32⟩
  | 110 => ⟨S_, .f32⟩
  | 111 => ⟨S32768x1, .f32⟩
  | 112 => ⟨S32768x1, .f32⟩
  | 113 => ⟨S32768x1, .f32⟩
  | 114 => ⟨S32768x64, .f32⟩
  | 115 => ⟨S32768x64, .f32⟩
  | 116 => ⟨S1x64, .f32⟩
  | 117 => ⟨S32768x64, .f32⟩
  | 118 => ⟨S32768x64, .f32⟩
  | 119 => ⟨S1x64, .f32⟩
  | 120 => ⟨S32768x64, .f32⟩
  | 121 => ⟨S32768x64, .f32⟩
  | 122 => ⟨S_, .f32⟩
  | 123 => ⟨S32768x64, .f32⟩
  | 124 => ⟨S32768x1024, .f32⟩
  | 125 => ⟨S32768x1024, .f32⟩
  | 126 => ⟨S64x1152x512, .f32⟩
  | 127 => ⟨S32768x128, .f32⟩
  | _ => ⟨S32768x6144, .bf16⟩

abbrev hbmTy0_1 (i : Nat) : BufTy := match i % 128 with
  | 0 => ⟨S32768x128, .f32⟩
  | 1 => ⟨S32768x1024, .bf16⟩
  | 2 => ⟨S32768x1024, .bf16⟩
  | 3 => ⟨S64x1152x512, .bf16⟩
  | 4 => ⟨S32768x1024, .bf16⟩
  | 5 => ⟨S32768x128, .bf16⟩
  | 6 => ⟨S32768x128, .bf16⟩
  | _ => ⟨S32768x6144, .bf16⟩

abbrev hbmTy (i : Nat) : BufTy := match i / 128 with
  | 0 => hbmTy0_0 i
  | 1 => hbmTy0_1 i
  | _ => ⟨S32768x6144, .bf16⟩

abbrev bufTy : (tb : Table) → Fin (tcTables nBuf tb) → BufTy
  | .hbm, ⟨i, _⟩ => hbmTy i
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_18 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]
-- ==== Gdn.lean ====
abbrev S8x4096x6144 : Shape := ⟨3, ![8, 4096, 6144]⟩
abbrev S8x4096x128 : Shape := ⟨3, ![8, 4096, 128]⟩
abbrev S4x3072 : Shape := ⟨2, ![4, 3072]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩
abbrev S8x4096x1024 : Shape := ⟨3, ![8, 4096, 1024]⟩
abbrev S8x64x8x64 : Shape := ⟨4, ![8, 64, 8, 64]⟩
abbrev S1x256x3072 : Shape := ⟨3, ![1, 256, 3072]⟩
abbrev S1x16x3072 : Shape := ⟨3, ![1, 16, 3072]⟩
abbrev S1x256x128 : Shape := ⟨3, ![1, 256, 128]⟩
abbrev S1x256x1024 : Shape := ⟨3, ![1, 256, 1024]⟩
abbrev S1x4x8x64 : Shape := ⟨4, ![1, 4, 8, 64]⟩
abbrev S256x3072 : Shape := ⟨2, ![256, 3072]⟩
abbrev S16x3072 : Shape := ⟨2, ![16, 3072]⟩
abbrev S256x256 : Shape := ⟨2, ![256, 256]⟩
abbrev S8x16 : Shape := ⟨2, ![8, 16]⟩
abbrev S1x3072 : Shape := ⟨2, ![1, 3072]⟩
abbrev S8x3072 : Shape := ⟨2, ![8, 3072]⟩
abbrev S248x3072 : Shape := ⟨2, ![248, 3072]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S128x256 : Shape := ⟨2, ![128, 256]⟩
abbrev S8x64 : Shape := ⟨2, ![8, 64]⟩
abbrev S1x1x8x64 : Shape := ⟨4, ![1, 1, 8, 64]⟩

abbrev nBuf : Space → Nat
  | .hbm => 27
  | .vmem => 21
  | .smem => 0
  | _ => 0

abbrev bufTy : (tb : Table) → Fin (tcTables nBuf tb) → BufTy
  | .hbm, ⟨0, _⟩ => ⟨S8x4096x6144, .bf16⟩
  | .hbm, ⟨1, _⟩ => ⟨S8x4096x128, .f32⟩
  | .hbm, ⟨2, _⟩ => ⟨S4x3072, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S1x128, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S1x128, .f32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x64x8x64, .f32⟩
  | .local _ .vmem, ⟨0, _⟩ => ⟨S1x256x3072, .bf16⟩
  | .local _ .vmem, ⟨1, _⟩ => ⟨S1x256x3072, .bf16⟩
  | .local _ .vmem, ⟨2, _⟩ => ⟨S1x16x3072, .bf16⟩
  | .local _ .vmem, ⟨3, _⟩ => ⟨S1x16x3072, .bf16⟩
  | .local _ .vmem, ⟨4, _⟩ => ⟨S1x256x128, .f32⟩
  | .local _ .vmem, ⟨5, _⟩ => ⟨S1x256x128, .f32⟩
  | .local _ .vmem, ⟨6, _⟩ => ⟨S4x3072, .f32⟩
  | .local _ .vmem, ⟨7, _⟩ => ⟨S1x128, .f32⟩
  | .local _ .vmem, ⟨8, _⟩ => ⟨S1x128, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x4x8x64, .f32⟩
  | .local _ .vmem, ⟨20, _⟩ => ⟨S1x4x8x64, .f32⟩
  | _, _ => ⟨S8x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev main_v10_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x8x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== GdnRefIdeal.lean ====
abbrev S8x4096x6144 : Shape := ⟨3, ![8, 4096, 6144]⟩
abbrev S8x4096x128 : Shape := ⟨3, ![8, 4096, 128]⟩
abbrev S4x3072 : Shape := ⟨2, ![4, 3072]⟩
abbrev S8 : Shape := ⟨1, ![8]⟩
abbrev S8x4096x3072 : Shape := ⟨3, ![8, 4096, 3072]⟩
abbrev S_ : Shape := ⟨0, ![]⟩
abbrev S8x4099x3072 : Shape := ⟨3, ![8, 4099, 3072]⟩
abbrev S1x3072 : Shape := ⟨2, ![1, 3072]⟩
abbrev S3072 : Shape := ⟨1, ![3072]⟩
abbrev S1x1x3072 : Shape := ⟨3, ![1, 1, 3072]⟩
abbrev S8x4096x1024 : Shape := ⟨3, ![8, 4096, 1024]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S1x1x8 : Shape := ⟨3, ![1, 1, 8]⟩
abbrev S64x64 : Shape := ⟨2, ![64, 64]⟩
abbrev S8x64x64x8 : Shape := ⟨4, ![8, 64, 64, 8]⟩
abbrev S8x64x8x64 : Shape := ⟨4, ![8, 64, 8, 64]⟩

abbrev nBuf : Space → Nat
  | .hbm => 131
  | .vmem => 0
  | .smem => 0
  | _ => 0

abbrev hbmTy0_0 (i : Nat) : BufTy := match i % 128 with
  | 0 => ⟨S8x4096x6144, .bf16⟩
  | 1 => ⟨S8x4096x128, .f32⟩
  | 2 => ⟨S4x3072, .f32⟩
  | 3 => ⟨S8, .f32⟩
  | 4 => ⟨S8, .f32⟩
  | 5 => ⟨S8x4096x3072, .bf16⟩
  | 6 => ⟨S8x4096x3072, .f32⟩
  | 7 => ⟨S_, .i32⟩
  | 8 => ⟨S_, .f32⟩
  | 9 => ⟨S8x4099x3072, .f32⟩
  | 10 => ⟨S1x3072, .f32⟩
  | 11 => ⟨S3072, .f32⟩
  | 12 => ⟨S8x4096x3072, .f32⟩
  | 13 => ⟨S1x1x3072, .f32⟩
  | 14 => ⟨S8x4096x3072, .f32⟩
  | 15 => ⟨S8x4096x3072, .f32⟩
  | 16 => ⟨S_, .f32⟩
  | 17 => ⟨S8x4096x3072, .f32⟩
  | 18 => ⟨S8x4096x3072, .f32⟩
  | 19 => ⟨S1x3072, .f32⟩
  | 20 => ⟨S3072, .f32⟩
  | 21 => ⟨S8x4096x3072, .f32⟩
  | 22 => ⟨S1x1x3072, .f32⟩
  | 23 => ⟨S8x4096x3072, .f32⟩
  | 24 => ⟨S8x4096x3072, .f32⟩
  | 25 => ⟨S8x4096x3072, .f32⟩
  | 26 => ⟨S1x3072, .f32⟩
  | 27 => ⟨S3072, .f32⟩
  | 28 => ⟨S8x4096x3072, .f32⟩
  | 29 => ⟨S1x1x3072, .f32⟩
  | 30 => ⟨S8x4096x3072, .f32⟩
  | 31 => ⟨S8x4096x3072, .f32⟩
  | 32 => ⟨S8x4096x3072, .f32⟩
  | 33 => ⟨S1x3072, .f32⟩
  | 34 => ⟨S3072, .f32⟩
  | 35 => ⟨S8x4096x3072, .f32⟩
  | 36 => ⟨S1x1x3072, .f32⟩
  | 37 => ⟨S8x4096x3072, .f32⟩
  | 38 => ⟨S8x4096x3072, .f32⟩
  | 39 => ⟨S8x4096x3072, .f32⟩
  | 40 => ⟨S8x4096x3072, .f32⟩
  | 41 => ⟨S8x4096x3072, .f32⟩
  | 42 => ⟨S_, .f32⟩
  | 43 => ⟨S8x4096x3072, .f32⟩
  | 44 => ⟨S8x4096x3072, .f32⟩
  | 45 => ⟨S_, .f32⟩
  | 46 => ⟨S8x4096x3072, .f32⟩
  | 47 => ⟨S8x4096x3072, .f32⟩
  | 48 => ⟨S8x4096x3072, .f32⟩
  | 49 => ⟨S8x4096x1024, .f32⟩
  | 50 => ⟨S8x4096x1024, .f32⟩
  | 51 => ⟨S8x4096x1024, .f32⟩
  | 52 => ⟨S8x4096x8x128, .f32⟩
  | 53 => ⟨S8x4096x8x128, .f32⟩
  | 54 => ⟨S8x4096x8x128, .f32⟩
  | 55 => ⟨S8x4096x8x128, .f32⟩
  | 56 => ⟨S_, .f32⟩
  | 57 => ⟨S8x4096x8, .f32⟩
  | 58 => ⟨S8x4096x8x1, .f32⟩
  | 59 => ⟨S_, .f32⟩
  | 60 => ⟨S8x4096x8x1, .f32⟩
  | 61 => ⟨S8x4096x8x1, .f32⟩
  | 62 => ⟨S8x4096x8x1, .f32⟩
  | 63 => ⟨S8x4096x8x128, .f32⟩
  | 64 => ⟨S8x4096x8x128, .f32⟩
  | 65 => ⟨S_, .f32⟩
  | 66 => ⟨S8x4096x8x128, .f32⟩
  | 67 => ⟨S8x4096x8x128, .f32⟩
  | 68 => ⟨S8x4096x8x128, .f32⟩
  | 69 => ⟨S_, .f32⟩
  | 70 => ⟨S8x4096x8, .f32⟩
  | 71 => ⟨S8x4096x8x1, .f32⟩
  | 72 => ⟨S_, .f32⟩
  | 73 => ⟨S8x4096x8x1, .f32⟩
  | 74 => ⟨S8x4096x8x1, .f32⟩
  | 75 => ⟨S8x4096x8x1, .f32⟩
  | 76 => ⟨S8x4096x8x128, .f32⟩
  | 77 => ⟨S8x4096x8x128, .f32⟩
  | 78 => ⟨S8x4096x8, .f32⟩
  | 79 => ⟨S8x4096x8, .f32⟩
  | 80 => ⟨S8x4096x8, .f32⟩
  | 81 => ⟨S_, .f32⟩
  | 82 => ⟨S8x4096x8, .f32⟩
  | 83 => ⟨S8x4096x8, .f32⟩
  | 84 => ⟨S_, .f32⟩
  | 85 => ⟨S8x4096x8, .f32⟩
  | 86 => ⟨S8x4096x8, .f32⟩
  | 87 => ⟨S8x4096x8, .f32⟩
  | 88 => ⟨S1x1x8, .f32⟩
  | 89 => ⟨S8x4096x8, .f32⟩
  | 90 => ⟨S8x4096x8, .f32⟩
  | 91 => ⟨S8, .f32⟩
  | 92 => ⟨S8, .f32⟩
  | 93 => ⟨S_, .f32⟩
  | 94 => ⟨S8x4096x8, .f32⟩
  | 95 => ⟨S8x4096x8, .f32⟩
  | 96 => ⟨S8x4096x8, .f32⟩
  | 97 => ⟨S8x4096x8, .f32⟩
  | 98 => ⟨S8x4096x8, .f32⟩
  | 99 => ⟨S_, .f32⟩
  | 100 => ⟨S8x4096x8, .f32⟩
  | 101 => ⟨S8x4096x8, .f32⟩
  | 102 => ⟨S8x4096x8, .f32⟩
  | 103 => ⟨S8x4096x8, .f32⟩
  | 104 => ⟨S1x1x8, .f32⟩
  | 105 => ⟨S8x4096x8, .f32⟩
  | 106 => ⟨S8x4096x8, .f32⟩
  | 107 => ⟨S_, .f32⟩
  | 108 => ⟨S64x64, .f32⟩
  | 109 => ⟨S64x64, .i32⟩
  | 110 => ⟨S_, .i32⟩
  | 111 => ⟨S64x64, .i32⟩
  | 112 => ⟨S64x64, .i32⟩
  | 113 => ⟨S64x64, .i32⟩
  | 114 => ⟨S64x64, .i1⟩
  | 115 => ⟨S_, .f32⟩
  | 116 => ⟨S64x64, .f32⟩
  | 117 => ⟨S64x64, .f32⟩
  | 118 => ⟨S8x64x64x8, .f32⟩
  | 119 => ⟨S8x64x8x64, .f32⟩
  | 120 => ⟨S8x64x64x8, .f32⟩
  | 121 => ⟨S8x4096x8x1, .f32⟩
  | 122 => ⟨S8x4096x8x128, .f32⟩
  | 123 => ⟨S8x4096x8x1, .f32⟩
  | 124 => ⟨S8x4096x8x128, .f32⟩
  | 125 => ⟨S8x4096x1024, .f32⟩
  | 126 => ⟨S8x4096x1024, .f32⟩
  | 127 => ⟨S8x4096x1024, .f32⟩
  | _ => ⟨S8x4096x6144, .bf16⟩

abbrev hbmTy0_1 (i : Nat) : BufTy := match i % 128 with
  | 0 => ⟨S8x4096x1024, .f32⟩
  | 1 => ⟨S8x4096x1024, .f32⟩
  | 2 => ⟨S8x64x8x64, .f32⟩
  | _ => ⟨S8x4096x6144, .bf16⟩

abbrev hbmTy (i : Nat) : BufTy := match i / 128 with
  | 0 => hbmTy0_0 i
  | 1 => hbmTy0_1 i
  | _ => ⟨S8x4096x6144, .bf16⟩

abbrev bufTy : (tb : Table) → Fin (tcTables nBuf tb) → BufTy
  | .hbm, ⟨i, _⟩ => hbmTy i
  | _, _ => ⟨S8x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_0 : Ref sig .tc := ⟨.hbm, 56, rfl⟩
abbrev main_v40 : Ref sig .tc := ⟨.hbm, 57, rfl⟩
abbrev main_v41 : Ref sig .tc := ⟨.hbm, 58, rfl⟩
abbrev main_cst_1 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_2 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_3 : Ref sig .tc := ⟨.hbm, 69, rfl⟩
abbrev main_v50 : Ref sig .tc := ⟨.hbm, 70, rfl⟩
abbrev main_v51 : Ref sig .tc := ⟨.hbm, 71, rfl⟩
abbrev main_cst_4 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_5 : Ref sig .tc := ⟨.hbm, 81, rfl⟩
abbrev main_v60 : Ref sig .tc := ⟨.hbm, 82, rfl⟩
abbrev main_v61 : Ref sig .tc := ⟨.hbm, 83, rfl⟩
abbrev main_cst_6 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_7 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_8 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_9 : Ref sig .tc := ⟨.hbm, 107, rfl⟩
abbrev main_v82 : Ref sig .tc := ⟨.hbm, 108, rfl⟩
abbrev main_call2_v0 : Ref sig .tc := ⟨.hbm, 109, rfl⟩
abbrev main_call2_c : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_cst : Ref sig .tc := ⟨.hbm, 115, rfl⟩
abbrev main_call2_v5 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩

abbrev nD : Nat := 1
abbrev τ : Topo := Topo.v7x

variable {F : FTy → Type} [FloatOps F]
-- ==== Bias.lean ====
abbrev S32x8 : Shape := ⟨2, ![32, 8]⟩
abbrev S2x8x512x512 : Shape := ⟨4, ![2, 8, 512, 512]⟩
abbrev S2x1x512x512 : Shape := ⟨4, ![2, 1, 512, 512]⟩
abbrev S128x128 : Shape := ⟨2, ![128, 128]⟩
abbrev S1x1 : Shape := ⟨2, ![1, 1]⟩
abbrev S1x1x128x128 : Shape := ⟨4, ![1, 1, 128, 128]⟩

abbrev nBuf : Space → Nat
  | .hbm => 2
  | .vmem => 2
  | .smem => 1
  | _ => 0

abbrev bufTy : (tb : Table) → Fin (tcTables nBuf tb) → BufTy
  | .hbm, ⟨0, _⟩ => ⟨S32x8, .f32⟩
  | .hbm, ⟨1, _⟩ => ⟨S2x8x512x512, .bf16⟩
  | .local _ .vmem, ⟨0, _⟩ => ⟨S2x1x512x512, .bf16⟩
  | .local _ .vmem, ⟨1, _⟩ => ⟨S2x1x512x512, .bf16⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0 : Index := 0#32
  let arg0 : BitVec 32 := BitVec.ofNat 32 (i 0).val
  let v28 : Index := Scalar.indexCast arg0
  ![0, v28.toNat]
def k0_off2 (i : grid0.Coords) : Fin 2 → Nat :=
  let c1 : Index := 1#32
  let arg0 : BitVec 32 := BitVec.ofNat 32 (i 0).val
  let v34 : Index := Scalar.indexCast arg0
  ![1, v34.toNat]
def k0_off3 (i : grid0.Coords) : Fin 2 → Nat :=
  let c2 : Index := 2#32
  let arg0 : BitVec 32 := BitVec.ofNat 32 (i 0).val
  let v40 : Index := Scalar.indexCast arg0
  ![2, v40.toNat]
def k0_off4 (i : grid0.Coords) : Fin 2 → Nat :=
  let c3 : Index := 3#32
  let arg0 : BitVec 32 := BitVec.ofNat 32 (i 0).val
  let v46 : Index := Scalar.indexCast arg0
  ![3, v46.toNat]
def k0_off5 (i : grid0.Coords) : Fin 2 → Nat :=
  let c4 : Index := 4#32
  let arg0 : BitVec 32 := BitVec.ofNat 32 (i 0).val
  let v52 : Index := Scalar.indexCast arg0
  ![4, v52.toNat]
def k0_off6 (i : grid0.Coords) : Fin 2 → Nat :=
  let c5 : Index := 5#32
  let arg0 : BitVec 32 := BitVec.ofNat 32 (i 0).val
  let v58 : Index := Scalar.indexCast arg0
  ![5, v58.toNat]
def k0_off7 (i : grid0.Coords) : Fin 2 → Nat :=
  let c6 : Index := 6#32
  let arg0 : BitVec 32 := BitVec.ofNat 32 (i 0).val
  let v64 : Index := Scalar.indexCast arg0
  ![6, v64.toNat]
def k0_off8 (i : grid0.Coords) : Fin 2 → Nat :=
  let c7 : Index := 7#32
  let arg0 : BitVec 32 := BitVec.ofNat 32 (i 0).val
  let v70 : Index := Scalar.indexCast arg0
  ![7, v70.toNat]
def k0_off9 (i : grid0.Coords) : Fin 2 → Nat :=
  let c8 : Index := 8#32
  let arg0 : BitVec 32 := BitVec.ofNat 32 (i 0).val
  let v76 : Index := Scalar.indexCast arg0
  ![8, v76.toNat]
def k0_off10 (i : grid0.Coords) : Fin 2 → Nat :=
  let c9 : Index := 9#32
  let arg0 : BitVec 32 := BitVec.ofNat 32 (i 0).val
  let v82 : Index := Scalar.indexCast arg0
  ![9, v82.toNat]
def k0_off11 (i : grid0.Coords) : Fin 2 → Nat :=
  let c10 : Index := 10#32
  let arg0 : BitVec 32 := BitVec.ofNat 32 (i 0).val
  let v88 : Index := Scalar.indexCast arg0
  ![10, v88.toNat]
def k0_off12 (i : grid0.Coords) : Fin 2 → Nat :=
  let c11 : Index := 11#32
  let arg0 : BitVec 32 := BitVec.ofNat 32 (i 0).val
  let v94 : Index := Scalar.indexCast arg0
  ![11, v94.toNat]
def k0_off13 (i : grid0.Coords) : Fin 2 → Nat :=
  let c12 : Index := 12#32
  let arg0 : BitVec 32 := BitVec.ofNat 32 (i 0).val
  let v100 : Index := Scalar.indexCast arg0
  ![12, v100.toNat]
def k0_off14 (i : grid0.Coords) : Fin 2 → Nat :=
  let c13 : Index := 13#32
  let arg0 : BitVec 32 := BitVec.ofNat 32 (i 0).val
  let v106 : Index := Scalar.indexCast arg0
  ![13, v106.toNat]
def k0_off15 (i : grid0.Coords) : Fin 2 → Nat :=
  let c14 : Index := 14#32
  let arg0 : BitVec 32 := BitVec.ofNat 32 (i 0).val
  let v112 : Index := Scalar.indexCast arg0
  ![14, v112.toNat]
def k0_off16 (i : grid0.Coords) : Fin 2 → Nat :=
  let c15 : Index := 15#32
  let arg0 : BitVec 32 := BitVec.ofNat 32 (i 0).val
  let v118 : Index := Scalar.indexCast arg0
  ![15, v118.toNat]
def k0_off17 (i : grid0.Coords) : Fin 2 → Nat :=
  let c16 : Index := 16#32
  let arg0 : BitVec 32 := BitVec.ofNat 32 (i 0).val
  let v124 : Index := Scalar.indexCast arg0
  ![16, v124.toNat]
def k0_off18 (i : grid0.Coords) : Fin 2 → Nat :=
  let c17 : Index := 17#32
  let arg0 : BitVec 32 := BitVec.ofNat 32 (i 0).val
  let v130 : Index := Scalar.indexCast arg0
  ![17, v130.toNat]
def k0_off19 (i : grid0.Coords) : Fin 2 → Nat :=
  let c18 : Index := 18#32
  let arg0 : BitVec 32 := BitVec.ofNat 32 (i 0).val
  let v136 : Index := Scalar.indexCast arg0
  ![18, v136.toNat]
def k0_off20 (i : grid0.Coords) : Fin 2 → Nat :=
  let c19 : Index := 19#32
  let arg0 : BitVec 32 := BitVec.ofNat 32 (i 0).val
  let v142 : Index := Scalar.indexCast arg0
  ![19, v142.toNat]
def k0_off21 (i : grid0.Coords) : Fin 2 → Nat :=
  let c20 : Index := 20#32
  let arg0 : BitVec 32 := BitVec.ofNat 32 (i 0).val
  let v148 : Index := Scalar.indexCast arg0
  ![20, v148.toNat]
def k0_off22 (i : grid0.Coords) : Fin 2 → Nat :=
  let c21 : Index := 21#32
  let arg0 : BitVec 32 := BitVec.ofNat 32 (i 0).val
  let v154 : Index := Scalar.indexCast arg0
  ![21, v154.toNat]
def k0_off23 (i : grid0.Coords) : Fin 2 → Nat :=
  let c22 : Index := 22#32
  let arg0 : BitVec 32 := BitVec.ofNat 32 (i 0).val
  let v160 : Index := Scalar.indexCast arg0
  ![22, v160.toNat]
def k0_off24 (i : grid0.Coords) : Fin 2 → Nat :=
  let c23 : Index := 23#32
  let arg0 : BitVec 32 := BitVec.ofNat 32 (i 0).val
  let v166 : Index := Scalar.indexCast arg0
  ![23, v166.toNat]
def k0_off25 (i : grid0.Coords) : Fin 2 → Nat :=
  let c24 : Index := 24#32
  let arg0 : BitVec 32 := BitVec.ofNat 32 (i 0).val
  let v172 : Index := Scalar.indexCast arg0
  ![24, v172.toNat]
def k0_off26 (i : grid0.Coords) : Fin 2 → Nat :=
  let c25 : Index := 25#32
  let arg0 : BitVec 32 := BitVec.ofNat 32 (i 0).val
  let v178 : Index := Scalar.indexCast arg0
  ![25, v178.toNat]
def k0_off27 (i : grid0.Coords) : Fin 2 → Nat :=
  let c26 : Index := 26#32
  let arg0 : BitVec 32 := BitVec.ofNat 32 (i 0).val
  let v184 : Index := Scalar.indexCast arg0
  ![26, v184.toNat]
def k0_off28 (i : grid0.Coords) : Fin 2 → Nat :=
  let c27 : Index := 27#32
  let arg0 : BitVec 32 := BitVec.ofNat 32 (i 0).val
  let v190 : Index := Scalar.indexCast arg0
  ![27, v190.toNat]
def k0_off29 (i : grid0.Coords) : Fin 2 → Nat :=
  let c28 : Index := 28#32
  let arg0 : BitVec 32 := BitVec.ofNat 32 (i 0).val
  let v196 : Index := Scalar.indexCast arg0
  ![28, v196.toNat]
def k0_off30 (i : grid0.Coords) : Fin 2 → Nat :=
  let c29 : Index := 29#32
  let arg0 : BitVec 32 := BitVec.ofNat 32 (i 0).val
  let v202 : Index := Scalar.indexCast arg0
  ![29, v202.toNat]
def k0_off31 (i : grid0.Coords) : Fin 2 → Nat :=
  let c30 : Index := 30#32
  let arg0 : BitVec 32 := BitVec.ofNat 32 (i 0).val
  let v208 : Index := Scalar.indexCast arg0
  ![30, v208.toNat]
def k0_off32 (i : grid0.Coords) : Fin 2 → Nat :=
  let c31 : Index := 31#32
  let arg0 : BitVec 32 := BitVec.ofNat 32 (i 0).val
  let v214 : Index := Scalar.indexCast arg0
  ![31, v214.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BiasRefIdeal.lean ====
abbrev S32x8 : Shape := ⟨2, ![32, 8]⟩
abbrev S512 : Shape := ⟨1, ![512]⟩
abbrev S2 : Shape := ⟨1, ![2]⟩
abbrev S2x1x1 : Shape := ⟨3, ![2, 1, 1]⟩
abbrev S_ : Shape := ⟨0, ![]⟩
abbrev S1x1x512 : Shape := ⟨3, ![1, 1, 512]⟩
abbrev S2x1x512 : Shape := ⟨3, ![2, 1, 512]⟩
abbrev S1x512x1 : Shape := ⟨3, ![1, 512, 1]⟩
abbrev S2x512x512 : Shape := ⟨3, ![2, 512, 512]⟩
abbrev S2x512x512x1 : Shape := ⟨4, ![2, 512, 512, 1]⟩
abbrev S32 : Shape := ⟨1, ![32]⟩
abbrev S1x1x1x32 : Shape := ⟨4, ![1, 1, 1, 32]⟩
abbrev S2x512x512x32 : Shape := ⟨4, ![2, 512, 512, 32]⟩
abbrev S1x8 : Shape := ⟨2, ![1, 8]⟩
abbrev S8 : Shape := ⟨1, ![8]⟩
abbrev S8x32 : Shape := ⟨2, ![8, 32]⟩
abbrev S2x1x512x512x32 : Shape := ⟨5, ![2, 1, 512, 512, 32]⟩
abbrev S1x8x1x1x32 : Shape := ⟨5, ![1, 8, 1, 1, 32]⟩
abbrev S2x8x512x512x32 : Shape := ⟨5, ![2, 8, 512, 512, 32]⟩
abbrev S2x8x512x512 : Shape := ⟨4, ![2, 8, 512, 512]⟩
abbrev S2x1x512x512 : Shape := ⟨4, ![2, 1, 512, 512]⟩

abbrev nBuf : Space → Nat
  | .hbm => 91
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S512, .i32⟩
  | .hbm, ⟨2, _⟩ => ⟨S2, .i32⟩
  | .hbm, ⟨3, _⟩ => ⟨S2x1x1, .i32⟩
  | .hbm, ⟨4, _⟩ => ⟨S_, .i32⟩
  | .hbm, ⟨5, _⟩ => ⟨S2x1x1, .i32⟩
  | .hbm, ⟨6, _⟩ => ⟨S2x1x1, .i32⟩
  | .hbm, ⟨7, _⟩ => ⟨S1x1x512, .i32⟩
  | .hbm, ⟨8, _⟩ => ⟨S2x1x512, .i32⟩
  | .hbm, ⟨9, _⟩ => ⟨S2x1x512, .i32⟩
  | .hbm, ⟨10, _⟩ => ⟨S2x1x512, .i32⟩
  | .hbm, ⟨11, _⟩ => ⟨S1x512x1, .i32⟩
  | .hbm, ⟨12, _⟩ => ⟨S2x512x512, .i32⟩
  | .hbm, ⟨13, _⟩ => ⟨S2x512x512, .i32⟩
  | .hbm, ⟨14, _⟩ => ⟨S2x512x512, .i32⟩
  | .hbm, ⟨15, _⟩ => ⟨S_, .i32⟩
  | .hbm, ⟨16, _⟩ => ⟨S2x512x512, .i32⟩
  | .hbm, ⟨17, _⟩ => ⟨S2x512x512, .i32⟩
  | .hbm, ⟨18, _⟩ => ⟨S_, .i32⟩
  | .hbm, ⟨19, _⟩ => ⟨S2x512x512, .i32⟩
  | .hbm, ⟨20, _⟩ => ⟨S2x512x512, .i32⟩
  | .hbm, ⟨21, _⟩ => ⟨S2x512x512, .f32⟩
  | .hbm, ⟨22, _⟩ => ⟨S_, .f32⟩
  | .hbm, ⟨23, _⟩ => ⟨S2x512x512, .f32⟩
  | .hbm, ⟨24, _⟩ => ⟨S2x512x512, .f32⟩
  | .hbm, ⟨25, _⟩ => ⟨S2x512x512, .f32⟩
  | .hbm, ⟨26, _⟩ => ⟨S_, .f32⟩
  | .hbm, ⟨27, _⟩ => ⟨S2x512x512, .f32⟩
  | .hbm, ⟨28, _⟩ => ⟨S2x512x512, .f32⟩
  | .hbm, ⟨29, _⟩ => ⟨S_, .f32⟩
  | .hbm, ⟨30, _⟩ => ⟨S2x512x512, .f32⟩
  | .hbm, ⟨31, _⟩ => ⟨S2x512x512, .f32⟩
  | .hbm, ⟨32, _⟩ => ⟨S2x512x512, .i32⟩
  | .hbm, ⟨33, _⟩ => ⟨S_, .i32⟩
  | .hbm, ⟨34, _⟩ => ⟨S2x512x512, .i32⟩
  | .hbm, ⟨35, _⟩ => ⟨S2x512x512, .i32⟩
  | .hbm, ⟨36, _⟩ => ⟨S_, .i32⟩
  | .hbm, ⟨37, _⟩ => ⟨S2x512x512, .i32⟩
  | .hbm, ⟨38, _⟩ => ⟨S2x512x512, .i1⟩
  | .hbm, ⟨39, _⟩ => ⟨S_, .i32⟩
  | .hbm, ⟨40, _⟩ => ⟨S2x512x512, .i32⟩
  | .hbm, ⟨41, _⟩ => ⟨S2x512x512, .i32⟩
  | .hbm, ⟨42, _⟩ => ⟨S2x512x512, .i32⟩
  | .hbm, ⟨43, _⟩ => ⟨S2x512x512x1, .i32⟩
  | .hbm, ⟨44, _⟩ => ⟨S32, .i32⟩
  | .hbm, ⟨45, _⟩ => ⟨S1x1x1x32, .i32⟩
  | .hbm, ⟨46, _⟩ => ⟨S2x512x512x32, .i32⟩
  | .hbm, ⟨47, _⟩ => ⟨S2x512x512x32, .i32⟩
  | .hbm, ⟨48, _⟩ => ⟨S2x512x512x32, .i1⟩
  | .hbm, ⟨49, _⟩ => ⟨S1x8, .f32⟩
  | .hbm, ⟨50, _⟩ => ⟨S8, .f32⟩
  | .hbm, ⟨51, _⟩ => ⟨S1x8, .f32⟩
  | .hbm, ⟨52, _⟩ => ⟨S32x8, .f32⟩
  | .hbm, ⟨53, _⟩ => ⟨S32x8, .f32⟩
  | .hbm, ⟨54, _⟩ => ⟨S8x32, .f32⟩
  | .hbm, ⟨55, _⟩ => ⟨S_, .f32⟩
  | .hbm, ⟨56, _⟩ => ⟨S8x32, .f32⟩
  | .hbm, ⟨57, _⟩ => ⟨S8x32, .f32⟩
  | .hbm, ⟨58, _⟩ => ⟨S2x1x512x512x32, .i1⟩
  | .hbm, ⟨59, _⟩ => ⟨S1x8x1x1x32, .f32⟩
  | .hbm, ⟨60, _⟩ => ⟨S_, .f32⟩
  | .hbm, ⟨61, _⟩ => ⟨S_, .f32⟩
  | .hbm, ⟨62, _⟩ => ⟨S2x8x512x512x32, .i1⟩
  | .hbm, ⟨63, _⟩ => ⟨S2x8x512x512x32, .f32⟩
  | .hbm, ⟨64, _⟩ => ⟨S2x8x512x512x32, .f32⟩
  | .hbm, ⟨65, _⟩ => ⟨S2x8x512x512x32, .f32⟩
  | .hbm, ⟨66, _⟩ => ⟨S_, .f32⟩
  | .hbm, ⟨67, _⟩ => ⟨S2x8x512x512, .f32⟩
  | .hbm, ⟨68, _⟩ => ⟨S_, .i32⟩
  | .hbm, ⟨69, _⟩ => ⟨S512, .i32⟩
  | .hbm, ⟨70, _⟩ => ⟨S512, .i32⟩
  | .hbm, ⟨71, _⟩ => ⟨S2, .i32⟩
  | .hbm, ⟨72, _⟩ => ⟨S2x1x1, .i32⟩
  | .hbm, ⟨73, _⟩ => ⟨S_, .i32⟩
  | .hbm, ⟨74, _⟩ => ⟨S2x1x1, .i32⟩
  | .hbm, ⟨75, _⟩ => ⟨S2x1x1, .i32⟩
  | .hbm, ⟨76, _⟩ => ⟨S1x1x512, .i32⟩
  | .hbm, ⟨77, _⟩ => ⟨S2x1x512, .i32⟩
  | .hbm, ⟨78, _⟩ => ⟨S2x1x512, .i32⟩
  | .hbm, ⟨79, _⟩ => ⟨S2x1x512, .i32⟩
  | .hbm, ⟨80, _⟩ => ⟨S1x512x1, .i32⟩
  | .hbm, ⟨81, _⟩ => ⟨S2x512x512, .i32⟩
  | .hbm, ⟨82, _⟩ => ⟨S2x512x512, .i32⟩
  | .hbm, ⟨83, _⟩ => ⟨S2x512x512, .i1⟩
  | .hbm, ⟨84, _⟩ => ⟨S2x1x512x512, .i1⟩
  | .hbm, ⟨85, _⟩ => ⟨S_, .f32⟩
  | .hbm, ⟨86, _⟩ => ⟨S_, .f32⟩
  | .hbm, ⟨87, _⟩ => ⟨S2x8x512x512, .i1⟩
  | .hbm, ⟨88, _⟩ => ⟨S2x8x512x512, .f32⟩
  | .hbm, ⟨89, _⟩ => ⟨S2x8x512x512, .f32⟩
  | .hbm, ⟨90, _⟩ => ⟨S2x8x512x512, .bf16⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c_0 : Ref sig .tc := ⟨.hbm, 15, rfl⟩
abbrev main_v13 : Ref sig .tc := ⟨.hbm, 16, rfl⟩
abbrev main_v14 : Ref sig .tc := ⟨.hbm, 17, rfl⟩
abbrev main_c_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_4 : Ref sig .tc := ⟨.hbm, 33, rfl⟩
abbrev main_v26 : Ref sig .tc := ⟨.hbm, 34, rfl⟩
abbrev main_v27 : Ref sig .tc := ⟨.hbm, 35, rfl⟩
abbrev main_c_5 : Ref sig .tc := ⟨.hbm, 36, rfl⟩
abbrev main_v28 : Ref sig .tc := ⟨.hbm, 37, rfl⟩
abbrev main_v29 : Ref sig .tc := ⟨.hbm, 38, rfl⟩
abbrev main_c_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_7 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_8 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_c_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== Proof.CdConv.lean ====
module

public import proofs.«01_k».proof.Proof.Gen.CdIdeal.Frame
public import proofs.«01_k».proof.Proof.Gen.CdIdeal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.CdIdeal.Hand

open Cert.CdIdeal Cert.CdIdeal.Gen Idealize.ShloMosaic Idealize.ShloMosaic.TcCoe Idealize.SL.Sem
open Idealize.ShloMosaic.Pipeline (Dat)

/-- The gate of a pair: the first times the logistic function of the second. -/
def gate (a g : EReal) : EReal := a * Ideal.div 1 (1 + Ideal.exp (-g))

/-- The rows a tile works on, 32 of the rows before it and then its own 256; the rows before are taken as zero in the
first tile of a sequence. -/
def Ut (i : grid0.Coords) (x0 x1 : Vec Ideal S256x1024 .bf16) (x2 x3 : Vec Ideal S32x1024 .bf16) (p : ℕ) (l : Fin 1024) : EReal :=
  if h : p < 32 then Scalar.select (kernelRun0_B.sl.v1 i) (0 : EReal) (gate (x2 (ix2 ⟨p, h⟩ l)) (x3 (ix2 ⟨p, h⟩ l)))
  else if h : p - 32 < 256 then gate (x0 (ix2 ⟨p - 32, h⟩ l)) (x1 (ix2 ⟨p - 32, h⟩ l)) else 0

/-- The first `n` terms of the long convolution at row `r`, from the left. -/
def acc (i : grid0.Coords) (x0 x1 : Vec Ideal S256x1024 .bf16) (x2 x3 : Vec Ideal S32x1024 .bf16) (x13 : Vec Ideal S31x1024 .f32)
    (r : Fin 256) (l : Fin 1024) : ℕ → EReal
  | 0 => 0
  | j + 1 => acc i x0 x1 x2 x3 x13 r l j + x13 (ix2 (Fin.ofNat 31 j) l) * Ut i x0 x1 x2 x3 (2 + j + r.val) l

section
variable (c : Dev nD) (i : grid0.Coords)
  (arg1 : Memref sig .tc .vmem S256x1024 .bf16) (harg1 : arg1.IsWhole) (arg2 : Memref sig .tc .vmem S256x1024 .bf16) (harg2 : arg2.IsWhole)
  (arg3 : Memref sig .tc .vmem S32x1024 .bf16) (harg3 : arg3.IsWhole) (arg4 : Memref sig .tc .vmem S32x1024 .bf16) (harg4 : arg4.IsWhole)
  (arg14 : Memref sig .tc .vmem S31x1024 .f32) (harg14 : arg14.IsWhole) (arg20 : Memref sig .tc .vmem S8x288x1024 .f32)
  (x0 x1 : Vec Ideal S256x1024 .bf16) (x2 x3 : Vec Ideal S32x1024 .bf16) (x13 : Vec Ideal S31x1024 .f32)

/-- What the scratch of shifted copies holds: copy r is the rows moved up by r. -/
def Uc (q : S8x288x1024.Idx) : EReal := Ut i x0 x1 x2 x3 ((q 0).val + (q 1).val) (q 2)

/-- The shifted copies at an element of a block of the scratch. -/
theorem Uc_emb {o0 o1 n : ℕ} (inb : ∀ a, (![o0, o1, 0] : Fin 3 → ℕ) a + (![1, n, 1024] : Fin 3 → ℕ) a ≤ S8x288x1024.size a)
    (r : Fin n) (l : Fin 1024) :
    Uc i x0 x1 x2 x3 ((Rect.unit (s := S8x288x1024) ![o0, o1, 0] ![1, n, 1024] inb).emb (ix3 (0 : Fin 1) r l)) = Ut i x0 x1 x2 x3 (o0 + o1 + r.val) l := by
  unfold Uc
  rw [ValueKit.rect_emb_unit_val, ValueKit.rect_emb_unit_val]
  refine congrArg₂ _ ?_ (Fin.ext ((ValueKit.rect_emb_unit_val _ _ inb _ 2).trans ?_))
  · show o0 + 0 + (o1 + r.val) = o0 + o1 + r.val
    omega
  · exact Nat.zero_add _

/-- A load of pieces that all agree with the shifted copies, where the pieces reach. -/
theorem load_copy (L : List (View.Piece (Elt Ideal) S8x288x1024 .f32)) (hL : View.PiecesOf (Uc i x0 x1 x2 x3) L)
    {o0 o1 n : ℕ} (inb : ∀ a, (![o0, o1, 0] : Fin 3 → ℕ) a + (![1, n, 1024] : Fin 3 → ℕ) a ≤ S8x288x1024.size a)
    (r : Fin n) (l : Fin 1024)
    (hc : ∃ p ∈ L, (Rect.unit (s := S8x288x1024) ![o0, o1, 0] ![1, n, 1024] inb).emb (ix3 (0 : Fin 1) r l) ∈ p.1.set) :
    arg20.view.readCov L (Rect.unit (s := S8x288x1024) ![o0, o1, 0] ![1, n, 1024] inb).toLoadRect (ix3 (0 : Fin 1) r l) = Ut i x0 x1 x2 x3 (o0 + o1 + r.val) l := by
  rw [View.readCov_eq_canon']
  have := View.canon_append_of_piecesOf (Uc i x0 x1 x2 x3) [] L hL _ hc
  rw [List.append_nil] at this
  exact this.trans (Uc_emb i x0 x1 x2 x3 inb r l)

theorem pieces2 : View.PiecesOf (Uc i x0 x1 x2 x3) (kernelRun0_B.sl.HS0_2 (F := Ideal) c i arg1 harg1 arg2 harg2 arg3 harg3 arg4 harg4 x0 x1 x2 x3) := by
  unfold kernelRun0_B.sl.HS0_2
  refine ⟨fun x => ?_, fun x => ?_, trivial⟩
  · obtain ⟨a, r, l, rfl⟩ : ∃ (a : Fin 1) (r : Fin 256) (l : Fin 1024), x = ix3 a r l := ⟨_, _, _, eq_ix3 x⟩
    obtain rfl : a = 0 := Subsingleton.elim _ _
    refine Eq.trans ?_ (Uc_emb i x0 x1 x2 x3 inb_S8x288x1024_S1x256x1024_0_32_0 r l).symm
    have h1 : ¬ (0 + 32 + r.val) < 32 := by omega
    have h2 : 0 + 32 + r.val - 32 = r.val := by omega
    unfold Ut
    rw [dif_neg h1]
    simp only [h2, r.isLt, ↓reduceDIte]
    pointwise [k0_pay6, View.readAt_eq_ld, Memref.IsWhole.read_unread, gate]
    rw [zero_sub]
  · obtain ⟨a, r, l, rfl⟩ : ∃ (a : Fin 1) (r : Fin 32) (l : Fin 1024), x = ix3 a r l := ⟨_, _, _, eq_ix3 x⟩
    obtain rfl : a = 0 := Subsingleton.elim _ _
    refine Eq.trans ?_ (Uc_emb i x0 x1 x2 x3 inb_S8x288x1024_S1x32x1024_0_0_0 r l).symm
    have h1 : (0 + 0 + r.val) < 32 := by omega
    have h2 : 0 + 0 + r.val = r.val := by omega
    unfold Ut
    rw [dif_pos h1]
    simp only [h2]
    pointwise [k0_pay5, kernelRun0_B.sl.r, k0_pay4, View.readAt_eq_ld, Memref.IsWhole.read_unread, gate]
    rw [zero_sub]
    rfl

theorem cover2 {o1 n : ℕ} (inb : ∀ a, (![0, o1, 0] : Fin 3 → ℕ) a + (![1, n, 1024] : Fin 3 → ℕ) a ≤ S8x288x1024.size a)
    (r : Fin n) (l : Fin 1024) :
    ∃ p ∈ kernelRun0_B.sl.HS0_2 (F := Ideal) c i arg1 harg1 arg2 harg2 arg3 harg3 arg4 harg4 x0 x1 x2 x3,
      (Rect.unit (s := S8x288x1024) ![0, o1, 0] ![1, n, 1024] inb).emb (ix3 (0 : Fin 1) r l) ∈ p.1.set := by
  unfold kernelRun0_B.sl.HS0_2
  have hr : o1 + r.val < 288 := lt_of_lt_of_le (Nat.add_lt_add_left r.isLt _) (inb 1)
  by_cases h : o1 + r.val < 32
  · refine ⟨_, .tail _ (.head _), (Rect.mem_set_unit (inb := inb_S8x288x1024_S1x32x1024_0_0_0)).2 fun a => ?_⟩
    rw [ValueKit.rect_emb_unit_val]
    match a with
    | ⟨0, _⟩ => exact ⟨Nat.zero_le _, Nat.one_pos⟩
    | ⟨1, _⟩ => exact ⟨Nat.zero_le _, show o1 + r.val < 0 + 32 by omega⟩
    | ⟨2, _⟩ => exact ⟨Nat.zero_le _, show 0 + l.val < 0 + 1024 by omega⟩
  · refine ⟨_, .head _, (Rect.mem_set_unit (inb := inb_S8x288x1024_S1x256x1024_0_32_0)).2 fun a => ?_⟩
    rw [ValueKit.rect_emb_unit_val]
    match a with
    | ⟨0, _⟩ => exact ⟨Nat.zero_le _, Nat.one_pos⟩
    | ⟨1, _⟩ => exact ⟨show 32 ≤ o1 + r.val by omega, show o1 + r.val < 32 + 256 by omega⟩
    | ⟨2, _⟩ => exact ⟨Nat.zero_le _, show 0 + l.val < 0 + 1024 by omega⟩

theorem pieces3 : View.PiecesOf (Uc i x0 x1 x2 x3) (kernelRun0_B.sl.HS0_3 (F := Ideal) c i arg1 harg1 arg2 harg2 arg3 harg3 arg4 harg4 arg20 x0 x1 x2 x3) := by
  unfold kernelRun0_B.sl.HS0_3
  refine ⟨fun x => ?_, pieces2 c i arg1 harg1 arg2 harg2 arg3 harg3 arg4 harg4 x0 x1 x2 x3⟩
  obtain ⟨a, r, l, rfl⟩ : ∃ (a : Fin 1) (r : Fin 280) (l : Fin 1024), x = ix3 a r l := ⟨_, _, _, eq_ix3 x⟩
  obtain rfl : a = 0 := Subsingleton.elim _ _
  refine Eq.trans ?_ (Uc_emb i x0 x1 x2 x3 inb_S8x288x1024_S1x280x1024_1_0_0 r l).symm
  pointwise [k0_pay7, kernelRun0_B.sl.v48]
  refine (load_copy i arg20 x0 x1 x2 x3 _ (pieces2 c i arg1 harg1 arg2 harg2 arg3 harg3 arg4 harg4 x0 x1 x2 x3) _ r l (cover2 c i arg1 harg1 arg2 harg2 arg3 harg3 arg4 harg4 x0 x1 x2 x3 _ r l)).trans ?_
  exact congrArg (fun p => Ut i x0 x1 x2 x3 p l) (by omega)

theorem cover3 {o1 n : ℕ} (inb : ∀ a, (![0, o1, 0] : Fin 3 → ℕ) a + (![1, n, 1024] : Fin 3 → ℕ) a ≤ S8x288x1024.size a)
    (r : Fin n) (l : Fin 1024) :
    ∃ p ∈ kernelRun0_B.sl.HS0_3 (F := Ideal) c i arg1 harg1 arg2 harg2 arg3 harg3 arg4 harg4 arg20 x0 x1 x2 x3,
      (Rect.unit (s := S8x288x1024) ![0, o1, 0] ![1, n, 1024] inb).emb (ix3 (0 : Fin 1) r l) ∈ p.1.set := by
  obtain ⟨p, hp, h⟩ := cover2 c i arg1 harg1 arg2 harg2 arg3 harg3 arg4 harg4 x0 x1 x2 x3 inb r l
  exact ⟨p, by unfold kernelRun0_B.sl.HS0_3; exact .tail _ hp, h⟩

theorem pieces4 : View.PiecesOf (Uc i x0 x1 x2 x3) (kernelRun0_B.sl.HS0_4 (F := Ideal) c i arg1 harg1 arg2 harg2 arg3 harg3 arg4 harg4 arg20 x0 x1 x2 x3) := by
  unfold kernelRun0_B.sl.HS0_4
  refine ⟨fun x => ?_, pieces3 c i arg1 harg1 arg2 harg2 arg3 harg3 arg4 harg4 arg20 x0 x1 x2 x3⟩
  obtain ⟨a, r, l, rfl⟩ : ∃ (a : Fin 1) (r : Fin 280) (l : Fin 1024), x = ix3 a r l := ⟨_, _, _, eq_ix3 x⟩
  obtain rfl : a = 0 := Subsingleton.elim _ _
  refine Eq.trans ?_ (Uc_emb i x0 x1 x2 x3 inb_S8x288x1024_S1x280x1024_2_0_0 r l).symm
  pointwise [k0_pay8, kernelRun0_B.sl.v53]
  refine (load_copy i arg20 x0 x1 x2 x3 _ (pieces3 c i arg1 harg1 arg2 harg2 arg3 harg3 arg4 harg4 arg20 x0 x1 x2 x3) _ r l (cover3 c i arg1 harg1 arg2 harg2 arg3 harg3 arg4 harg4 arg20 x0 x1 x2 x3 _ r l)).trans ?_
  exact congrArg (fun p => Ut i x0 x1 x2 x3 p l) (by omega)

theorem cover4 {o1 n : ℕ} (inb : ∀ a, (![0, o1, 0] : Fin 3 → ℕ) a + (![1, n, 1024] : Fin 3 → ℕ) a ≤ S8x288x1024.size a)
    (r : Fin n) (l : Fin 1024) :
    ∃ p ∈ kernelRun0_B.sl.HS0_4 (F := Ideal) c i arg1 harg1 arg2 harg2 arg3 harg3 arg4 harg4 arg20 x0 x1 x2 x3,
      (Rect.unit (s := S8x288x1024) ![0, o1, 0] ![1, n, 1024] inb).emb (ix3 (0 : Fin 1) r l) ∈ p.1.set := by
  obtain ⟨p, hp, h⟩ := cover3 c i arg1 harg1 arg2 harg2 arg3 harg3 arg4 harg4 arg20 x0 x1 x2 x3 inb r l
  exact ⟨p, by unfold kernelRun0_B.sl.HS0_4; exact .tail _ hp, h⟩

theorem pieces5 : View.PiecesOf (Uc i x0 x1 x2 x3) (kernelRun0_B.sl.HS0_5 (F := Ideal) c i arg1 harg1 arg2 harg2 arg3 harg3 arg4 harg4 arg20 x0 x1 x2 x3) := by
  unfold kernelRun0_B.sl.HS0_5
  refine ⟨fun x => ?_, pieces4 c i arg1 harg1 arg2 harg2 arg3 harg3 arg4 harg4 arg20 x0 x1 x2 x3⟩
  obtain ⟨a, r, l, rfl⟩ : ∃ (a : Fin 1) (r : Fin 280) (l : Fin 1024), x = ix3 a r l := ⟨_, _, _, eq_ix3 x⟩
  obtain rfl : a = 0 := Subsingleton.elim _ _
  refine Eq.trans ?_ (Uc_emb i x0 x1 x2 x3 inb_S8x288x1024_S1x280x1024_3_0_0 r l).symm
  pointwise [k0_pay10, kernelRun0_B.sl.r_2, k0_pay9, kernelRun0_B.sl.v58]
  refine (load_copy i arg20 x0 x1 x2 x3 _ (pieces4 c i arg1 harg1 arg2 harg2 arg3 harg3 arg4 harg4 arg20 x0 x1 x2 x3) _ r l (cover4 c i arg1 harg1 arg2 harg2 arg3 harg3 arg4 harg4 arg20 x0 x1 x2 x3 _ r l)).trans ?_
  exact congrArg (fun p => Ut i x0 x1 x2 x3 p l) (by omega)

theorem cover5 {o1 n : ℕ} (inb : ∀ a, (![0, o1, 0] : Fin 3 → ℕ) a + (![1, n, 1024] : Fin 3 → ℕ) a ≤ S8x288x1024.size a)
    (r : Fin n) (l : Fin 1024) :
    ∃ p ∈ kernelRun0_B.sl.HS0_5 (F := Ideal) c i arg1 harg1 arg2 harg2 arg3 harg3 arg4 harg4 arg20 x0 x1 x2 x3,
      (Rect.unit (s := S8x288x1024) ![0, o1, 0] ![1, n, 1024] inb).emb (ix3 (0 : Fin 1) r l) ∈ p.1.set := by
  obtain ⟨p, hp, h⟩ := cover4 c i arg1 harg1 arg2 harg2 arg3 harg3 arg4 harg4 arg20 x0 x1 x2 x3 inb r l
  exact ⟨p, by unfold kernelRun0_B.sl.HS0_5; exact .tail _ hp, h⟩

theorem pieces6 : View.PiecesOf (Uc i x0 x1 x2 x3) (kernelRun0_B.sl.HS0_6 (F := Ideal) c i arg1 harg1 arg2 harg2 arg3 harg3 arg4 harg4 arg20 x0 x1 x2 x3) := by
  unfold kernelRun0_B.sl.HS0_6
  refine ⟨fun x => ?_, pieces5 c i arg1 harg1 arg2 harg2 arg3 harg3 arg4 harg4 arg20 x0 x1 x2 x3⟩
  obtain ⟨a, r, l, rfl⟩ : ∃ (a : Fin 1) (r : Fin 280) (l : Fin 1024), x = ix3 a r l := ⟨_, _, _, eq_ix3 x⟩
  obtain rfl : a = 0 := Subsingleton.elim _ _
  refine Eq.trans ?_ (Uc_emb i x0 x1 x2 x3 inb_S8x288x1024_S1x280x1024_4_0_0 r l).symm
  pointwise [k0_pay11, kernelRun0_B.sl.v63]
  refine (load_copy i arg20 x0 x1 x2 x3 _ (pieces5 c i arg1 harg1 arg2 harg2 arg3 harg3 arg4 harg4 arg20 x0 x1 x2 x3) _ r l (cover5 c i arg1 harg1 arg2 harg2 arg3 harg3 arg4 harg4 arg20 x0 x1 x2 x3 _ r l)).trans ?_
  exact congrArg (fun p => Ut i x0 x1 x2 x3 p l) (by omega)

theorem cover6 {o1 n : ℕ} (inb : ∀ a, (![0, o1, 0] : Fin 3 → ℕ) a + (![1, n, 1024] : Fin 3 → ℕ) a ≤ S8x288x1024.size a)
    (r : Fin n) (l : Fin 1024) :
    ∃ p ∈ kernelRun0_B.sl.HS0_6 (F := Ideal) c i arg1 harg1 arg2 harg2 arg3 harg3 arg4 harg4 arg20 x0 x1 x2 x3,
      (Rect.unit (s := S8x288x1024) ![0, o1, 0] ![1, n, 1024] inb).emb (ix3 (0 : Fin 1) r l) ∈ p.1.set := by
  obtain ⟨p, hp, h⟩ := cover5 c i arg1 harg1 arg2 harg2 arg3 harg3 arg4 harg4 arg20 x0 x1 x2 x3 inb r l
  exact ⟨p, by unfold kernelRun0_B.sl.HS0_6; exact .tail _ hp, h⟩

theorem pieces7 : View.PiecesOf (Uc i x0 x1 x2 x3) (kernelRun0_B.sl.HS0_7 (F := Ideal) c i arg1 harg1 arg2 harg2 arg3 harg3 arg4 harg4 arg20 x0 x1 x2 x3) := by
  unfold kernelRun0_B.sl.HS0_7
  refine ⟨fun x => ?_, pieces6 c i arg1 harg1 arg2 harg2 arg3 harg3 arg4 harg4 arg20 x0 x1 x2 x3⟩
  obtain ⟨a, r, l, rfl⟩ : ∃ (a : Fin 1) (r : Fin 280) (l : Fin 1024), x = ix3 a r l := ⟨_, _, _, eq_ix3 x⟩
  obtain rfl : a = 0 := Subsingleton.elim _ _
  refine Eq.trans ?_ (Uc_emb i x0 x1 x2 x3 inb_S8x288x1024_S1x280x1024_5_0_0 r l).symm
  pointwise [k0_pay12, kernelRun0_B.sl.v68]
  refine (load_copy i arg20 x0 x1 x2 x3 _ (pieces6 c i arg1 harg1 arg2 harg2 arg3 harg3 arg4 harg4 arg20 x0 x1 x2 x3) _ r l (cover6 c i arg1 harg1 arg2 harg2 arg3 harg3 arg4 harg4 arg20 x0 x1 x2 x3 _ r l)).trans ?_
  exact congrArg (fun p => Ut i x0 x1 x2 x3 p l) (by omega)

theorem cover7 {o1 n : ℕ} (inb : ∀ a, (![0, o1, 0] : Fin 3 → ℕ) a + (![1, n, 1024] : Fin 3 → ℕ) a ≤ S8x288x1024.size a)
    (r : Fin n) (l : Fin 1024) :
    ∃ p ∈ kernelRun0_B.sl.HS0_7 (F := Ideal) c i arg1 harg1 arg2 harg2 arg3 harg3 arg4 harg4 arg20 x0 x1 x2 x3,
      (Rect.unit (s := S8x288x1024) ![0, o1, 0] ![1, n, 1024] inb).emb (ix3 (0 : Fin 1) r l) ∈ p.1.set := by
  obtain ⟨p, hp, h⟩ := cover6 c i arg1 harg1 arg2 harg2 arg3 harg3 arg4 harg4 arg20 x0 x1 x2 x3 inb r l
  exact ⟨p, by unfold kernelRun0_B.sl.HS0_7; exact .tail _ hp, h⟩

theorem pieces8 : View.PiecesOf (Uc i x0 x1 x2 x3) (kernelRun0_B.sl.HS0_8 (F := Ideal) c i arg1 harg1 arg2 harg2 arg3 harg3 arg4 harg4 arg20 x0 x1 x2 x3) := by
  unfold kernelRun0_B.sl.HS0_8
  refine ⟨fun x => ?_, pieces7 c i arg1 harg1 arg2 harg2 arg3 harg3 arg4 harg4 arg20 x0 x1 x2 x3⟩
  obtain ⟨a, r, l, rfl⟩ : ∃ (a : Fin 1) (r : Fin 280) (l : Fin 1024), x = ix3 a r l := ⟨_, _, _, eq_ix3 x⟩
  obtain rfl : a = 0 := Subsingleton.elim _ _
  refine Eq.trans ?_ (Uc_emb i x0 x1 x2 x3 inb_S8x288x1024_S1x280x1024_6_0_0 r l).symm
  pointwise [k0_pay13, kernelRun0_B.sl.v73]
  refine (load_copy i arg20 x0 x1 x2 x3 _ (pieces7 c i arg1 harg1 arg2 harg2 arg3 harg3 arg4 harg4 arg20 x0 x1 x2 x3) _ r l (cover7 c i arg1 harg1 arg2 harg2 arg3 harg3 arg4 harg4 arg20 x0 x1 x2 x3 _ r l)).trans ?_
  exact congrArg (fun p => Ut i x0 x1 x2 x3 p l) (by omega)

theorem cover8 {o1 n : ℕ} (inb : ∀ a, (![0, o1, 0] : Fin 3 → ℕ) a + (![1, n, 1024] : Fin 3 → ℕ) a ≤ S8x288x1024.size a)
    (r : Fin n) (l : Fin 1024) :
    ∃ p ∈ kernelRun0_B.sl.HS0_8 (F := Ideal) c i arg1 harg1 arg2 harg2 arg3 harg3 arg4 harg4 arg20 x0 x1 x2 x3,
      (Rect.unit (s := S8x288x1024) ![0, o1, 0] ![1, n, 1024] inb).emb (ix3 (0 : Fin 1) r l) ∈ p.1.set := by
  obtain ⟨p, hp, h⟩ := cover7 c i arg1 harg1 arg2 harg2 arg3 harg3 arg4 harg4 arg20 x0 x1 x2 x3 inb r l
  exact ⟨p, by unfold kernelRun0_B.sl.HS0_8; exact .tail _ hp, h⟩

theorem pieces9 : View.PiecesOf (Uc i x0 x1 x2 x3) (kernelRun0_B.sl.HS0_9 (F := Ideal) c i arg1 harg1 arg2 harg2 arg3 harg3 arg4 harg4 arg20 x0 x1 x2 x3) := by
  unfold kernelRun0_B.sl.HS0_9
  refine ⟨fun x => ?_, pieces8 c i arg1 harg1 arg2 harg2 arg3 harg3 arg4 harg4 arg20 x0 x1 x2 x3⟩
  obtain ⟨a, r, l, rfl⟩ : ∃ (a : Fin 1) (r : Fin 280) (l : Fin 1024), x = ix3 a r l := ⟨_, _, _, eq_ix3 x⟩
  obtain rfl : a = 0 := Subsingleton.elim _ _
  refine Eq.trans ?_ (Uc_emb i x0 x1 x2 x3 inb_S8x288x1024_S1x280x1024_7_0_0 r l).symm
  pointwise [k0_pay14, kernelRun0_B.sl.v78]
  refine (load_copy i arg20 x0 x1 x2 x3 _ (pieces8 c i arg1 harg1 arg2 harg2 arg3 harg3 arg4 harg4 arg20 x0 x1 x2 x3) _ r l (cover8 c i arg1 harg1 arg2 harg2 arg3 harg3 arg4 harg4 arg20 x0 x1 x2 x3 _ r l)).trans ?_
  exact congrArg (fun p => Ut i x0 x1 x2 x3 p l) (by omega)

theorem cover9 {o1 n : ℕ} (inb : ∀ a, (![0, o1, 0] : Fin 3 → ℕ) a + (![1, n, 1024] : Fin 3 → ℕ) a ≤ S8x288x1024.size a)
    (r : Fin n) (l : Fin 1024) :
    ∃ p ∈ kernelRun0_B.sl.HS0_9 (F := Ideal) c i arg1 harg1 arg2 harg2 arg3 harg3 arg4 harg4 arg20 x0 x1 x2 x3,
      (Rect.unit (s := S8x288x1024) ![0, o1, 0] ![1, n, 1024] inb).emb (ix3 (0 : Fin 1) r l) ∈ p.1.set := by
  obtain ⟨p, hp, h⟩ := cover8 c i arg1 harg1 arg2 harg2 arg3 harg3 arg4 harg4 arg20 x0 x1 x2 x3 inb r l
  exact ⟨p, by unfold kernelRun0_B.sl.HS0_9; exact .tail _ hp, h⟩

/-- A row of a shifted copy that lies inside the copied rows. -/
theorem reach {o0 o1 n : ℕ} (inb : ∀ a, (![o0, o1, 0] : Fin 3 → ℕ) a + (![1, n, 1024] : Fin 3 → ℕ) a ≤ S8x288x1024.size a)
    (inb' : ∀ a, (![o0, 0, 0] : Fin 3 → ℕ) a + (![1, 280, 1024] : Fin 3 → ℕ) a ≤ S8x288x1024.size a)
    (r : Fin n) (l : Fin 1024) (h : o1 + n ≤ 280) :
    (Rect.unit (s := S8x288x1024) ![o0, o1, 0] ![1, n, 1024] inb).emb (ix3 (0 : Fin 1) r l) ∈
      (Rect.unit (s := S8x288x1024) ![o0, 0, 0] ![1, 280, 1024] inb').set := by
  refine Rect.mem_set_unit.2 fun a => ?_
  rw [ValueKit.rect_emb_unit_val]
  match a with
  | ⟨0, _⟩ => exact ⟨Nat.le_add_right _ _, Nat.lt_succ_self _⟩
  | ⟨1, _⟩ => exact ⟨Nat.zero_le _, show o1 + r.val < 0 + 280 by omega⟩
  | ⟨2, _⟩ => exact ⟨Nat.zero_le _, show 0 + l.val < 0 + 1024 by omega⟩

theorem sub2 : ∀ p ∈ kernelRun0_B.sl.HS0_2 (F := Ideal) c i arg1 harg1 arg2 harg2 arg3 harg3 arg4 harg4 x0 x1 x2 x3, p ∈ kernelRun0_B.sl.HS0_3 (F := Ideal) c i arg1 harg1 arg2 harg2 arg3 harg3 arg4 harg4 arg20 x0 x1 x2 x3 := by
  intro p hp
  unfold kernelRun0_B.sl.HS0_3
  exact .tail _ hp

theorem top3 : ∃ w, (⟨Rect.unit ![1, 0, 0] S1x280x1024.size inb_S8x288x1024_S1x280x1024_1_0_0, w⟩ : View.Piece (Elt Ideal) S8x288x1024 .f32)
    ∈ kernelRun0_B.sl.HS0_3 (F := Ideal) c i arg1 harg1 arg2 harg2 arg3 harg3 arg4 harg4 arg20 x0 x1 x2 x3 := by
  unfold kernelRun0_B.sl.HS0_3
  exact ⟨_, .head _⟩

theorem sub3 : ∀ p ∈ kernelRun0_B.sl.HS0_3 (F := Ideal) c i arg1 harg1 arg2 harg2 arg3 harg3 arg4 harg4 arg20 x0 x1 x2 x3, p ∈ kernelRun0_B.sl.HS0_4 (F := Ideal) c i arg1 harg1 arg2 harg2 arg3 harg3 arg4 harg4 arg20 x0 x1 x2 x3 := by
  intro p hp
  unfold kernelRun0_B.sl.HS0_4
  exact .tail _ hp

theorem top4 : ∃ w, (⟨Rect.unit ![2, 0, 0] S1x280x1024.size inb_S8x288x1024_S1x280x1024_2_0_0, w⟩ : View.Piece (Elt Ideal) S8x288x1024 .f32)
    ∈ kernelRun0_B.sl.HS0_4 (F := Ideal) c i arg1 harg1 arg2 harg2 arg3 harg3 arg4 harg4 arg20 x0 x1 x2 x3 := by
  unfold kernelRun0_B.sl.HS0_4
  exact ⟨_, .head _⟩

theorem sub4 : ∀ p ∈ kernelRun0_B.sl.HS0_4 (F := Ideal) c i arg1 harg1 arg2 harg2 arg3 harg3 arg4 harg4 arg20 x0 x1 x2 x3, p ∈ kernelRun0_B.sl.HS0_5 (F := Ideal) c i arg1 harg1 arg2 harg2 arg3 harg3 arg4 harg4 arg20 x0 x1 x2 x3 := by
  intro p hp
  unfold kernelRun0_B.sl.HS0_5
  exact .tail _ hp

theorem top5 : ∃ w, (⟨Rect.unit ![3, 0, 0] S1x280x1024.size inb_S8x288x1024_S1x280x1024_3_0_0, w⟩ : View.Piece (Elt Ideal) S8x288x1024 .f32)
    ∈ kernelRun0_B.sl.HS0_5 (F := Ideal) c i arg1 harg1 arg2 harg2 arg3 harg3 arg4 harg4 arg20 x0 x1 x2 x3 := by
  unfold kernelRun0_B.sl.HS0_5
  exact ⟨_, .head _⟩

theorem sub5 : ∀ p ∈ kernelRun0_B.sl.HS0_5 (F := Ideal) c i arg1 harg1 arg2 harg2 arg3 harg3 arg4 harg4 arg20 x0 x1 x2 x3, p ∈ kernelRun0_B.sl.HS0_6 (F := Ideal) c i arg1 harg1 arg2 harg2 arg3 harg3 arg4 harg4 arg20 x0 x1 x2 x3 := by
  intro p hp
  unfold kernelRun0_B.sl.HS0_6
  exact .tail _ hp

theorem top6 : ∃ w, (⟨Rect.unit ![4, 0, 0] S1x280x1024.size inb_S8x288x1024_S1x280x1024_4_0_0, w⟩ : View.Piece (Elt Ideal) S8x288x1024 .f32)
    ∈ kernelRun0_B.sl.HS0_6 (F := Ideal) c i arg1 harg1 arg2 harg2 arg3 harg3 arg4 harg4 arg20 x0 x1 x2 x3 := by
  unfold kernelRun0_B.sl.HS0_6
  exact ⟨_, .head _⟩

theorem sub6 : ∀ p ∈ kernelRun0_B.sl.HS0_6 (F := Ideal) c i arg1 harg1 arg2 harg2 arg3 harg3 arg4 harg4 arg20 x0 x1 x2 x3, p ∈ kernelRun0_B.sl.HS0_7 (F := Ideal) c i arg1 harg1 arg2 harg2 arg3 harg3 arg4 harg4 arg20 x0 x1 x2 x3 := by
  intro p hp
  unfold kernelRun0_B.sl.HS0_7
  exact .tail _ hp

theorem top7 : ∃ w, (⟨Rect.unit ![5, 0, 0] S1x280x1024.size inb_S8x288x1024_S1x280x1024_5_0_0, w⟩ : View.Piece (Elt Ideal) S8x288x1024 .f32)
    ∈ kernelRun0_B.sl.HS0_7 (F := Ideal) c i arg1 harg1 arg2 harg2 arg3 harg3 arg4 harg4 arg20 x0 x1 x2 x3 := by
  unfold kernelRun0_B.sl.HS0_7
  exact ⟨_, .head _⟩

theorem sub7 : ∀ p ∈ kernelRun0_B.sl.HS0_7 (F := Ideal) c i arg1 harg1 arg2 harg2 arg3 harg3 arg4 harg4 arg20 x0 x1 x2 x3, p ∈ kernelRun0_B.sl.HS0_8 (F := Ideal) c i arg1 harg1 arg2 harg2 arg3 harg3 arg4 harg4 arg20 x0 x1 x2 x3 := by
  intro p hp
  unfold kernelRun0_B.sl.HS0_8
  exact .tail _ hp

theorem top8 : ∃ w, (⟨Rect.unit ![6, 0, 0] S1x280x1024.size inb_S8x288x1024_S1x280x1024_6_0_0, w⟩ : View.Piece (Elt Ideal) S8x288x1024 .f32)
    ∈ kernelRun0_B.sl.HS0_8 (F := Ideal) c i arg1 harg1 arg2 harg2 arg3 harg3 arg4 harg4 arg20 x0 x1 x2 x3 := by
  unfold kernelRun0_B.sl.HS0_8
  exact ⟨_, .head _⟩

theorem sub8 : ∀ p ∈ kernelRun0_B.sl.HS0_8 (F := Ideal) c i arg1 harg1 arg2 harg2 arg3 harg3 arg4 harg4 arg20 x0 x1 x2 x3, p ∈ kernelRun0_B.sl.HS0_9 (F := Ideal) c i arg1 harg1 arg2 harg2 arg3 harg3 arg4 harg4 arg20 x0 x1 x2 x3 := by
  intro p hp
  unfold kernelRun0_B.sl.HS0_9
  exact .tail _ hp

theorem top9 : ∃ w, (⟨Rect.unit ![7, 0, 0] S1x280x1024.size inb_S8x288x1024_S1x280x1024_7_0_0, w⟩ : View.Piece (Elt Ideal) S8x288x1024 .f32)
    ∈ kernelRun0_B.sl.HS0_9 (F := Ideal) c i arg1 harg1 arg2 harg2 arg3 harg3 arg4 harg4 arg20 x0 x1 x2 x3 := by
  unfold kernelRun0_B.sl.HS0_9
  exact ⟨_, .head _⟩

theorem copy1 {o1 n : ℕ} (inb : ∀ a, (![1, o1, 0] : Fin 3 → ℕ) a + (![1, n, 1024] : Fin 3 → ℕ) a ≤ S8x288x1024.size a)
    (r : Fin n) (l : Fin 1024) (h : o1 + n ≤ 280) :
    ∃ p ∈ kernelRun0_B.sl.HS0_9 (F := Ideal) c i arg1 harg1 arg2 harg2 arg3 harg3 arg4 harg4 arg20 x0 x1 x2 x3,
      (Rect.unit (s := S8x288x1024) ![1, o1, 0] ![1, n, 1024] inb).emb (ix3 (0 : Fin 1) r l) ∈ p.1.set := by
  have hm := reach inb inb_S8x288x1024_S1x280x1024_1_0_0 r l h
  obtain ⟨w, h⟩ := top3 c i arg1 harg1 arg2 harg2 arg3 harg3 arg4 harg4 arg20 x0 x1 x2 x3
  exact ⟨_, (sub8 c i arg1 harg1 arg2 harg2 arg3 harg3 arg4 harg4 arg20 x0 x1 x2 x3 _ (sub7 c i arg1 harg1 arg2 harg2 arg3 harg3 arg4 harg4 arg20 x0 x1 x2 x3 _ (sub6 c i arg1 harg1 arg2 harg2 arg3 harg3 arg4 harg4 arg20 x0 x1 x2 x3 _ (sub5 c i arg1 harg1 arg2 harg2 arg3 harg3 arg4 harg4 arg20 x0 x1 x2 x3 _ (sub4 c i arg1 harg1 arg2 harg2 arg3 harg3 arg4 harg4 arg20 x0 x1 x2 x3 _ (sub3 c i arg1 harg1 arg2 harg2 arg3 harg3 arg4 harg4 arg20 x0 x1 x2 x3 _ h)))))), hm⟩

theorem copy2 {o1 n : ℕ} (inb : ∀ a, (![2, o1, 0] : Fin 3 → ℕ) a + (![1, n, 1024] : Fin 3 → ℕ) a ≤ S8x288x1024.size a)
    (r : Fin n) (l : Fin 1024) (h : o1 + n ≤ 280) :
    ∃ p ∈ kernelRun0_B.sl.HS0_9 (F := Ideal) c i arg1 harg1 arg2 harg2 arg3 harg3 arg4 harg4 arg20 x0 x1 x2 x3,
      (Rect.unit (s := S8x288x1024) ![2, o1, 0] ![1, n, 1024] inb).emb (ix3 (0 : Fin 1) r l) ∈ p.1.set := by
  have hm := reach inb inb_S8x288x1024_S1x280x1024_2_0_0 r l h
  obtain ⟨w, h⟩ := top4 c i arg1 harg1 arg2 harg2 arg3 harg3 arg4 harg4 arg20 x0 x1 x2 x3
  exact ⟨_, (sub8 c i arg1 harg1 arg2 harg2 arg3 harg3 arg4 harg4 arg20 x0 x1 x2 x3 _ (sub7 c i arg1 harg1 arg2 harg2 arg3 harg3 arg4 harg4 arg20 x0 x1 x2 x3 _ (sub6 c i arg1 harg1 arg2 harg2 arg3 harg3 arg4 harg4 arg20 x0 x1 x2 x3 _ (sub5 c i arg1 harg1 arg2 harg2 arg3 harg3 arg4 harg4 arg20 x0 x1 x2 x3 _ (sub4 c i arg1 harg1 arg2 harg2 arg3 harg3 arg4 harg4 arg20 x0 x1 x2 x3 _ h))))), hm⟩

theorem copy3 {o1 n : ℕ} (inb : ∀ a, (![3, o1, 0] : Fin 3 → ℕ) a + (![1, n, 1024] : Fin 3 → ℕ) a ≤ S8x288x1024.size a)
    (r : Fin n) (l : Fin 1024) (h : o1 + n ≤ 280) :
    ∃ p ∈ kernelRun0_B.sl.HS0_9 (F := Ideal) c i arg1 harg1 arg2 harg2 arg3 harg3 arg4 harg4 arg20 x0 x1 x2 x3,
      (Rect.unit (s := S8x288x1024) ![3, o1, 0] ![1, n, 1024] inb).emb (ix3 (0 : Fin 1) r l) ∈ p.1.set := by
  have hm := reach inb inb_S8x288x1024_S1x280x1024_3_0_0 r l h
  obtain ⟨w, h⟩ := top5 c i arg1 harg1 arg2 harg2 arg3 harg3 arg4 harg4 arg20 x0 x1 x2 x3
  exact ⟨_, (sub8 c i arg1 harg1 arg2 harg2 arg3 harg3 arg4 harg4 arg20 x0 x1 x2 x3 _ (sub7 c i arg1 harg1 arg2 harg2 arg3 harg3 arg4 harg4 arg20 x0 x1 x2 x3 _ (sub6 c i arg1 harg1 arg2 harg2 arg3 harg3 arg4 harg4 arg20 x0 x1 x2 x3 _ (sub5 c i arg1 harg1 arg2 harg2 arg3 harg3 arg4 harg4 arg20 x0 x1 x2 x3 _ h)))), hm⟩

theorem copy4 {o1 n : ℕ} (inb : ∀ a, (![4, o1, 0] : Fin 3 → ℕ) a + (![1, n, 1024] : Fin 3 → ℕ) a ≤ S8x288x1024.size a)
    (r : Fin n) (l : Fin 1024) (h : o1 + n ≤ 280) :
    ∃ p ∈ kernelRun0_B.sl.HS0_9 (F := Ideal) c i arg1 harg1 arg2 harg2 arg3 harg3 arg4 harg4 arg20 x0 x1 x2 x3,
      (Rect.unit (s := S8x288x1024) ![4, o1, 0] ![1, n, 1024] inb).emb (ix3 (0 : Fin 1) r l) ∈ p.1.set := by
  have hm := reach inb inb_S8x288x1024_S1x280x1024_4_0_0 r l h
  obtain ⟨w, h⟩ := top6 c i arg1 harg1 arg2 harg2 arg3 harg3 arg4 harg4 arg20 x0 x1 x2 x3
  exact ⟨_, (sub8 c i arg1 harg1 arg2 harg2 arg3 harg3 arg4 harg4 arg20 x0 x1 x2 x3 _ (sub7 c i arg1 harg1 arg2 harg2 arg3 harg3 arg4 harg4 arg20 x0 x1 x2 x3 _ (sub6 c i arg1 harg1 arg2 harg2 arg3 harg3 arg4 harg4 arg20 x0 x1 x2 x3 _ h))), hm⟩

theorem copy5 {o1 n : ℕ} (inb : ∀ a, (![5, o1, 0] : Fin 3 → ℕ) a + (![1, n, 1024] : Fin 3 → ℕ) a ≤ S8x288x1024.size a)
    (r : Fin n) (l : Fin 1024) (h : o1 + n ≤ 280) :
    ∃ p ∈ kernelRun0_B.sl.HS0_9 (F := Ideal) c i arg1 harg1 arg2 harg2 arg3 harg3 arg4 harg4 arg20 x0 x1 x2 x3,
      (Rect.unit (s := S8x288x1024) ![5, o1, 0] ![1, n, 1024] inb).emb (ix3 (0 : Fin 1) r l) ∈ p.1.set := by
  have hm := reach inb inb_S8x288x1024_S1x280x1024_5_0_0 r l h
  obtain ⟨w, h⟩ := top7 c i arg1 harg1 arg2 harg2 arg3 harg3 arg4 harg4 arg20 x0 x1 x2 x3
  exact ⟨_, (sub8 c i arg1 harg1 arg2 harg2 arg3 harg3 arg4 harg4 arg20 x0 x1 x2 x3 _ (sub7 c i arg1 harg1 arg2 harg2 arg3 harg3 arg4 harg4 arg20 x0 x1 x2 x3 _ h)), hm⟩

theorem copy6 {o1 n : ℕ} (inb : ∀ a, (![6, o1, 0] : Fin 3 → ℕ) a + (![1, n, 1024] : Fin 3 → ℕ) a ≤ S8x288x1024.size a)
    (r : Fin n) (l : Fin 1024) (h : o1 + n ≤ 280) :
    ∃ p ∈ kernelRun0_B.sl.HS0_9 (F := Ideal) c i arg1 harg1 arg2 harg2 arg3 harg3 arg4 harg4 arg20 x0 x1 x2 x3,
      (Rect.unit (s := S8x288x1024) ![6, o1, 0] ![1, n, 1024] inb).emb (ix3 (0 : Fin 1) r l) ∈ p.1.set := by
  have hm := reach inb inb_S8x288x1024_S1x280x1024_6_0_0 r l h
  obtain ⟨w, h⟩ := top8 c i arg1 harg1 arg2 harg2 arg3 harg3 arg4 harg4 arg20 x0 x1 x2 x3
  exact ⟨_, (sub8 c i arg1 harg1 arg2 harg2 arg3 harg3 arg4 harg4 arg20 x0 x1 x2 x3 _ h), hm⟩

theorem copy7 {o1 n : ℕ} (inb : ∀ a, (![7, o1, 0] : Fin 3 → ℕ) a + (![1, n, 1024] : Fin 3 → ℕ) a ≤ S8x288x1024.size a)
    (r : Fin n) (l : Fin 1024) (h : o1 + n ≤ 280) :
    ∃ p ∈ kernelRun0_B.sl.HS0_9 (F := Ideal) c i arg1 harg1 arg2 harg2 arg3 harg3 arg4 harg4 arg20 x0 x1 x2 x3,
      (Rect.unit (s := S8x288x1024) ![7, o1, 0] ![1, n, 1024] inb).emb (ix3 (0 : Fin 1) r l) ∈ p.1.set := by
  have hm := reach inb inb_S8x288x1024_S1x280x1024_7_0_0 r l h
  obtain ⟨w, h⟩ := top9 c i arg1 harg1 arg2 harg2 arg3 harg3 arg4 harg4 arg20 x0 x1 x2 x3
  exact ⟨_, h, hm⟩

theorem load0 (r : Fin 256) (l : Fin 1024) :
    kernelRun0_B.sl.v85 (F := Ideal) c i arg1 harg1 arg2 harg2 arg3 harg3 arg4 harg4 arg20 x0 x1 x2 x3 (ix3 (0 : Fin 1) r l) = Ut i x0 x1 x2 x3 (2 + r.val) l := by
  unfold kernelRun0_B.sl.v85
  exact load_copy i arg20 x0 x1 x2 x3 _ (pieces9 c i arg1 harg1 arg2 harg2 arg3 harg3 arg4 harg4 arg20 x0 x1 x2 x3) inb_S8x288x1024_S1x256x1024_2_0_0 r l
    (copy2 c i arg1 harg1 arg2 harg2 arg3 harg3 arg4 harg4 arg20 x0 x1 x2 x3 _ r l (by decide))

theorem load1 (r : Fin 256) (l : Fin 1024) :
    kernelRun0_B.sl.v91 (F := Ideal) c i arg1 harg1 arg2 harg2 arg3 harg3 arg4 harg4 arg20 x0 x1 x2 x3 (ix3 (0 : Fin 1) r l) = Ut i x0 x1 x2 x3 (3 + r.val) l := by
  unfold kernelRun0_B.sl.v91
  exact load_copy i arg20 x0 x1 x2 x3 _ (pieces9 c i arg1 harg1 arg2 harg2 arg3 harg3 arg4 harg4 arg20 x0 x1 x2 x3) inb_S8x288x1024_S1x256x1024_3_0_0 r l
    (copy3 c i arg1 harg1 arg2 harg2 arg3 harg3 arg4 harg4 arg20 x0 x1 x2 x3 _ r l (by decide))

theorem load2 (r : Fin 256) (l : Fin 1024) :
    kernelRun0_B.sl.v97 (F := Ideal) c i arg1 harg1 arg2 harg2 arg3 harg3 arg4 harg4 arg20 x0 x1 x2 x3 (ix3 (0 : Fin 1) r l) = Ut i x0 x1 x2 x3 (4 + r.val) l := by
  unfold kernelRun0_B.sl.v97
  exact load_copy i arg20 x0 x1 x2 x3 _ (pieces9 c i arg1 harg1 arg2 harg2 arg3 harg3 arg4 harg4 arg20 x0 x1 x2 x3) inb_S8x288x1024_S1x256x1024_4_0_0 r l
    (copy4 c i arg1 harg1 arg2 harg2 arg3 harg3 arg4 harg4 arg20 x0 x1 x2 x3 _ r l (by decide))

theorem load3 (r : Fin 256) (l : Fin 1024) :
    kernelRun0_B.sl.v103 (F := Ideal) c i arg1 harg1 arg2 harg2 arg3 harg3 arg4 harg4 arg20 x0 x1 x2 x3 (ix3 (0 : Fin 1) r l) = Ut i x0 x1 x2 x3 (5 + r.val) l := by
  unfold kernelRun0_B.sl.v103
  exact load_copy i arg20 x0 x1 x2 x3 _ (pieces9 c i arg1 harg1 arg2 harg2 arg3 harg3 arg4 harg4 arg20 x0 x1 x2 x3) inb_S8x288x1024_S1x256x1024_5_0_0 r l
    (copy5 c i arg1 harg1 arg2 harg2 arg3 harg3 arg4 harg4 arg20 x0 x1 x2 x3 _ r l (by decide))

theorem load4 (r : Fin 256) (l : Fin 1024) :
    kernelRun0_B.sl.v109 (F := Ideal) c i arg1 harg1 arg2 harg2 arg3 harg3 arg4 harg4 arg20 x0 x1 x2 x3 (ix3 (0 : Fin 1) r l) = Ut i x0 x1 x2 x3 (6 + r.val) l := by
  unfold kernelRun0_B.sl.v109
  exact load_copy i arg20 x0 x1 x2 x3 _ (pieces9 c i arg1 harg1 arg2 harg2 arg3 harg3 arg4 harg4 arg20 x0 x1 x2 x3) inb_S8x288x1024_S1x256x1024_6_0_0 r l
    (copy6 c i arg1 harg1 arg2 harg2 arg3 harg3 arg4 harg4 arg20 x0 x1 x2 x3 _ r l (by decide))

theorem load5 (r : Fin 256) (l : Fin 1024) :
    kernelRun0_B.sl.v115 (F := Ideal) c i arg1 harg1 arg2 harg2 arg3 harg3 arg4 harg4 arg20 x0 x1 x2 x3 (ix3 (0 : Fin 1) r l) = Ut i x0 x1 x2 x3 (7 + r.val) l := by
  unfold kernelRun0_B.sl.v115
  exact load_copy i arg20 x0 x1 x2 x3 _ (pieces9 c i arg1 harg1 arg2 harg2 arg3 harg3 arg4 harg4 arg20 x0 x1 x2 x3) inb_S8x288x1024_S1x256x1024_7_0_0 r l
    (copy7 c i arg1 harg1 arg2 harg2 arg3 harg3 arg4 harg4 arg20 x0 x1 x2 x3 _ r l (by decide))

theorem load6 (r : Fin 256) (l : Fin 1024) :
    kernelRun0_B.sl.v121 (F := Ideal) c i arg1 harg1 arg2 harg2 arg3 harg3 arg4 harg4 arg20 x0 x1 x2 x3 (ix3 (0 : Fin 1) r l) = Ut i x0 x1 x2 x3 (8 + r.val) l := by
  unfold kernelRun0_B.sl.v121
  exact load_copy i arg20 x0 x1 x2 x3 _ (pieces9 c i arg1 harg1 arg2 harg2 arg3 harg3 arg4 harg4 arg20 x0 x1 x2 x3) inb_S8x288x1024_S1x256x1024_0_8_0 r l
    (cover9 c i arg1 harg1 arg2 harg2 arg3 harg3 arg4 harg4 arg20 x0 x1 x2 x3 _ r l)

theorem load7 (r : Fin 256) (l : Fin 1024) :
    kernelRun0_B.sl.v127 (F := Ideal) c i arg1 harg1 arg2 harg2 arg3 harg3 arg4 harg4 arg20 x0 x1 x2 x3 (ix3 (0 : Fin 1) r l) = Ut i x0 x1 x2 x3 (9 + r.val) l := by
  unfold kernelRun0_B.sl.v127
  exact load_copy i arg20 x0 x1 x2 x3 _ (pieces9 c i arg1 harg1 arg2 harg2 arg3 harg3 arg4 harg4 arg20 x0 x1 x2 x3) inb_S8x288x1024_S1x256x1024_1_8_0 r l
    (copy1 c i arg1 harg1 arg2 harg2 arg3 harg3 arg4 harg4 arg20 x0 x1 x2 x3 _ r l (by decide))

theorem load8 (r : Fin 256) (l : Fin 1024) :
    kernelRun0_B.sl.v133 (F := Ideal) c i arg1 harg1 arg2 harg2 arg3 harg3 arg4 harg4 arg20 x0 x1 x2 x3 (ix3 (0 : Fin 1) r l) = Ut i x0 x1 x2 x3 (10 + r.val) l := by
  unfold kernelRun0_B.sl.v133
  exact load_copy i arg20 x0 x1 x2 x3 _ (pieces9 c i arg1 harg1 arg2 harg2 arg3 harg3 arg4 harg4 arg20 x0 x1 x2 x3) inb_S8x288x1024_S1x256x1024_2_8_0 r l
    (copy2 c i arg1 harg1 arg2 harg2 arg3 harg3 arg4 harg4 arg20 x0 x1 x2 x3 _ r l (by decide))

theorem load9 (r : Fin 256) (l : Fin 1024) :
    kernelRun0_B.sl.v139 (F := Ideal) c i arg1 harg1 arg2 harg2 arg3 harg3 arg4 harg4 arg20 x0 x1 x2 x3 (ix3 (0 : Fin 1) r l) = Ut i x0 x1 x2 x3 (11 + r.val) l := by
  unfold kernelRun0_B.sl.v139
  exact load_copy i arg20 x0 x1 x2 x3 _ (pieces9 c i arg1 harg1 arg2 harg2 arg3 harg3 arg4 harg4 arg20 x0 x1 x2 x3) inb_S8x288x1024_S1x256x1024_3_8_0 r l
    (copy3 c i arg1 harg1 arg2 harg2 arg3 harg3 arg4 harg4 arg20 x0 x1 x2 x3 _ r l (by decide))

theorem load10 (r : Fin 256) (l : Fin 1024) :
    kernelRun0_B.sl.v145 (F := Ideal) c i arg1 harg1 arg2 harg2 arg3 harg3 arg4 harg4 arg20 x0 x1 x2 x3 (ix3 (0 : Fin 1) r l) = Ut i x0 x1 x2 x3 (12 + r.val) l := by
  unfold kernelRun0_B.sl.v145
  exact load_copy i arg20 x0 x1 x2 x3 _ (pieces9 c i arg1 harg1 arg2 harg2 arg3 harg3 arg4 harg4 arg20 x0 x1 x2 x3) inb_S8x288x1024_S1x256x1024_4_8_0 r l
    (copy4 c i arg1 harg1 arg2 harg2 arg3 harg3 arg4 harg4 arg20 x0 x1 x2 x3 _ r l (by decide))

theorem load11 (r : Fin 256) (l : Fin 1024) :
    kernelRun0_B.sl.v151 (F := Ideal) c i arg1 harg1 arg2 harg2 arg3 harg3 arg4 harg4 arg20 x0 x1 x2 x3 (ix3 (0 : Fin 1) r l) = Ut i x0 x1 x2 x3 (13 + r.val) l := by
  unfold kernelRun0_B.sl.v151
  exact load_copy i arg20 x0 x1 x2 x3 _ (pieces9 c i arg1 harg1 arg2 harg2 arg3 harg3 arg4 harg4 arg20 x0 x1 x2 x3) inb_S8x288x1024_S1x256x1024_5_8_0 r l
    (copy5 c i arg1 harg1 arg2 harg2 arg3 harg3 arg4 harg4 arg20 x0 x1 x2 x3 _ r l (by decide))

theorem load12 (r : Fin 256) (l : Fin 1024) :
    kernelRun0_B.sl.v157 (F := Ideal) c i arg1 harg1 arg2 harg2 arg3 harg3 arg4 harg4 arg20 x0 x1 x2 x3 (ix3 (0 : Fin 1) r l) = Ut i x0 x1 x2 x3 (14 + r.val) l := by
  unfold kernelRun0_B.sl.v157
  exact load_copy i arg20 x0 x1 x2 x3 _ (pieces9 c i arg1 harg1 arg2 harg2 arg3 harg3 arg4 harg4 arg20 x0 x1 x2 x3) inb_S8x288x1024_S1x256x1024_6_8_0 r l
    (copy6 c i arg1 harg1 arg2 harg2 arg3 harg3 arg4 harg4 arg20 x0 x1 x2 x3 _ r l (by decide))

theorem load13 (r : Fin 256) (l : Fin 1024) :
    kernelRun0_B.sl.v163 (F := Ideal) c i arg1 harg1 arg2 harg2 arg3 harg3 arg4 harg4 arg20 x0 x1 x2 x3 (ix3 (0 : Fin 1) r l) = Ut i x0 x1 x2 x3 (15 + r.val) l := by
  unfold kernelRun0_B.sl.v163
  exact load_copy i arg20 x0 x1 x2 x3 _ (pieces9 c i arg1 harg1 arg2 harg2 arg3 harg3 arg4 harg4 arg20 x0 x1 x2 x3) inb_S8x288x1024_S1x256x1024_7_8_0 r l
    (copy7 c i arg1 harg1 arg2 harg2 arg3 harg3 arg4 harg4 arg20 x0 x1 x2 x3 _ r l (by decide))

theorem load14 (r : Fin 256) (l : Fin 1024) :
    kernelRun0_B.sl.v169 (F := Ideal) c i arg1 harg1 arg2 harg2 arg3 harg3 arg4 harg4 arg20 x0 x1 x2 x3 (ix3 (0 : Fin 1) r l) = Ut i x0 x1 x2 x3 (16 + r.val) l := by
  unfold kernelRun0_B.sl.v169
  exact load_copy i arg20 x0 x1 x2 x3 _ (pieces9 c i arg1 harg1 arg2 harg2 arg3 harg3 arg4 harg4 arg20 x0 x1 x2 x3) inb_S8x288x1024_S1x256x1024_0_16_0 r l
    (cover9 c i arg1 harg1 arg2 harg2 arg3 harg3 arg4 harg4 arg20 x0 x1 x2 x3 _ r l)

theorem load15 (r : Fin 256) (l : Fin 1024) :
    kernelRun0_B.sl.v175 (F := Ideal) c i arg1 harg1 arg2 harg2 arg3 harg3 arg4 harg4 arg20 x0 x1 x2 x3 (ix3 (0 : Fin 1) r l) = Ut i x0 x1 x2 x3 (17 + r.val) l := by
  unfold kernelRun0_B.sl.v175
  exact load_copy i arg20 x0 x1 x2 x3 _ (pieces9 c i arg1 harg1 arg2 harg2 arg3 harg3 arg4 harg4 arg20 x0 x1 x2 x3) inb_S8x288x1024_S1x256x1024_1_16_0 r l
    (copy1 c i arg1 harg1 arg2 harg2 arg3 harg3 arg4 harg4 arg20 x0 x1 x2 x3 _ r l (by decide))

theorem load16 (r : Fin 256) (l : Fin 1024) :
    kernelRun0_B.sl.v181 (F := Ideal) c i arg1 harg1 arg2 harg2 arg3 harg3 arg4 harg4 arg20 x0 x1 x2 x3 (ix3 (0 : Fin 1) r l) = Ut i x0 x1 x2 x3 (18 + r.val) l := by
  unfold kernelRun0_B.sl.v181
  exact load_copy i arg20 x0 x1 x2 x3 _ (pieces9 c i arg1 harg1 arg2 harg2 arg3 harg3 arg4 harg4 arg20 x0 x1 x2 x3) inb_S8x288x1024_S1x256x1024_2_16_0 r l
    (copy2 c i arg1 harg1 arg2 harg2 arg3 harg3 arg4 harg4 arg20 x0 x1 x2 x3 _ r l (by decide))

theorem load17 (r : Fin 256) (l : Fin 1024) :
    kernelRun0_B.sl.v187 (F := Ideal) c i arg1 harg1 arg2 harg2 arg3 harg3 arg4 harg4 arg20 x0 x1 x2 x3 (ix3 (0 : Fin 1) r l) = Ut i x0 x1 x2 x3 (19 + r.val) l := by
  unfold kernelRun0_B.sl.v187
  exact load_copy i arg20 x0 x1 x2 x3 _ (pieces9 c i arg1 harg1 arg2 harg2 arg3 harg3 arg4 harg4 arg20 x0 x1 x2 x3) inb_S8x288x1024_S1x256x1024_3_16_0 r l
    (copy3 c i arg1 harg1 arg2 harg2 arg3 harg3 arg4 harg4 arg20 x0 x1 x2 x3 _ r l (by decide))

theorem load18 (r : Fin 256) (l : Fin 1024) :
    kernelRun0_B.sl.v193 (F := Ideal) c i arg1 harg1 arg2 harg2 arg3 harg3 arg4 harg4 arg20 x0 x1 x2 x3 (ix3 (0 : Fin 1) r l) = Ut i x0 x1 x2 x3 (20 + r.val) l := by
  unfold kernelRun0_B.sl.v193
  exact load_copy i arg20 x0 x1 x2 x3 _ (pieces9 c i arg1 harg1 arg2 harg2 arg3 harg3 arg4 harg4 arg20 x0 x1 x2 x3) inb_S8x288x1024_S1x256x1024_4_16_0 r l
    (copy4 c i arg1 harg1 arg2 harg2 arg3 harg3 arg4 harg4 arg20 x0 x1 x2 x3 _ r l (by decide))

theorem load19 (r : Fin 256) (l : Fin 1024) :
    kernelRun0_B.sl.v199 (F := Ideal) c i arg1 harg1 arg2 harg2 arg3 harg3 arg4 harg4 arg20 x0 x1 x2 x3 (ix3 (0 : Fin 1) r l) = Ut i x0 x1 x2 x3 (21 + r.val) l := by
  unfold kernelRun0_B.sl.v199
  exact load_copy i arg20 x0 x1 x2 x3 _ (pieces9 c i arg1 harg1 arg2 harg2 arg3 harg3 arg4 harg4 arg20 x0 x1 x2 x3) inb_S8x288x1024_S1x256x1024_5_16_0 r l
    (copy5 c i arg1 harg1 arg2 harg2 arg3 harg3 arg4 harg4 arg20 x0 x1 x2 x3 _ r l (by decide))

theorem load20 (r : Fin 256) (l : Fin 1024) :
    kernelRun0_B.sl.v205 (F := Ideal) c i arg1 harg1 arg2 harg2 arg3 harg3 arg4 harg4 arg20 x0 x1 x2 x3 (ix3 (0 : Fin 1) r l) = Ut i x0 x1 x2 x3 (22 + r.val) l := by
  unfold kernelRun0_B.sl.v205
  exact load_copy i arg20 x0 x1 x2 x3 _ (pieces9 c i arg1 harg1 arg2 harg2 arg3 harg3 arg4 harg4 arg20 x0 x1 x2 x3) inb_S8x288x1024_S1x256x1024_6_16_0 r l
    (copy6 c i arg1 harg1 arg2 harg2 arg3 harg3 arg4 harg4 arg20 x0 x1 x2 x3 _ r l (by decide))

theorem load21 (r : Fin 256) (l : Fin 1024) :
    kernelRun0_B.sl.v211 (F := Ideal) c i arg1 harg1 arg2 harg2 arg3 harg3 arg4 harg4 arg20 x0 x1 x2 x3 (ix3 (0 : Fin 1) r l) = Ut i x0 x1 x2 x3 (23 + r.val) l := by
  unfold kernelRun0_B.sl.v211
  exact load_copy i arg20 x0 x1 x2 x3 _ (pieces9 c i arg1 harg1 arg2 harg2 arg3 harg3 arg4 harg4 arg20 x0 x1 x2 x3) inb_S8x288x1024_S1x256x1024_7_16_0 r l
    (copy7 c i arg1 harg1 arg2 harg2 arg3 harg3 arg4 harg4 arg20 x0 x1 x2 x3 _ r l (by decide))

theorem load22 (r : Fin 256) (l : Fin 1024) :
    kernelRun0_B.sl.v217 (F := Ideal) c i arg1 harg1 arg2 harg2 arg3 harg3 arg4 harg4 arg20 x0 x1 x2 x3 (ix3 (0 : Fin 1) r l) = Ut i x0 x1 x2 x3 (24 + r.val) l := by
  unfold kernelRun0_B.sl.v217
  exact load_copy i arg20 x0 x1 x2 x3 _ (pieces9 c i arg1 harg1 arg2 harg2 arg3 harg3 arg4 harg4 arg20 x0 x1 x2 x3) inb_S8x288x1024_S1x256x1024_0_24_0 r l
    (cover9 c i arg1 harg1 arg2 harg2 arg3 harg3 arg4 harg4 arg20 x0 x1 x2 x3 _ r l)

theorem load23 (r : Fin 256) (l : Fin 1024) :
    kernelRun0_B.sl.v223 (F := Ideal) c i arg1 harg1 arg2 harg2 arg3 harg3 arg4 harg4 arg20 x0 x1 x2 x3 (ix3 (0 : Fin 1) r l) = Ut i x0 x1 x2 x3 (25 + r.val) l := by
  unfold kernelRun0_B.sl.v223
  exact load_copy i arg20 x0 x1 x2 x3 _ (pieces9 c i arg1 harg1 arg2 harg2 arg3 harg3 arg4 harg4 arg20 x0 x1 x2 x3) inb_S8x288x1024_S1x256x1024_1_24_0 r l
    (copy1 c i arg1 harg1 arg2 harg2 arg3 harg3 arg4 harg4 arg20 x0 x1 x2 x3 _ r l (by decide))

theorem load24 (r : Fin 256) (l : Fin 1024) :
    kernelRun0_B.sl.v229 (F := Ideal) c i arg1 harg1 arg2 harg2 arg3 harg3 arg4 harg4 arg20 x0 x1 x2 x3 (ix3 (0 : Fin 1) r l) = Ut i x0 x1 x2 x3 (26 + r.val) l := by
  unfold kernelRun0_B.sl.v229
  exact load_copy i arg20 x0 x1 x2 x3 _ (pieces9 c i arg1 harg1 arg2 harg2 arg3 harg3 arg4 harg4 arg20 x0 x1 x2 x3) inb_S8x288x1024_S1x256x1024_2_24_0 r l
    (copy2 c i arg1 harg1 arg2 harg2 arg3 harg3 arg4 harg4 arg20 x0 x1 x2 x3 _ r l (by decide))

theorem load25 (r : Fin 256) (l : Fin 1024) :
    kernelRun0_B.sl.v235 (F := Ideal) c i arg1 harg1 arg2 harg2 arg3 harg3 arg4 harg4 arg20 x0 x1 x2 x3 (ix3 (0 : Fin 1) r l) = Ut i x0 x1 x2 x3 (27 + r.val) l := by
  unfold kernelRun0_B.sl.v235
  exact load_copy i arg20 x0 x1 x2 x3 _ (pieces9 c i arg1 harg1 arg2 harg2 arg3 harg3 arg4 harg4 arg20 x0 x1 x2 x3) inb_S8x288x1024_S1x256x1024_3_24_0 r l
    (copy3 c i arg1 harg1 arg2 harg2 arg3 harg3 arg4 harg4 arg20 x0 x1 x2 x3 _ r l (by decide))

theorem load26 (r : Fin 256) (l : Fin 1024) :
    kernelRun0_B.sl.v241 (F := Ideal) c i arg1 harg1 arg2 harg2 arg3 harg3 arg4 harg4 arg20 x0 x1 x2 x3 (ix3 (0 : Fin 1) r l) = Ut i x0 x1 x2 x3 (28 + r.val) l := by
  unfold kernelRun0_B.sl.v241
  exact load_copy i arg20 x0 x1 x2 x3 _ (pieces9 c i arg1 harg1 arg2 harg2 arg3 harg3 arg4 harg4 arg20 x0 x1 x2 x3) inb_S8x288x1024_S1x256x1024_4_24_0 r l
    (copy4 c i arg1 harg1 arg2 harg2 arg3 harg3 arg4 harg4 arg20 x0 x1 x2 x3 _ r l (by decide))

theorem load27 (r : Fin 256) (l : Fin 1024) :
    kernelRun0_B.sl.v247 (F := Ideal) c i arg1 harg1 arg2 harg2 arg3 harg3 arg4 harg4 arg20 x0 x1 x2 x3 (ix3 (0 : Fin 1) r l) = Ut i x0 x1 x2 x3 (29 + r.val) l := by
  unfold kernelRun0_B.sl.v247
  exact load_copy i arg20 x0 x1 x2 x3 _ (pieces9 c i arg1 harg1 arg2 harg2 arg3 harg3 arg4 harg4 arg20 x0 x1 x2 x3) inb_S8x288x1024_S1x256x1024_5_24_0 r l
    (copy5 c i arg1 harg1 arg2 harg2 arg3 harg3 arg4 harg4 arg20 x0 x1 x2 x3 _ r l (by decide))

theorem load28 (r : Fin 256) (l : Fin 1024) :
    kernelRun0_B.sl.v253 (F := Ideal) c i arg1 harg1 arg2 harg2 arg3 harg3 arg4 harg4 arg20 x0 x1 x2 x3 (ix3 (0 : Fin 1) r l) = Ut i x0 x1 x2 x3 (30 + r.val) l := by
  unfold kernelRun0_B.sl.v253
  exact load_copy i arg20 x0 x1 x2 x3 _ (pieces9 c i arg1 harg1 arg2 harg2 arg3 harg3 arg4 harg4 arg20 x0 x1 x2 x3) inb_S8x288x1024_S1x256x1024_6_24_0 r l
    (copy6 c i arg1 harg1 arg2 harg2 arg3 harg3 arg4 harg4 arg20 x0 x1 x2 x3 _ r l (by decide))

theorem load29 (r : Fin 256) (l : Fin 1024) :
    kernelRun0_B.sl.v259 (F := Ideal) c i arg1 harg1 arg2 harg2 arg3 harg3 arg4 harg4 arg20 x0 x1 x2 x3 (ix3 (0 : Fin 1) r l) = Ut i x0 x1 x2 x3 (31 + r.val) l := by
  unfold kernelRun0_B.sl.v259
  exact load_copy i arg20 x0 x1 x2 x3 _ (pieces9 c i arg1 harg1 arg2 harg2 arg3 harg3 arg4 harg4 arg20 x0 x1 x2 x3) inb_S8x288x1024_S1x256x1024_7_24_0 r l
    (copy7 c i arg1 harg1 arg2 harg2 arg3 harg3 arg4 harg4 arg20 x0 x1 x2 x3 _ r l (by decide))

theorem load30 (r : Fin 256) (l : Fin 1024) :
    kernelRun0_B.sl.v265 (F := Ideal) c i arg1 harg1 arg2 harg2 arg3 harg3 arg4 harg4 arg20 x0 x1 x2 x3 (ix3 (0 : Fin 1) r l) = Ut i x0 x1 x2 x3 (32 + r.val) l := by
  unfold kernelRun0_B.sl.v265
  exact load_copy i arg20 x0 x1 x2 x3 _ (pieces9 c i arg1 harg1 arg2 harg2 arg3 harg3 arg4 harg4 arg20 x0 x1 x2 x3) inb_S8x288x1024_S1x256x1024_0_32_0 r l
    (cover9 c i arg1 harg1 arg2 harg2 arg3 harg3 arg4 harg4 arg20 x0 x1 x2 x3 _ r l)

theorem sum_r_4 (r : Fin 256) (l : Fin 1024) :
    kernelRun0_B.sl.r_4 (F := Ideal) c i arg1 harg1 arg2 harg2 arg3 harg3 arg4 harg4 arg14 harg14 arg20 x0 x1 x2 x3 x13 (ix2 r l) = acc i x0 x1 x2 x3 x13 r l 5 := by
  pointwise [kernelRun0_B.sl.r_4, k0_pay15, k0_pay16, kernelRun0_B.sl.r_3, View.readAt_eq_ld, Memref.IsWhole.read_unread]
  simp only [load0 c i arg1 harg1 arg2 harg2 arg3 harg3 arg4 harg4 arg20 x0 x1 x2 x3 r l, load1 c i arg1 harg1 arg2 harg2 arg3 harg3 arg4 harg4 arg20 x0 x1 x2 x3 r l, load2 c i arg1 harg1 arg2 harg2 arg3 harg3 arg4 harg4 arg20 x0 x1 x2 x3 r l, load3 c i arg1 harg1 arg2 harg2 arg3 harg3 arg4 harg4 arg20 x0 x1 x2 x3 r l, load4 c i arg1 harg1 arg2 harg2 arg3 harg3 arg4 harg4 arg20 x0 x1 x2 x3 r l, acc, zero_add]
  rfl

theorem sum_r_6 (r : Fin 256) (l : Fin 1024) :
    kernelRun0_B.sl.r_6 (F := Ideal) c i arg1 harg1 arg2 harg2 arg3 harg3 arg4 harg4 arg14 harg14 arg20 x0 x1 x2 x3 x13 (ix2 r l) = acc i x0 x1 x2 x3 x13 r l 11 := by
  pointwise [kernelRun0_B.sl.r_6, k0_pay17, k0_pay18, kernelRun0_B.sl.r_5, View.readAt_eq_ld, Memref.IsWhole.read_unread]
  simp only [load5 c i arg1 harg1 arg2 harg2 arg3 harg3 arg4 harg4 arg20 x0 x1 x2 x3 r l, load6 c i arg1 harg1 arg2 harg2 arg3 harg3 arg4 harg4 arg20 x0 x1 x2 x3 r l, load7 c i arg1 harg1 arg2 harg2 arg3 harg3 arg4 harg4 arg20 x0 x1 x2 x3 r l, load8 c i arg1 harg1 arg2 harg2 arg3 harg3 arg4 harg4 arg20 x0 x1 x2 x3 r l, load9 c i arg1 harg1 arg2 harg2 arg3 harg3 arg4 harg4 arg20 x0 x1 x2 x3 r l, load10 c i arg1 harg1 arg2 harg2 arg3 harg3 arg4 harg4 arg20 x0 x1 x2 x3 r l, sum_r_4 c i arg1 harg1 arg2 harg2 arg3 harg3 arg4 harg4 arg14 harg14 arg20 x0 x1 x2 x3 x13 r l]
  rfl

theorem sum_r_8 (r : Fin 256) (l : Fin 1024) :
    kernelRun0_B.sl.r_8 (F := Ideal) c i arg1 harg1 arg2 harg2 arg3 harg3 arg4 harg4 arg14 harg14 arg20 x0 x1 x2 x3 x13 (ix2 r l) = acc i x0 x1 x2 x3 x13 r l 16 := by
  pointwise [kernelRun0_B.sl.r_8, k0_pay19, kernelRun0_B.sl.r_7, View.readAt_eq_ld, Memref.IsWhole.read_unread]
  simp only [load11 c i arg1 harg1 arg2 harg2 arg3 harg3 arg4 harg4 arg20 x0 x1 x2 x3 r l, load12 c i arg1 harg1 arg2 harg2 arg3 harg3 arg4 harg4 arg20 x0 x1 x2 x3 r l, load13 c i arg1 harg1 arg2 harg2 arg3 harg3 arg4 harg4 arg20 x0 x1 x2 x3 r l, load14 c i arg1 harg1 arg2 harg2 arg3 harg3 arg4 harg4 arg20 x0 x1 x2 x3 r l, load15 c i arg1 harg1 arg2 harg2 arg3 harg3 arg4 harg4 arg20 x0 x1 x2 x3 r l, sum_r_6 c i arg1 harg1 arg2 harg2 arg3 harg3 arg4 harg4 arg14 harg14 arg20 x0 x1 x2 x3 x13 r l]
  rfl

theorem sum_r_11 (r : Fin 256) (l : Fin 1024) :
    kernelRun0_B.sl.r_11 (F := Ideal) c i arg1 harg1 arg2 harg2 arg3 harg3 arg4 harg4 arg14 harg14 arg20 x0 x1 x2 x3 x13 (ix2 r l) = acc i x0 x1 x2 x3 x13 r l 22 := by
  pointwise [kernelRun0_B.sl.r_11, k0_pay20, k0_pay21, k0_pay22, kernelRun0_B.sl.r_10, kernelRun0_B.sl.r_9, View.readAt_eq_ld, Memref.IsWhole.read_unread]
  simp only [load16 c i arg1 harg1 arg2 harg2 arg3 harg3 arg4 harg4 arg20 x0 x1 x2 x3 r l, load17 c i arg1 harg1 arg2 harg2 arg3 harg3 arg4 harg4 arg20 x0 x1 x2 x3 r l, load18 c i arg1 harg1 arg2 harg2 arg3 harg3 arg4 harg4 arg20 x0 x1 x2 x3 r l, load19 c i arg1 harg1 arg2 harg2 arg3 harg3 arg4 harg4 arg20 x0 x1 x2 x3 r l, load20 c i arg1 harg1 arg2 harg2 arg3 harg3 arg4 harg4 arg20 x0 x1 x2 x3 r l, load21 c i arg1 harg1 arg2 harg2 arg3 harg3 arg4 harg4 arg20 x0 x1 x2 x3 r l, sum_r_8 c i arg1 harg1 arg2 harg2 arg3 harg3 arg4 harg4 arg14 harg14 arg20 x0 x1 x2 x3 x13 r l]
  rfl

theorem sum_r_13 (r : Fin 256) (l : Fin 1024) :
    kernelRun0_B.sl.r_13 (F := Ideal) c i arg1 harg1 arg2 harg2 arg3 harg3 arg4 harg4 arg14 harg14 arg20 x0 x1 x2 x3 x13 (ix2 r l) = acc i x0 x1 x2 x3 x13 r l 27 := by
  pointwise [kernelRun0_B.sl.r_13, k0_pay23, kernelRun0_B.sl.r_12, View.readAt_eq_ld, Memref.IsWhole.read_unread]
  simp only [load22 c i arg1 harg1 arg2 harg2 arg3 harg3 arg4 harg4 arg20 x0 x1 x2 x3 r l, load23 c i arg1 harg1 arg2 harg2 arg3 harg3 arg4 harg4 arg20 x0 x1 x2 x3 r l, load24 c i arg1 harg1 arg2 harg2 arg3 harg3 arg4 harg4 arg20 x0 x1 x2 x3 r l, load25 c i arg1 harg1 arg2 harg2 arg3 harg3 arg4 harg4 arg20 x0 x1 x2 x3 r l, load26 c i arg1 harg1 arg2 harg2 arg3 harg3 arg4 harg4 arg20 x0 x1 x2 x3 r l, sum_r_11 c i arg1 harg1 arg2 harg2 arg3 harg3 arg4 harg4 arg14 harg14 arg20 x0 x1 x2 x3 x13 r l]
  rfl

end
end Cert.CdIdeal.Hand
end
-- ==== Proof.CdMix.lean ====
module

public import proofs.«01_k».proof.Proof.Gen.CdIdeal.Frame
public import proofs.«01_k».proof.Proof.Gen.CdIdeal.Value
public import Idealize.ShloMosaic.Lib.Pipeline.ValueKit
public import proofs.«01_k».proof.Proof.CdConv
public import Idealize.ShloMosaic.Lib.Pointwise
public import Idealize.ShloMosaic.Lib.Pipeline.ReadBack

@[expose] public section

set_option maxRecDepth 16384

noncomputable section

namespace Cert.CdIdeal.Hand

open Cert.CdIdeal Cert.CdIdeal.Gen Idealize.ShloMosaic Idealize.ShloMosaic.TcCoe Idealize.SL.Sem
open Idealize.ShloMosaic.Pipeline (Dat)

/-- A value times its logistic function. -/
def silu (a : EReal) : EReal := gate a a

/-- A row less its mean. -/
def cent (u : Fin 1024 → EReal) (l : Fin 1024) : EReal := u l - Ideal.div (∑ k, u k) (Ideal.ofBits .f32 1149239296#32)

/-- A row's centred square mean, plus the small constant. -/
def spread (u : Fin 1024 → EReal) : EReal :=
  Ideal.div (∑ k, cent u k * cent u k) (Ideal.ofBits .f32 1149239296#32) + Ideal.ofBits .f32 897988541#32

/-- The long branch of a row: normalise the convolved row, scale and shift it, and gate it. -/
def longRow (u lw lb : Fin 1024 → EReal) (z : EReal) (l : Fin 1024) : EReal :=
  silu (cent u l * Ideal.rsqrt (spread u) * lw l + lb l) * silu z

/-- The inputs of the short convolution of a tile: 16 rows before it, zero in the first tile of a sequence, then its own. -/
def Dt (i : grid0.Coords) (x6 x7 : Vec Ideal S256x1024 .bf16) (x8 x9 : Vec Ideal S16x1024 .bf16) (p : ℕ) (l : Fin 1024) : EReal :=
  if h : p < 16 then Scalar.select (kernelRun0_B.sl.v1 i) (0 : EReal) (x8 (ix2 ⟨p, h⟩ l) * x9 (ix2 ⟨p, h⟩ l))
  else if h : p - 16 < 256 then (x6 (ix2 ⟨p - 16, h⟩ l) * x7 (ix2 ⟨p - 16, h⟩ l) : EReal) else 0

section
variable (c : Dev nD) (i : grid0.Coords)
  (arg1 : Memref sig .tc .vmem S256x1024 .bf16) (harg1 : arg1.IsWhole) (arg2 : Memref sig .tc .vmem S256x1024 .bf16) (harg2 : arg2.IsWhole)
  (arg3 : Memref sig .tc .vmem S32x1024 .bf16) (harg3 : arg3.IsWhole) (arg4 : Memref sig .tc .vmem S32x1024 .bf16) (harg4 : arg4.IsWhole)
  (arg5 : Memref sig .tc .vmem S256x1024 .bf16) (harg5 : arg5.IsWhole) (arg6 : Memref sig .tc .vmem S256x1024 .bf16) (harg6 : arg6.IsWhole)
  (arg7 : Memref sig .tc .vmem S256x1024 .bf16) (harg7 : arg7.IsWhole) (arg8 : Memref sig .tc .vmem S256x1024 .bf16) (harg8 : arg8.IsWhole)
  (arg9 : Memref sig .tc .vmem S16x1024 .bf16) (harg9 : arg9.IsWhole) (arg10 : Memref sig .tc .vmem S16x1024 .bf16) (harg10 : arg10.IsWhole)
  (arg11 : Memref sig .tc .vmem S256x1024 .bf16) (harg11 : arg11.IsWhole)
  (arg14 : Memref sig .tc .vmem S31x1024 .f32) (harg14 : arg14.IsWhole) (arg15 : Memref sig .tc .vmem S1x1024 .f32) (harg15 : arg15.IsWhole)
  (arg16 : Memref sig .tc .vmem S1x1024 .f32) (harg16 : arg16.IsWhole) (arg17 : Memref sig .tc .vmem S1x1024 .f32) (harg17 : arg17.IsWhole)
  (arg18 : Memref sig .tc .vmem S3x1024 .f32) (harg18 : arg18.IsWhole)
  (arg20 : Memref sig .tc .vmem S8x288x1024 .f32) (arg21 : Memref sig .tc .vmem S272x1024 .f32)
  (x0 x1 x4 x5 x6 x7 x10 : Vec Ideal S256x1024 .bf16) (x2 x3 : Vec Ideal S32x1024 .bf16) (x8 x9 : Vec Ideal S16x1024 .bf16)
  (x13 : Vec Ideal S31x1024 .f32) (x14 x15 x16 : Vec Ideal S1x1024 .f32) (x17 : Vec Ideal S3x1024 .f32)

/-- The convolved row with its bias. -/
def convRow (r : Fin 256) (l : Fin 1024) : EReal := acc i x0 x1 x2 x3 x13 r l 31 + x14 (ix2 0 l)

theorem centred (r : Fin 256) (l : Fin 1024) :
    kernelRun0_B.sl.r_16 (F := Ideal) c i arg1 harg1 arg2 harg2 arg3 harg3 arg4 harg4 arg14 harg14 arg15 harg15 arg20 x0 x1 x2 x3 x13 x14 (ix2 r l) = cent (convRow i x0 x1 x2 x3 x13 x14 r) l := by
  pointwise [kernelRun0_B.sl.r_16, k0_pay25, kernelRun0_B.sl.r_14, kernelRun0_B.sl.r_15, k0_pay24, View.readAt_eq_ld, Memref.IsWhole.read_unread]
  simp only [load27, load28, load29, load30, sum_r_13]
  rfl

theorem squares (r : Fin 256) :
    kernelRun0_B.sl.r_17 (F := Ideal) c i arg1 harg1 arg2 harg2 arg3 harg3 arg4 harg4 arg14 harg14 arg15 harg15 arg20 x0 x1 x2 x3 x13 x14 (ix2 r 0) = spread (convRow i x0 x1 x2 x3 x13 x14 r) := by
  have e : kernelRun0_B.sl.r_17 (F := Ideal) c i arg1 harg1 arg2 harg2 arg3 harg3 arg4 harg4 arg14 harg14 arg15 harg15 arg20 x0 x1 x2 x3 x13 x14 (ix2 r 0) =
      Ideal.div (∑ k, kernelRun0_B.sl.r_16 (F := Ideal) c i arg1 harg1 arg2 harg2 arg3 harg3 arg4 harg4 arg14 harg14 arg15 harg15 arg20 x0 x1 x2 x3 x13 x14 (ix2 r k) * kernelRun0_B.sl.r_16 (F := Ideal) c i arg1 harg1 arg2 harg2 arg3 harg3 arg4 harg4 arg14 harg14 arg15 harg15 arg20 x0 x1 x2 x3 x13 x14 (ix2 r k)) (Ideal.ofBits .f32 1149239296#32) + Ideal.ofBits .f32 897988541#32 := by
    unfold kernelRun0_B.sl.r_17 kernelRun0_B.sl.r_16
    pointwise [k0_pay26]
  rw [e]
  simp only [centred]
  rfl

/-- The long branch of a tile. -/
theorem long (r : Fin 256) (l : Fin 1024) :
    k0_pay27 (kernelRun0_B.sl.r_16 (F := Ideal) c i arg1 harg1 arg2 harg2 arg3 harg3 arg4 harg4 arg14 harg14 arg15 harg15 arg20 x0 x1 x2 x3 x13 x14) (kernelRun0_B.sl.r_17 (F := Ideal) c i arg1 harg1 arg2 harg2 arg3 harg3 arg4 harg4 arg14 harg14 arg15 harg15 arg20 x0 x1 x2 x3 x13 x14) x15 x16 x4 (ix3 0 r l)
      = longRow (convRow i x0 x1 x2 x3 x13 x14 r) (fun k => x15 (ix2 0 k)) (fun k => x16 (ix2 0 k)) (x4 (ix2 r l)) l := by
  pointwise [k0_pay27]
  simp only [centred, squares, zero_sub]
  rfl

/-- The short convolution's scratch. -/
def Dc (q : S272x1024.Idx) : EReal := Dt i x6 x7 x8 x9 (q 0).val (q 1)

theorem Dc_emb {o n : ℕ} (inb : ∀ a, (![o, 0] : Fin 2 → ℕ) a + (![n, 1024] : Fin 2 → ℕ) a ≤ S272x1024.size a) (r : Fin n) (l : Fin 1024) :
    Dc i x6 x7 x8 x9 ((Rect.unit (s := S272x1024) ![o, 0] ![n, 1024] inb).emb (ix2 r l)) = Dt i x6 x7 x8 x9 (o + r.val) l := by
  unfold Dc
  rw [ValueKit.rect_emb_unit_val]
  exact congrArg _ (Fin.ext ((ValueKit.rect_emb_unit_val _ _ inb _ 1).trans (Nat.zero_add _)))

theorem short_pieces : View.PiecesOf (Dc i x6 x7 x8 x9) (kernelRun0_B.sl.HS1_2 (F := Ideal) c i arg7 harg7 arg8 harg8 arg9 harg9 arg10 harg10 x6 x7 x8 x9) := by
  unfold kernelRun0_B.sl.HS1_2
  refine ⟨fun x => ?_, fun x => ?_, trivial⟩
  · obtain ⟨r, l, rfl⟩ : ∃ (r : Fin 256) (l : Fin 1024), x = ix2 r l := ⟨_, _, eq_ix2 x⟩
    refine Eq.trans ?_ (Dc_emb i x6 x7 x8 x9 inb_S272x1024_S256x1024_16_0 r l).symm
    have h1 : ¬ (16 + r.val) < 16 := by omega
    have h2 : 16 + r.val - 16 = r.val := by omega
    unfold Dt
    rw [dif_neg h1]
    simp only [h2, r.isLt, ↓reduceDIte]
    pointwise [k0_pay30, View.readAt_eq_ld, Memref.IsWhole.read_unread]
  · obtain ⟨r, l, rfl⟩ : ∃ (r : Fin 16) (l : Fin 1024), x = ix2 r l := ⟨_, _, eq_ix2 x⟩
    refine Eq.trans ?_ (Dc_emb i x6 x7 x8 x9 inb_S272x1024_S16x1024_0_0 r l).symm
    have h1 : (0 + r.val) < 16 := by omega
    have h2 : 0 + r.val = r.val := by omega
    unfold Dt
    rw [dif_pos h1]
    simp only [h2]
    pointwise [k0_pay29, kernelRun0_B.sl.r_18, kernelRun0_B.sl.cst_222, k0_pay28, View.readAt_eq_ld, Memref.IsWhole.read_unread]

theorem short_load {o : ℕ} (inb : ∀ a, (![o, 0] : Fin 2 → ℕ) a + (![256, 1024] : Fin 2 → ℕ) a ≤ S272x1024.size a) (r : Fin 256) (l : Fin 1024) :
    arg21.view.readCov (kernelRun0_B.sl.HS1_2 (F := Ideal) c i arg7 harg7 arg8 harg8 arg9 harg9 arg10 harg10 x6 x7 x8 x9)
      (Rect.unit (s := S272x1024) ![o, 0] ![256, 1024] inb).toLoadRect (ix2 r l) = Dt i x6 x7 x8 x9 (o + r.val) l := by
  rw [View.readCov_eq_canon']
  have hr : o + r.val < 272 := lt_of_lt_of_le (Nat.add_lt_add_left r.isLt _) (inb 0)
  have hc : ∃ p ∈ kernelRun0_B.sl.HS1_2 (F := Ideal) c i arg7 harg7 arg8 harg8 arg9 harg9 arg10 harg10 x6 x7 x8 x9,
      (Rect.unit (s := S272x1024) ![o, 0] ![256, 1024] inb).emb (ix2 r l) ∈ p.1.set := by
    unfold kernelRun0_B.sl.HS1_2
    by_cases h : o + r.val < 16
    · refine ⟨_, .tail _ (.head _), (Rect.mem_set_unit (inb := inb_S272x1024_S16x1024_0_0)).2 fun a => ?_⟩
      rw [ValueKit.rect_emb_unit_val]
      match a with
      | ⟨0, _⟩ => exact ⟨Nat.zero_le _, show o + r.val < 0 + 16 by omega⟩
      | ⟨1, _⟩ => exact ⟨Nat.zero_le _, show 0 + l.val < 0 + 1024 by omega⟩
    · refine ⟨_, .head _, (Rect.mem_set_unit (inb := inb_S272x1024_S256x1024_16_0)).2 fun a => ?_⟩
      rw [ValueKit.rect_emb_unit_val]
      match a with
      | ⟨0, _⟩ => exact ⟨show 16 ≤ o + r.val by omega, show o + r.val < 16 + 256 by omega⟩
      | ⟨1, _⟩ => exact ⟨Nat.zero_le _, show 0 + l.val < 0 + 1024 by omega⟩
  have := View.canon_append_of_piecesOf (Dc i x6 x7 x8 x9) [] _ (short_pieces c i arg7 harg7 arg8 harg8 arg9 harg9 arg10 harg10 x6 x7 x8 x9) _ hc
  rw [List.append_nil] at this
  exact this.trans (Dc_emb i x6 x7 x8 x9 inb r l)

/-- The short branch of a tile. -/
theorem short (r : Fin 256) (l : Fin 1024) :
    k0_pay1 (kernelRun0_B.sl.r_19 (F := Ideal) c i arg6 harg6 arg7 harg7 arg8 harg8 arg9 harg9 arg10 harg10 arg18 harg18 arg21 x5 x6 x7 x8 x9 x17)
        (kernelRun0_B.sl.r_20 (F := Ideal) c arg11 harg11 x10) (ix3 0 r l)
      = x5 (ix2 r l) * (x17 (ix2 0 l) * Dt i x6 x7 x8 x9 (14 + r.val) l + x17 (ix2 1 l) * Dt i x6 x7 x8 x9 (15 + r.val) l
          + x17 (ix2 2 l) * Dt i x6 x7 x8 x9 (16 + r.val) l) * silu (x10 (ix2 r l)) := by
  pointwise [k0_pay1, kernelRun0_B.sl.r_19, kernelRun0_B.sl.r_20, k0_pay31, View.readAt_eq_ld, Memref.IsWhole.read_unread]
  unfold kernelRun0_B.sl.v342 kernelRun0_B.sl.v347 kernelRun0_B.sl.v352
  rw [zero_sub, short_load c i arg7 harg7 arg8 harg8 arg9 harg9 arg10 harg10 arg21 x6 x7 x8 x9 inb_S272x1024_S256x1024_14_0 r l, short_load c i arg7 harg7 arg8 harg8 arg9 harg9 arg10 harg10 arg21 x6 x7 x8 x9 inb_S272x1024_S256x1024_15_0 r l,
    short_load c i arg7 harg7 arg8 harg8 arg9 harg9 arg10 harg10 arg21 x6 x7 x8 x9 inb_S272x1024_S256x1024_16_0 r l]
  rfl
end
end Cert.CdIdeal.Hand
end
-- ==== Proof.CdValue.lean ====
module

public import proofs.«01_k».proof.Proof.CdMix
public import proofs.«01_k».proof.Proof.Gen.CdIdeal.Frame
public import proofs.«01_k».proof.Proof.Gen.CdIdeal.Value
public import Idealize.ShloMosaic.Lib.Pipeline.ValueKit
public import Idealize.ShloMosaic.Lib.Pointwise
public import Idealize.ShloMosaic.Lib.WritesUnit

@[expose] public section

set_option maxRecDepth 16384

noncomputable section

namespace Cert.CdIdeal.Hand

open Cert.CdIdeal Cert.CdIdeal.Gen Idealize.ShloMosaic Idealize.ShloMosaic.TcCoe Idealize.SL.Sem
open Idealize.ShloMosaic.Pipeline (Dat)

variable (m : (ℓ : Loc nD τ sig) → Buf (Elt Ideal) ℓ)

theorem offs : ∀ t : Fin cfg0.N, k0_off1 (grid0.coords t) = ![(t.val + 1) % 2, 0, 0] ∧ k0_off2 (grid0.coords t) = ![t.val % 2, 0, 0]
    ∧ k0_off3 (grid0.coords t) = ![t.val % 2, 0, 1024] :=
  (by decide +kernel : ∀ t : Fin grid0.N, _)

theorem first : ∀ t : Fin cfg0.N, t.val < 128 → kernelRun0_B.sl.v1 (grid0.coords t) = if t.val % 16 = 0 then 1#1 else 0#1 :=
  (by decide +kernel : ∀ t : Fin grid0.N, _)

/-- The mixed rows of a tile, long branch. -/
def tileLong (c : Dev nD) (t : Fin cfg0.N) (r : Fin 256) (l : Fin 1024) : EReal :=
  longRow (convRow (grid0.coords t) (iblk m c 0 t) (iblk m c 1 t) (iblk m c 2 t) (iblk m c 3 t) (iblk m c 13 t) (iblk m c 14 t) r)
    (fun k => iblk m c 15 t (ix2 0 k)) (fun k => iblk m c 16 t (ix2 0 k)) (iblk m c 4 t (ix2 r l)) l

/-- The mixed rows of a tile, short branch. -/
def tileShort (c : Dev nD) (t : Fin cfg0.N) (r : Fin 256) (l : Fin 1024) : EReal :=
  (show EReal from iblk m c 5 t (ix2 r l)) * ((show EReal from iblk m c 17 t (ix2 0 l)) * Dt (grid0.coords t) (iblk m c 6 t) (iblk m c 7 t) (iblk m c 8 t) (iblk m c 9 t) (14 + r.val) l
    + (show EReal from iblk m c 17 t (ix2 1 l)) * Dt (grid0.coords t) (iblk m c 6 t) (iblk m c 7 t) (iblk m c 8 t) (iblk m c 9 t) (15 + r.val) l
    + (show EReal from iblk m c 17 t (ix2 2 l)) * Dt (grid0.coords t) (iblk m c 6 t) (iblk m c 7 t) (iblk m c 8 t) (iblk m c 9 t) (16 + r.val) l) * silu (iblk m c 10 t (ix2 r l))

theorem whole_row (X : Vec Ideal S1x1024 .f32) : View.ld X (Rect.unit ![0, 0] ![1, 1024] inb_S1x1024_S1x1024_0_0) = X :=
  View.ld_unit_zero (S := S1x1024) (by funext a; fin_cases a <;> rfl) _ X

theorem whole_tile (X : Vec Ideal S256x1024 .bf16) : View.ld X (Rect.unit ![0, 0] ![256, 1024] inb_S256x1024_S256x1024_0_0) = X :=
  View.ld_unit_zero (S := S256x1024) (by funext a; fin_cases a <;> rfl) _ X

theorem same_r_16 : @kernelRun0_A.sl.r_16 Ideal _ = @kernelRun0_B.sl.r_16 Ideal _ := rfl

theorem same_r_17 : @kernelRun0_A.sl.r_17 Ideal _ = @kernelRun0_B.sl.r_17 Ideal _ := rfl

theorem same_r_19 : @kernelRun0_A.sl.r_19 Ideal _ = @kernelRun0_B.sl.r_19 Ideal _ := rfl

theorem same_r_20 : @kernelRun0_A.sl.r_20 Ideal = @kernelRun0_B.sl.r_20 Ideal := rfl

theorem kept_long (c : Dev nD) (t : Fin cfg0.N) (r : Fin 256) (l : Fin 1024) :
    (outsAt0 m c t.val t.isLt).2 (ix3 ⟨t.val % 2, Nat.mod_lt _ Nat.two_pos⟩ r ⟨l.val, by omega⟩) = tileLong m c t r l := by
  by_cases h : t.val % 129 = 0
  · rw [outsAt0_A m c t h]
    unfold sout0_A_2 kernelRun0_A
    dsimp only
    rw [View.read_writes_cons_unit_of_not_mem _ _ _ _ _ _ (offs t).2.2 2 (.inl (show l.val < 1024 from l.isLt))]
    rw [View.read_writes_cons_unit_of_mem _ _ _ _ _ _ (ix3 0 r l) (offs t).2.1 (by intro a; match a with
      | ⟨0, _⟩ => exact (Nat.add_zero _).symm
      | ⟨1, _⟩ => exact (Nat.zero_add _).symm
      | ⟨2, _⟩ => exact (Nat.zero_add _).symm)]
    simp only [View.readAt_eq_ld, Memref.IsWhole.read_unread]
    rw [whole_row, whole_row, whole_tile]
    rw [same_r_16, same_r_17]
    exact long c _ _ _ _ _ _ _ _ _ _ _ _ _ _ _ _ _ _ _ _ _ _ _ r l
  · rw [outsAt0_B m c t h]
    unfold sout0_B_2 kernelRun0_B
    dsimp only
    rw [View.read_writes_cons_unit_of_not_mem _ _ _ _ _ _ (offs t).2.2 2 (.inl (show l.val < 1024 from l.isLt))]
    rw [View.read_writes_cons_unit_of_mem _ _ _ _ _ _ (ix3 0 r l) (offs t).2.1 (by intro a; match a with
      | ⟨0, _⟩ => exact (Nat.add_zero _).symm
      | ⟨1, _⟩ => exact (Nat.zero_add _).symm
      | ⟨2, _⟩ => exact (Nat.zero_add _).symm)]
    simp only [View.readAt_eq_ld, Memref.IsWhole.read_unread]
    rw [whole_row, whole_row, whole_tile]
    exact long c _ _ _ _ _ _ _ _ _ _ _ _ _ _ _ _ _ _ _ _ _ _ _ r l

theorem kept_short (c : Dev nD) (t : Fin cfg0.N) (r : Fin 256) (l : Fin 1024) :
    (outsAt0 m c t.val t.isLt).2 (ix3 ⟨t.val % 2, Nat.mod_lt _ Nat.two_pos⟩ r ⟨1024 + l.val, by omega⟩) = tileShort m c t r l := by
  by_cases h : t.val % 129 = 0
  · rw [outsAt0_A m c t h]
    unfold sout0_A_2 kernelRun0_A
    dsimp only
    rw [View.read_writes_cons_unit_of_mem _ _ _ _ _ _ (ix3 0 r l) (offs t).2.2 (by intro a; match a with
      | ⟨0, _⟩ => exact (Nat.add_zero _).symm
      | ⟨1, _⟩ => exact (Nat.zero_add _).symm
      | ⟨2, _⟩ => exact rfl)]
    rw [same_r_19, same_r_20]
    exact short c _ _ _ _ _ _ _ _ _ _ _ _ _ _ _ _ _ _ _ _ _ _ _ r l
  · rw [outsAt0_B m c t h]
    unfold sout0_B_2 kernelRun0_B
    dsimp only
    rw [View.read_writes_cons_unit_of_mem _ _ _ _ _ _ (ix3 0 r l) (offs t).2.2 (by intro a; match a with
      | ⟨0, _⟩ => exact (Nat.add_zero _).symm
      | ⟨1, _⟩ => exact (Nat.zero_add _).symm
      | ⟨2, _⟩ => exact rfl)]
    exact short c _ _ _ _ _ _ _ _ _ _ _ _ _ _ _ _ _ _ _ _ _ _ _ r l

end Cert.CdIdeal.Hand
end
-- ==== Proof.CdRefSide.lean ====
module

public import proofs.«01_k».proof.Proof.CdMix
public import proofs.«01_k».proof.Proof.Gen.CdRefIdeal.Read
public import Idealize.ShloMosaic.Lib.Pointwise

@[expose] public section

set_option maxRecDepth 16384

noncomputable section

namespace Cert.CdRefIdeal.Hand

open Cert.CdRefIdeal Cert.CdRefIdeal.Gen Cert.CdRefIdeal.Read Idealize.ShloMosaic Idealize.ShloMosaic.TcCoe Idealize.SL.Sem
open Cert.CdIdeal.Hand (gate silu cent spread longRow)

variable (P : FVec Ideal S32768x7168 .bf16) (w : FVec Ideal S31x1024 .f32) (bias lw lb : FVec Ideal S1024 .f32) (v : FVec Ideal S3x1024 .f32)

/-- Column group `k` of the projection at sequence `b`, row `t`. -/
def col (k : Fin 7) (b : Fin 8) (t : Fin 4096) (l : Fin 1024) : EReal :=
  P (ix2 ⟨b.val * 4096 + t.val, by omega⟩ ⟨k.val * 1024 + l.val, by omega⟩)

/-- The gated inputs of the long convolution, 30 rows of zeros first. -/
def Ug (b : Fin 8) (p : ℕ) (l : Fin 1024) : EReal :=
  if h : 30 ≤ p ∧ p - 30 < 4096 then gate (col P 0 b ⟨p - 30, h.2⟩ l) (col P 1 b ⟨p - 30, h.2⟩ l) else 0

/-- The inputs of the short convolution, 2 rows of zeros first. -/
def Dg (b : Fin 8) (p : ℕ) (l : Fin 1024) : EReal :=
  if h : 2 ≤ p ∧ p - 2 < 4096 then col P 4 b ⟨p - 2, h.2⟩ l * col P 5 b ⟨p - 2, h.2⟩ l else 0

/-- The first terms of the long convolution, from the left. -/
def accg (b : Fin 8) (t : Fin 4096) (l : Fin 1024) : ℕ → EReal
  | 0 => 0
  | j + 1 => accg b t l j + w (ix2 (Fin.ofNat 31 j) l) * Ug P b (j + t.val) l

theorem pad_value : (FloatOps.sitofp (F := Ideal) .f32 (0#32) : EReal) = 0 := by
  show ((((0#32 : BitVec 32).toInt : ℤ) : ℝ) : EReal) = 0
  simp

theorem padded (b : Fin 8) (p : Fin 4126) (l : Fin 1024) : val_main_v16 (F := Ideal) P (ix3 b p l) = Ug P b p.val l := by
  pointwise [val_main_v16, val_main_v15, val_main_v14, val_main_v13, val_main_v12, val_main_v11, val_main_v10, val_main_v9,
    val_main_v3, val_main_v2, val_main_v1, val_main_v0, val_main_cst, val_main_cst_0, val_main_call0_v0, val_main_c, Ug, gate, col]
  rw [pad_value]

theorem padded_short (b : Fin 8) (p : Fin 4098) (l : Fin 1024) : val_main_v264 (F := Ideal) P (ix3 b p l) = Dg P b p.val l := by
  pointwise [val_main_v264, val_main_v263, val_main_v6, val_main_v7, val_main_v1, val_main_v0, val_main_call3_v0, val_main_c_7, Dg, col]
  rw [pad_value]

theorem terms1 (b : Fin 8) (t : Fin 4096) (l : Fin 1024) : val_main_v24 (F := Ideal) P w (ix3 b t l) = accg P w b t l 1 := by
  pointwise [val_main_v17, val_main_v18, val_main_v19, val_main_v20, val_main_v21, val_main_v22, val_main_v23, val_main_v24, val_main_cst_1]
  simp only [padded, accg, zero_add]
  rfl

theorem terms2 (b : Fin 8) (t : Fin 4096) (l : Fin 1024) : val_main_v31 (F := Ideal) P w (ix3 b t l) = accg P w b t l 2 := by
  pointwise [val_main_v25, val_main_v26, val_main_v27, val_main_v28, val_main_v29, val_main_v30, val_main_v31]
  simp only [terms1, padded]
  rfl

theorem terms3 (b : Fin 8) (t : Fin 4096) (l : Fin 1024) : val_main_v38 (F := Ideal) P w (ix3 b t l) = accg P w b t l 3 := by
  pointwise [val_main_v32, val_main_v33, val_main_v34, val_main_v35, val_main_v36, val_main_v37, val_main_v38]
  simp only [terms2, padded]
  rfl

theorem terms4 (b : Fin 8) (t : Fin 4096) (l : Fin 1024) : val_main_v45 (F := Ideal) P w (ix3 b t l) = accg P w b t l 4 := by
  pointwise [val_main_v39, val_main_v40, val_main_v41, val_main_v42, val_main_v43, val_main_v44, val_main_v45]
  simp only [terms3, padded]
  rfl

theorem terms5 (b : Fin 8) (t : Fin 4096) (l : Fin 1024) : val_main_v52 (F := Ideal) P w (ix3 b t l) = accg P w b t l 5 := by
  pointwise [val_main_v46, val_main_v47, val_main_v48, val_main_v49, val_main_v50, val_main_v51, val_main_v52]
  simp only [terms4, padded]
  rfl

theorem terms6 (b : Fin 8) (t : Fin 4096) (l : Fin 1024) : val_main_v59 (F := Ideal) P w (ix3 b t l) = accg P w b t l 6 := by
  pointwise [val_main_v53, val_main_v54, val_main_v55, val_main_v56, val_main_v57, val_main_v58, val_main_v59]
  simp only [terms5, padded]
  rfl

theorem terms7 (b : Fin 8) (t : Fin 4096) (l : Fin 1024) : val_main_v66 (F := Ideal) P w (ix3 b t l) = accg P w b t l 7 := by
  pointwise [val_main_v60, val_main_v61, val_main_v62, val_main_v63, val_main_v64, val_main_v65, val_main_v66]
  simp only [terms6, padded]
  rfl

theorem terms8 (b : Fin 8) (t : Fin 4096) (l : Fin 1024) : val_main_v73 (F := Ideal) P w (ix3 b t l) = accg P w b t l 8 := by
  pointwise [val_main_v67, val_main_v68, val_main_v69, val_main_v70, val_main_v71, val_main_v72, val_main_v73]
  simp only [terms7, padded]
  rfl

theorem terms9 (b : Fin 8) (t : Fin 4096) (l : Fin 1024) : val_main_v80 (F := Ideal) P w (ix3 b t l) = accg P w b t l 9 := by
  pointwise [val_main_v74, val_main_v75, val_main_v76, val_main_v77, val_main_v78, val_main_v79, val_main_v80]
  simp only [terms8, padded]
  rfl

theorem terms10 (b : Fin 8) (t : Fin 4096) (l : Fin 1024) : val_main_v87 (F := Ideal) P w (ix3 b t l) = accg P w b t l 10 := by
  pointwise [val_main_v81, val_main_v82, val_main_v83, val_main_v84, val_main_v85, val_main_v86, val_main_v87]
  simp only [terms9, padded]
  rfl

theorem terms11 (b : Fin 8) (t : Fin 4096) (l : Fin 1024) : val_main_v94 (F := Ideal) P w (ix3 b t l) = accg P w b t l 11 := by
  pointwise [val_main_v88, val_main_v89, val_main_v90, val_main_v91, val_main_v92, val_main_v93, val_main_v94]
  simp only [terms10, padded]
  rfl

theorem terms12 (b : Fin 8) (t : Fin 4096) (l : Fin 1024) : val_main_v101 (F := Ideal) P w (ix3 b t l) = accg P w b t l 12 := by
  pointwise [val_main_v95, val_main_v96, val_main_v97, val_main_v98, val_main_v99, val_main_v100, val_main_v101]
  simp only [terms11, padded]
  rfl

theorem terms13 (b : Fin 8) (t : Fin 4096) (l : Fin 1024) : val_main_v108 (F := Ideal) P w (ix3 b t l) = accg P w b t l 13 := by
  pointwise [val_main_v102, val_main_v103, val_main_v104, val_main_v105, val_main_v106, val_main_v107, val_main_v108]
  simp only [terms12, padded]
  rfl

theorem terms14 (b : Fin 8) (t : Fin 4096) (l : Fin 1024) : val_main_v115 (F := Ideal) P w (ix3 b t l) = accg P w b t l 14 := by
  pointwise [val_main_v109, val_main_v110, val_main_v111, val_main_v112, val_main_v113, val_main_v114, val_main_v115]
  simp only [terms13, padded]
  rfl

theorem terms15 (b : Fin 8) (t : Fin 4096) (l : Fin 1024) : val_main_v122 (F := Ideal) P w (ix3 b t l) = accg P w b t l 15 := by
  pointwise [val_main_v116, val_main_v117, val_main_v118, val_main_v119, val_main_v120, val_main_v121, val_main_v122]
  simp only [terms14, padded]
  rfl

theorem terms16 (b : Fin 8) (t : Fin 4096) (l : Fin 1024) : val_main_v129 (F := Ideal) P w (ix3 b t l) = accg P w b t l 16 := by
  pointwise [val_main_v123, val_main_v124, val_main_v125, val_main_v126, val_main_v127, val_main_v128, val_main_v129]
  simp only [terms15, padded]
  rfl

theorem terms17 (b : Fin 8) (t : Fin 4096) (l : Fin 1024) : val_main_v136 (F := Ideal) P w (ix3 b t l) = accg P w b t l 17 := by
  pointwise [val_main_v130, val_main_v131, val_main_v132, val_main_v133, val_main_v134, val_main_v135, val_main_v136]
  simp only [terms16, padded]
  rfl

theorem terms18 (b : Fin 8) (t : Fin 4096) (l : Fin 1024) : val_main_v143 (F := Ideal) P w (ix3 b t l) = accg P w b t l 18 := by
  pointwise [val_main_v137, val_main_v138, val_main_v139, val_main_v140, val_main_v141, val_main_v142, val_main_v143]
  simp only [terms17, padded]
  rfl

theorem terms19 (b : Fin 8) (t : Fin 4096) (l : Fin 1024) : val_main_v150 (F := Ideal) P w (ix3 b t l) = accg P w b t l 19 := by
  pointwise [val_main_v144, val_main_v145, val_main_v146, val_main_v147, val_main_v148, val_main_v149, val_main_v150]
  simp only [terms18, padded]
  rfl

theorem terms20 (b : Fin 8) (t : Fin 4096) (l : Fin 1024) : val_main_v157 (F := Ideal) P w (ix3 b t l) = accg P w b t l 20 := by
  pointwise [val_main_v151, val_main_v152, val_main_v153, val_main_v154, val_main_v155, val_main_v156, val_main_v157]
  simp only [terms19, padded]
  rfl

theorem terms21 (b : Fin 8) (t : Fin 4096) (l : Fin 1024) : val_main_v164 (F := Ideal) P w (ix3 b t l) = accg P w b t l 21 := by
  pointwise [val_main_v158, val_main_v159, val_main_v160, val_main_v161, val_main_v162, val_main_v163, val_main_v164]
  simp only [terms20, padded]
  rfl

theorem terms22 (b : Fin 8) (t : Fin 4096) (l : Fin 1024) : val_main_v171 (F := Ideal) P w (ix3 b t l) = accg P w b t l 22 := by
  pointwise [val_main_v165, val_main_v166, val_main_v167, val_main_v168, val_main_v169, val_main_v170, val_main_v171]
  simp only [terms21, padded]
  rfl

theorem terms23 (b : Fin 8) (t : Fin 4096) (l : Fin 1024) : val_main_v178 (F := Ideal) P w (ix3 b t l) = accg P w b t l 23 := by
  pointwise [val_main_v172, val_main_v173, val_main_v174, val_main_v175, val_main_v176, val_main_v177, val_main_v178]
  simp only [terms22, padded]
  rfl

theorem terms24 (b : Fin 8) (t : Fin 4096) (l : Fin 1024) : val_main_v185 (F := Ideal) P w (ix3 b t l) = accg P w b t l 24 := by
  pointwise [val_main_v179, val_main_v180, val_main_v181, val_main_v182, val_main_v183, val_main_v184, val_main_v185]
  simp only [terms23, padded]
  rfl

theorem terms25 (b : Fin 8) (t : Fin 4096) (l : Fin 1024) : val_main_v192 (F := Ideal) P w (ix3 b t l) = accg P w b t l 25 := by
  pointwise [val_main_v186, val_main_v187, val_main_v188, val_main_v189, val_main_v190, val_main_v191, val_main_v192]
  simp only [terms24, padded]
  rfl

theorem terms26 (b : Fin 8) (t : Fin 4096) (l : Fin 1024) : val_main_v199 (F := Ideal) P w (ix3 b t l) = accg P w b t l 26 := by
  pointwise [val_main_v193, val_main_v194, val_main_v195, val_main_v196, val_main_v197, val_main_v198, val_main_v199]
  simp only [terms25, padded]
  rfl

theorem terms27 (b : Fin 8) (t : Fin 4096) (l : Fin 1024) : val_main_v206 (F := Ideal) P w (ix3 b t l) = accg P w b t l 27 := by
  pointwise [val_main_v200, val_main_v201, val_main_v202, val_main_v203, val_main_v204, val_main_v205, val_main_v206]
  simp only [terms26, padded]
  rfl

theorem terms28 (b : Fin 8) (t : Fin 4096) (l : Fin 1024) : val_main_v213 (F := Ideal) P w (ix3 b t l) = accg P w b t l 28 := by
  pointwise [val_main_v207, val_main_v208, val_main_v209, val_main_v210, val_main_v211, val_main_v212, val_main_v213]
  simp only [terms27, padded]
  rfl

theorem terms29 (b : Fin 8) (t : Fin 4096) (l : Fin 1024) : val_main_v220 (F := Ideal) P w (ix3 b t l) = accg P w b t l 29 := by
  pointwise [val_main_v214, val_main_v215, val_main_v216, val_main_v217, val_main_v218, val_main_v219, val_main_v220]
  simp only [terms28, padded]
  rfl

theorem terms30 (b : Fin 8) (t : Fin 4096) (l : Fin 1024) : val_main_v227 (F := Ideal) P w (ix3 b t l) = accg P w b t l 30 := by
  pointwise [val_main_v221, val_main_v222, val_main_v223, val_main_v224, val_main_v225, val_main_v226, val_main_v227]
  simp only [terms29, padded]
  rfl

theorem terms31 (b : Fin 8) (t : Fin 4096) (l : Fin 1024) : val_main_v234 (F := Ideal) P w (ix3 b t l) = accg P w b t l 31 := by
  pointwise [val_main_v228, val_main_v229, val_main_v230, val_main_v231, val_main_v232, val_main_v233, val_main_v234]
  simp only [terms30, padded]
  rfl

/-- The convolved row with its bias. -/
def convg (b : Fin 8) (t : Fin 4096) (l : Fin 1024) : EReal := accg P w b t l 31 + bias (ix1 l)

theorem conv_at (b : Fin 8) (t : Fin 4096) (l : Fin 1024) : val_main_v237 (F := Ideal) P w bias (ix3 b t l) = convg P w bias b t l := by
  pointwise [val_main_v237, val_main_v236, val_main_v235]
  simp only [terms31]
  rfl

theorem cent_at (b : Fin 8) (t : Fin 4096) (l : Fin 1024) : val_main_v243 (F := Ideal) P w bias (ix3 b t l) = cent (convg P w bias b t) l := by
  pointwise [val_main_v243, val_main_v242, val_main_v241, val_main_v240, val_main_v239, val_main_v238, val_main_cst_3, val_main_cst_2]
  simp only [conv_at]
  rfl

theorem spread_at (b : Fin 8) (t : Fin 4096) : val_main_v250 (F := Ideal) P w bias (ix3 b t 0) = spread (convg P w bias b t) := by
  pointwise [val_main_v250, val_main_v249, val_main_v248, val_main_v247, val_main_v246, val_main_v245, val_main_v244, val_main_cst_6, val_main_cst_5, val_main_cst_4]
  simp only [cent_at]
  rfl

/-- The long branch. -/
theorem long_at (b : Fin 8) (t : Fin 4096) (l : Fin 1024) : val_main_v262 (F := Ideal) P w bias lw lb (ix3 b t l)
    = longRow (convg P w bias b t) (fun k => lw (ix1 k)) (fun k => lb (ix1 k)) (col P 2 b t l) l := by
  pointwise [val_main_v262, val_main_v261, val_main_call2_v5, val_main_call2_v4, val_main_call2_v3, val_main_call2_v2, val_main_call2_v1, val_main_call2_v0,
    val_main_call2_cst, val_main_call2_cst_0, val_main_v260, val_main_call1_v5, val_main_call1_v4, val_main_call1_v3, val_main_call1_v2, val_main_call1_v1,
    val_main_call1_v0, val_main_call1_cst, val_main_call1_cst_0, val_main_v259, val_main_v258, val_main_v257, val_main_v256, val_main_v255, val_main_v254,
    val_main_v253, val_main_v252, val_main_v251, val_main_v4, val_main_v1, val_main_v0]
  simp only [cent_at, spread_at]
  rfl

/-- The short branch. -/
theorem short_at (b : Fin 8) (t : Fin 4096) (l : Fin 1024) : val_main_v289 (F := Ideal) P v (ix3 b t l)
    = col P 3 b t l * (v (ix2 0 l) * Dg P b t.val l + v (ix2 1 l) * Dg P b (1 + t.val) l + v (ix2 2 l) * Dg P b (2 + t.val) l) * silu (col P 6 b t l) := by
  pointwise [val_main_v289, val_main_v288, val_main_call4_v5, val_main_call4_v4, val_main_call4_v3, val_main_call4_v2, val_main_call4_v1, val_main_call4_v0,
    val_main_call4_cst, val_main_call4_cst_0, val_main_v287, val_main_v286, val_main_v285, val_main_v284, val_main_v283, val_main_v282, val_main_v281, val_main_v280,
    val_main_v279, val_main_v278, val_main_v277, val_main_v276, val_main_v275, val_main_v274, val_main_v273, val_main_v272, val_main_v271, val_main_cst_8,
    val_main_v270, val_main_v269, val_main_v268, val_main_v267, val_main_v266, val_main_v265, val_main_v8, val_main_v5, val_main_v1, val_main_v0]
  simp only [padded_short]
  rfl

/-- The result at an element. -/
theorem result_at (x : FVec Ideal S32768x2048 .f32) (wo : FVec Ideal S2048x2048 .f32) (n : Fin 32768) (o : Fin 2048) :
    val_main_v293 (F := Ideal) P x wo w bias lw lb v (ix2 n o) = x (ix2 n o)
      + (∑ k : Fin 1024, val_main_v262 (F := Ideal) P w bias lw lb (ix3 ⟨n.val / 4096, by omega⟩ ⟨n.val % 4096, by omega⟩ k) * wo (ix2 ⟨k.val, by omega⟩ o)
        + ∑ k : Fin 1024, val_main_v289 (F := Ideal) P v (ix3 ⟨n.val / 4096, by omega⟩ ⟨n.val % 4096, by omega⟩ k) * wo (ix2 ⟨1024 + k.val, by omega⟩ o)) := by
  pointwise [val_main_v293, val_main_v292, val_main_v291, val_main_v290]

end Cert.CdRefIdeal.Hand
end
-- ==== Proof.CdFinal.lean ====
module

public import proofs.«01_k».proof.Proof.CdValue
public import proofs.«01_k».proof.Proof.CdRefSide
public import proofs.«01_k».proof.Proof.Gen.CdIdeal.Frame
public import proofs.«01_k».proof.Proof.Gen.CdIdeal.Value
public import Idealize.ShloMosaic.Lib.Pipeline.ValueKit
public import Idealize.ShloMosaic.Lib.Pointwise
public import Idealize.ShloMosaic.Lib.WritesUnit

@[expose] public section

set_option maxRecDepth 16384

noncomputable section

namespace Cert.CdIdeal.Hand

open Cert.CdIdeal Cert.CdIdeal.Gen Idealize.ShloMosaic Idealize.ShloMosaic.TcCoe Idealize.SL.Sem
open Idealize.ShloMosaic.Pipeline (Dat)
open Cert.CdRefIdeal.Hand (col Ug Dg accg convg)

variable (m : (ℓ : Loc nD τ sig) → Buf (Elt Ideal) ℓ)

theorem place : ∀ t : Fin cfg0.N, t.val < 128 →
    win0_0.index t = ![t.val, 0] ∧ win0_1.index t = ![t.val, 1] ∧ win0_2.index t = ![8 * t.val - 1, 0] ∧ win0_3.index t = ![8 * t.val - 1, 1]
    ∧ win0_4.index t = ![t.val, 2] ∧ win0_5.index t = ![t.val, 3] ∧ win0_6.index t = ![t.val, 4] ∧ win0_7.index t = ![t.val, 5]
    ∧ win0_8.index t = ![16 * t.val - 1, 4] ∧ win0_9.index t = ![16 * t.val - 1, 5] ∧ win0_10.index t = ![t.val, 6]
    ∧ win0_13.index t = ![0, 0] ∧ win0_14.index t = ![0, 0] ∧ win0_15.index t = ![0, 0] ∧ win0_16.index t = ![0, 0] ∧ win0_17.index t = ![0, 0] :=
  (by decide +kernel : ∀ t : Fin grid0.N, _)

theorem place_out : ∀ t : Fin cfg0.N, 0 < t.val →
    win0_11.index t = ![t.val - 1, 0] ∧ win0_12.index t = ![0, 0] ∧ win0_18.index t = ![t.val - 1, 0] :=
  (by decide +kernel : ∀ t : Fin grid0.N, _)

/-- The projection as the launch holds it. -/
abbrev PR (c : Dev nD) : FVec Ideal S32768x7168 .bf16 := m ((c : Thread nD τ).loc main_arg0)

theorem blk0 (c : Dev nD) (t : Fin cfg0.N) (h : t.val < 128) (r : Fin 256) (l : Fin 1024) :
    iblk m c 0 t (ix2 r l) = col (PR m c) 0 ⟨t.val / 16, by omega⟩ ⟨t.val % 16 * 256 + r.val, by omega⟩ l := by
  unfold col
  blk_point [iblk, V, place t h]

theorem blk1 (c : Dev nD) (t : Fin cfg0.N) (h : t.val < 128) (r : Fin 256) (l : Fin 1024) :
    iblk m c 1 t (ix2 r l) = col (PR m c) 1 ⟨t.val / 16, by omega⟩ ⟨t.val % 16 * 256 + r.val, by omega⟩ l := by
  unfold col
  blk_point [iblk, V, place t h]

theorem blk4 (c : Dev nD) (t : Fin cfg0.N) (h : t.val < 128) (r : Fin 256) (l : Fin 1024) :
    iblk m c 4 t (ix2 r l) = col (PR m c) 2 ⟨t.val / 16, by omega⟩ ⟨t.val % 16 * 256 + r.val, by omega⟩ l := by
  unfold col
  blk_point [iblk, V, place t h]

theorem blk5 (c : Dev nD) (t : Fin cfg0.N) (h : t.val < 128) (r : Fin 256) (l : Fin 1024) :
    iblk m c 5 t (ix2 r l) = col (PR m c) 3 ⟨t.val / 16, by omega⟩ ⟨t.val % 16 * 256 + r.val, by omega⟩ l := by
  unfold col
  blk_point [iblk, V, place t h]

theorem blk6 (c : Dev nD) (t : Fin cfg0.N) (h : t.val < 128) (r : Fin 256) (l : Fin 1024) :
    iblk m c 6 t (ix2 r l) = col (PR m c) 4 ⟨t.val / 16, by omega⟩ ⟨t.val % 16 * 256 + r.val, by omega⟩ l := by
  unfold col
  blk_point [iblk, V, place t h]

theorem blk7 (c : Dev nD) (t : Fin cfg0.N) (h : t.val < 128) (r : Fin 256) (l : Fin 1024) :
    iblk m c 7 t (ix2 r l) = col (PR m c) 5 ⟨t.val / 16, by omega⟩ ⟨t.val % 16 * 256 + r.val, by omega⟩ l := by
  unfold col
  blk_point [iblk, V, place t h]

theorem blk10 (c : Dev nD) (t : Fin cfg0.N) (h : t.val < 128) (r : Fin 256) (l : Fin 1024) :
    iblk m c 10 t (ix2 r l) = col (PR m c) 6 ⟨t.val / 16, by omega⟩ ⟨t.val % 16 * 256 + r.val, by omega⟩ l := by
  unfold col
  blk_point [iblk, V, place t h]

theorem blk2 (c : Dev nD) (t : Fin cfg0.N) (h : t.val < 128) (h0 : t.val % 16 ≠ 0) (r : Fin 32) (l : Fin 1024) :
    iblk m c 2 t (ix2 r l) = col (PR m c) 0 ⟨t.val / 16, by omega⟩ ⟨t.val % 16 * 256 - 32 + r.val, by omega⟩ l := by
  unfold col
  blk_point [iblk, V, place t h]

theorem blk3 (c : Dev nD) (t : Fin cfg0.N) (h : t.val < 128) (h0 : t.val % 16 ≠ 0) (r : Fin 32) (l : Fin 1024) :
    iblk m c 3 t (ix2 r l) = col (PR m c) 1 ⟨t.val / 16, by omega⟩ ⟨t.val % 16 * 256 - 32 + r.val, by omega⟩ l := by
  unfold col
  blk_point [iblk, V, place t h]

theorem blk8 (c : Dev nD) (t : Fin cfg0.N) (h : t.val < 128) (h0 : t.val % 16 ≠ 0) (r : Fin 16) (l : Fin 1024) :
    iblk m c 8 t (ix2 r l) = col (PR m c) 4 ⟨t.val / 16, by omega⟩ ⟨t.val % 16 * 256 - 16 + r.val, by omega⟩ l := by
  unfold col
  blk_point [iblk, V, place t h]

theorem blk9 (c : Dev nD) (t : Fin cfg0.N) (h : t.val < 128) (h0 : t.val % 16 ≠ 0) (r : Fin 16) (l : Fin 1024) :
    iblk m c 9 t (ix2 r l) = col (PR m c) 5 ⟨t.val / 16, by omega⟩ ⟨t.val % 16 * 256 - 16 + r.val, by omega⟩ l := by
  unfold col
  blk_point [iblk, V, place t h]

theorem blk13 (c : Dev nD) (t : Fin cfg0.N) (h : t.val < 128) (r : Fin 31) (l : Fin 1024) :
    iblk m c 13 t (ix2 r l) = m ((c : Thread nD τ).loc main_arg3) (ix2 r l) := by
  blk_point [iblk, V, place t h]

theorem blk17 (c : Dev nD) (t : Fin cfg0.N) (h : t.val < 128) (r : Fin 3) (l : Fin 1024) :
    iblk m c 17 t (ix2 r l) = m ((c : Thread nD τ).loc main_arg7) (ix2 r l) := by
  blk_point [iblk, V, place t h]

theorem blk14 (c : Dev nD) (t : Fin cfg0.N) (h : t.val < 128) (l : Fin 1024) :
    iblk m c 14 t (ix2 0 l) = m ((c : Thread nD τ).loc main_arg4) (ix1 l) := by
  blk_point [iblk, V, place t h]

theorem blk15 (c : Dev nD) (t : Fin cfg0.N) (h : t.val < 128) (l : Fin 1024) :
    iblk m c 15 t (ix2 0 l) = m ((c : Thread nD τ).loc main_arg5) (ix1 l) := by
  blk_point [iblk, V, place t h]

theorem blk16 (c : Dev nD) (t : Fin cfg0.N) (h : t.val < 128) (l : Fin 1024) :
    iblk m c 16 t (ix2 0 l) = m ((c : Thread nD τ).loc main_arg6) (ix1 l) := by
  blk_point [iblk, V, place t h]

theorem rows_eq (c : Dev nD) (t : Fin cfg0.N) (h : t.val < 128) (p : ℕ) (l : Fin 1024) (hp : 2 ≤ p ∧ p < 288) :
    Ut (grid0.coords t) (iblk m c 0 t) (iblk m c 1 t) (iblk m c 2 t) (iblk m c 3 t) p l
      = Ug (PR m c) ⟨t.val / 16, by omega⟩ (p - 2 + t.val % 16 * 256) l := by
  unfold Ut Ug
  by_cases h1 : p < 32
  · rw [dif_pos h1, first t h]
    by_cases h0 : t.val % 16 = 0
    · rw [if_pos h0, dif_neg (by omega)]
      rfl
    · rw [if_neg h0, dif_pos (by omega), blk2 m c t h h0, blk3 m c t h h0]
      refine congrArg₂ gate ?_ ?_ <;> exact congrArg (fun a => col _ _ _ a l) (Fin.ext (by dsimp only; omega))
  · rw [dif_neg h1, dif_pos (by omega), dif_pos (by omega), blk0 m c t h, blk1 m c t h]
    refine congrArg₂ gate ?_ ?_ <;> exact congrArg (fun a => col _ _ _ a l) (Fin.ext (by dsimp only; omega))

theorem short_rows_eq (c : Dev nD) (t : Fin cfg0.N) (h : t.val < 128) (p : ℕ) (l : Fin 1024) (hp : 14 ≤ p ∧ p < 272) :
    Dt (grid0.coords t) (iblk m c 6 t) (iblk m c 7 t) (iblk m c 8 t) (iblk m c 9 t) p l
      = Dg (PR m c) ⟨t.val / 16, by omega⟩ (p - 14 + t.val % 16 * 256) l := by
  unfold Dt Dg
  by_cases h1 : p < 16
  · rw [dif_pos h1, first t h]
    by_cases h0 : t.val % 16 = 0
    · rw [if_pos h0, dif_neg (by omega)]
      rfl
    · rw [if_neg h0, dif_pos (by omega), blk8 m c t h h0, blk9 m c t h h0]
      refine Ideal.mul_congr ?_ ?_ <;> exact congrArg (fun a => col _ _ _ a l) (Fin.ext (by dsimp only; omega))
  · rw [dif_neg h1, dif_pos (by omega), dif_pos (by omega), blk6 m c t h, blk7 m c t h]
    refine Ideal.mul_congr ?_ ?_ <;> exact congrArg (fun a => col _ _ _ a l) (Fin.ext (by dsimp only; omega))

theorem acc_eq (c : Dev nD) (t : Fin cfg0.N) (h : t.val < 128) (r : Fin 256) (l : Fin 1024) : ∀ n, n ≤ 31 →
    acc (grid0.coords t) (iblk m c 0 t) (iblk m c 1 t) (iblk m c 2 t) (iblk m c 3 t) (iblk m c 13 t) r l n
      = accg (PR m c) (m ((c : Thread nD τ).loc main_arg3)) ⟨t.val / 16, by omega⟩ ⟨t.val % 16 * 256 + r.val, by omega⟩ l n
  | 0, _ => rfl
  | n + 1, hn => by
    unfold acc accg
    rw [acc_eq c t h r l n (by omega), rows_eq m c t h _ l (by omega), blk13 m c t h]
    have e : 2 + n + r.val - 2 + t.val % 16 * 256 = n + (t.val % 16 * 256 + r.val) := by omega
    rw [e]

theorem long_eq (c : Dev nD) (t : Fin cfg0.N) (h : t.val < 128) (r : Fin 256) (l : Fin 1024) :
    tileLong m c t r l = Cert.CdRefIdeal.Read.val_main_v262 (F := Ideal) (PR m c) (m ((c : Thread nD τ).loc main_arg3)) (m ((c : Thread nD τ).loc main_arg4))
      (m ((c : Thread nD τ).loc main_arg5)) (m ((c : Thread nD τ).loc main_arg6)) (ix3 ⟨t.val / 16, by omega⟩ ⟨t.val % 16 * 256 + r.val, by omega⟩ l) := by
  rw [Cert.CdRefIdeal.Hand.long_at]
  unfold tileLong
  have e : convRow (grid0.coords t) (iblk m c 0 t) (iblk m c 1 t) (iblk m c 2 t) (iblk m c 3 t) (iblk m c 13 t) (iblk m c 14 t) r
      = convg (PR m c) (m ((c : Thread nD τ).loc main_arg3)) (m ((c : Thread nD τ).loc main_arg4)) ⟨t.val / 16, by omega⟩ ⟨t.val % 16 * 256 + r.val, by omega⟩ := by
    funext k
    unfold convRow convg
    rw [acc_eq m c t h r k 31 (le_refl _), blk14 m c t h]
  rw [e, blk4 m c t h]
  simp only [blk15 m c t h, blk16 m c t h]

theorem short_eq (c : Dev nD) (t : Fin cfg0.N) (h : t.val < 128) (r : Fin 256) (l : Fin 1024) :
    tileShort m c t r l = Cert.CdRefIdeal.Read.val_main_v289 (F := Ideal) (PR m c) (m ((c : Thread nD τ).loc main_arg7))
      (ix3 ⟨t.val / 16, by omega⟩ ⟨t.val % 16 * 256 + r.val, by omega⟩ l) := by
  rw [Cert.CdRefIdeal.Hand.short_at]
  unfold tileShort
  rw [blk5 m c t h, blk10 m c t h, blk17 m c t h, blk17 m c t h, blk17 m c t h, short_rows_eq m c t h _ l (by omega), short_rows_eq m c t h _ l (by omega),
    short_rows_eq m c t h _ l (by omega)]
  have e0 : 14 + r.val - 14 + t.val % 16 * 256 = t.val % 16 * 256 + r.val := by omega
  have e1 : 15 + r.val - 14 + t.val % 16 * 256 = 1 + (t.val % 16 * 256 + r.val) := by omega
  have e2 : 16 + r.val - 14 + t.val % 16 * 256 = 2 + (t.val % 16 * 256 + r.val) := by omega
  rw [e0, e1, e2]

/-- One element of a block that goes out. -/
theorem entry (c : Dev nD) (t : Fin cfg0.N) (h : 0 < t.val) (r : Fin 256) (o : Fin 2048) :
    (outsAt0 m c t.val t.isLt).1 (ix2 r o) = Cert.CdRefIdeal.Read.val_main_v293 (F := Ideal) (PR m c) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (ix2 ⟨(t.val - 1) * 256 + r.val, by have := t.isLt; have : cfg0.N = 129 := rfl; omega⟩ o) := by
  have hN : t.val < 129 := t.isLt
  have hB : ¬ t.val % 129 = 0 := by omega
  rw [Cert.CdRefIdeal.Hand.result_at, outsAt0_B m c t hB]
  frame_out
  pointwise [k0_pay3]
  have ho0 : k0_off1 (grid0.coords t) 0 = (t.val - 1) % 2 := (congrFun (offs t).1 0).trans (by show (t.val + 1) % 2 = _; omega)
  have ho1 : k0_off1 (grid0.coords t) 1 = 0 := congrFun (offs t).1 1
  have ho2 : k0_off1 (grid0.coords t) 2 = 0 := congrFun (offs t).1 2
  have hs : t.val - 1 < cfg0.N := Nat.lt_of_le_of_lt (Nat.sub_le _ _) t.isLt
  refine Ideal.add_congr (by blk_point [iblk, V, place_out t h]) ?_
  rw [Fin.sum_univ_two_halves 1024 1024 rfl]
  refine congrArg₂ (· + ·) (Finset.sum_congr rfl fun k _ => Ideal.mul_congr ?_ ?_) (Finset.sum_congr rfl fun k _ => Ideal.mul_congr ?_ ?_)
  · refine (congrFun ((Memref.isWhole_whole _).read_unread _) _).trans ?_
    refine Eq.trans (congrArg _ ?_) ((kept_long m c ⟨t.val - 1, hs⟩ r k).trans ((long_eq m c ⟨t.val - 1, hs⟩ (by dsimp only; omega) r k).trans (congrArg _ ?_)))
    · exact (ix3_inj ..).2 ⟨Fin.ext ho0, Fin.ext (by dsimp only; omega), Fin.ext (by dsimp only; omega)⟩
    · exact (ix3_inj ..).2 ⟨Fin.ext (by dsimp only; omega), Fin.ext (by dsimp only; omega), rfl⟩
  · blk_point [iblk, V, place_out t h]
  · refine (congrFun ((Memref.isWhole_whole _).read_unread _) _).trans ?_
    refine Eq.trans (congrArg _ ?_) ((kept_short m c ⟨t.val - 1, hs⟩ r k).trans ((short_eq m c ⟨t.val - 1, hs⟩ (by dsimp only; omega) r k).trans (congrArg _ ?_)))
    · exact (ix3_inj ..).2 ⟨Fin.ext ho0, Fin.ext (by dsimp only; omega), Fin.ext (by dsimp only; omega)⟩
    · exact (ix3_inj ..).2 ⟨Fin.ext (by dsimp only; omega), Fin.ext (by dsimp only; omega), rfl⟩
  · blk_point [iblk, V, place_out t h]

/-- The whole result array after the run is the reference's result. -/
theorem final (c : Dev nD) : (dats m 0 c).arrAt 18 cfg0.N
    = Cert.CdRefIdeal.Read.val_main_v293 (F := Ideal) (PR m c) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) := by
  refine (dats m 0 c).arrAt_eq_of_covers 18 _ (by decide +kernel) fun t hf y => ?_
  have ht : 0 < t.val := (by decide +kernel : ∀ t : Fin grid0.N, win0_18.flush t = true → 0 < t.val) t hf
  blk_simp
  rw [after0_18]
  obtain ⟨r, o, rfl⟩ : ∃ (r : Fin 256) (o : Fin 2048), y = ix2 r o := ⟨_, _, eq_ix2 y⟩
  refine (entry m c t ht r o).trans (congrArg _ ?_)
  blk_ext [place_out t ht]

end Cert.CdIdeal.Hand
end
-- ==== Proof.NmValue.lean ====
/- The fused root-mean-square norm and projection: what the kernel leaves in its result array.
   A block of 1024 rows is normalised once, at the first of its four column blocks, and kept in a scratch buffer;
   each column block is then the product of the kept rows with 1792 columns of the weight. -/
module

public import proofs.«01_k».proof.Proof.Gen.NmIdeal.Frame
public import proofs.«01_k».proof.Proof.Gen.NmIdeal.Value
public import proofs.«01_k».proof.Proof.Gen.NmRefIdeal.Read
public import Idealize.ShloMosaic.Lib.Pipeline.ValueKit
public import Idealize.ShloMosaic.Lib.Pointwise

@[expose] public section

set_option maxRecDepth 16384

noncomputable section

namespace Cert.NmIdeal.Hand

open Cert.NmIdeal Cert.NmIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at point `t`: the row block is `t / 4`, the column block `t % 4`. -/
theorem place : ∀ t : Fin cfg0.N, win0_0.index t = ![t.val / 4, 0] ∧ win0_1.index t = ![0, 0]
    ∧ win0_2.index t = ![0, t.val % 4] ∧ win0_3.index t = ![t.val / 4, t.val % 4] :=
  (by decide +kernel : ∀ t : Fin grid0.N, _)

/-- Two points of one row block see the same rows. -/
theorem same_rows (c : Dev nD) (t u : Fin cfg0.N) (h : t.val / 4 = u.val / 4) : iblk m c 0 t = iblk m c 0 u := by
  funext y
  blk_ext [iblk, place t, place u, h]

/-- Every point sees the whole vector of norm weights. -/
theorem same_weight (c : Dev nD) (t u : Fin cfg0.N) : iblk m c 1 t = iblk m c 1 u := by
  funext y
  blk_ext [iblk, place t, place u]

/-- The rows the scratch holds after point `t` are the normalised rows of the point's own row block. -/
theorem kept (c : Dev nD) : ∀ (n : ℕ) (hn : n < cfg0.N),
    (outsAt0 m c n hn).2 = k0_pay1 (iblk m c 0 ⟨n, hn⟩) (iblk m c 1 ⟨n, hn⟩) := by
  intro n
  induction n with
  | zero =>
    intro hn
    rw [outsAt0_A m c ⟨0, hn⟩ rfl]
    frame_out
  | succ n ih =>
    intro hn
    by_cases h : (n + 1) % 4 = 0
    · rw [outsAt0_A m c ⟨n + 1, hn⟩ h]
      frame_out
    · rw [outsAt0_B m c ⟨n + 1, hn⟩ h]
      frame_out
      show (outsAt0 m c n _).2 = _
      rw [ih, same_rows m c ⟨n, Nat.lt_of_succ_lt hn⟩ ⟨n + 1, hn⟩ (by show n / 4 = (n + 1) / 4; omega),
        same_weight m c ⟨n, Nat.lt_of_succ_lt hn⟩ ⟨n + 1, hn⟩]

/-- What point `t` leaves in the output block: its normalised rows times its columns of the weight. -/
theorem left (c : Dev nD) (t : Fin cfg0.N) :
    (outsAt0 m c t.val t.isLt).1 = k0_pay2 (k0_pay1 (iblk m c 0 t) (iblk m c 1 t)) (iblk m c 2 t) := by
  by_cases h : t.val % 4 = 0
  · rw [outsAt0_A m c t h]
    frame_out
  · have hp : t.val - 1 < cfg0.N := Nat.lt_of_le_of_lt (Nat.sub_le _ _) t.isLt
    have e := kept m c (t.val - 1) hp
    rw [same_rows m c ⟨t.val - 1, hp⟩ t (by show (t.val - 1) / 4 = t.val / 4; omega), same_weight m c ⟨t.val - 1, hp⟩ t] at e
    rw [outsAt0_B m c t h]
    frame_out
    rw [e]
    exact congrArg (fun a => k0_pay2 a (iblk m c 2 t)) ((Memref.isWhole_whole _).read_unread _)

/-- The reference's result, as one term over the three arguments. -/
abbrev REF (x : FVec Ideal S32768x2048 .f32) (g : FVec Ideal S2048 .f32) (w : FVec Ideal S2048x7168 .f32) : FVec Ideal S32768x7168 .bf16 :=
  Cert.NmRefIdeal.Read.val_main_v14 (F := Ideal) x g w

/-- One entry of an output block is the reference's entry at the place the block sits. -/
theorem entry (c : Dev nD) (t : Fin cfg0.N) (y) :
    k0_pay2 (k0_pay1 (iblk m c 0 t) (iblk m c 1 t)) (iblk m c 2 t) y
      = REF (m ((c : Thread nD τ).loc main_arg0)) (m ((c : Thread nD τ).loc main_arg1)) (m ((c : Thread nD τ).loc main_arg2)) (((cfg0.win 3).blk t).view.emb y) := by
  unfold REF
  rw [← Cert.NmRefIdeal.Read.val_main_v14_eq]
  pointwise [k0_pay2, k0_pay1]
  blk_point [iblk, V, place t]

/-- The whole result array after the run is the reference's result. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, left]
  exact entry m c t y

end Cert.NmIdeal.Hand

end
-- ==== Proof.OutValue.lean ====
/- The even layer's output projection: what the kernel leaves in its result array.
   A block of 512 rows is the residual block plus the product of each mixer's rows with its own half of the weight; the
   reference multiplies the joined rows with the whole weight. -/
module

public import proofs.«01_k».proof.Proof.Gen.OutIdeal.Frame
public import proofs.«01_k».proof.Proof.Gen.OutIdeal.Value
public import proofs.«01_k».proof.Proof.Gen.OutRefIdeal.Read
public import Idealize.ShloMosaic.Lib.Pipeline.ValueKit
public import Idealize.ShloMosaic.Lib.Pointwise

@[expose] public section

set_option maxRecDepth 16384

noncomputable section

namespace Cert.OutIdeal.Hand

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at point `t`: row windows move with the point, the weights stay. -/
theorem place : ∀ t : Fin cfg0.N, win0_0.index t = ![t.val, 0] ∧ win0_1.index t = ![t.val, 0]
    ∧ win0_2.index t = ![t.val, 0] ∧ win0_3.index t = ![0, 0] ∧ win0_4.index t = ![0, 0] ∧ win0_5.index t = ![t.val, 0] :=
  (by decide +kernel : ∀ t : Fin grid0.N, _)

/-- The reference's result, as one term over the four arguments. -/
abbrev REF (x : FVec Ideal S32768x2048 .f32) (ya yb : FVec Ideal S32768x1024 .bf16) (w : FVec Ideal S2048x2048 .f32) :
    FVec Ideal S32768x2048 .f32 :=
  Cert.OutRefIdeal.Read.val_main_v4 (F := Ideal) x ya yb w

/-- An entry of the reference: the residual plus the two halves' products, each over its own rows of the weight. -/
theorem ref_at (x : FVec Ideal S32768x2048 .f32) (ya yb : FVec Ideal S32768x1024 .bf16) (w : FVec Ideal S2048x2048 .f32)
    (r : Fin 32768) (l : Fin 2048) :
    REF x ya yb w (ix2 r l) = x (ix2 r l) + ((∑ k : Fin 1024, ya (ix2 r k) * w (ix2 ⟨k.val, by omega⟩ l))
      + ∑ k : Fin 1024, yb (ix2 r k) * w (ix2 ⟨1024 + k.val, by omega⟩ l)) := by
  unfold REF
  rw [← Cert.OutRefIdeal.Read.val_main_v4_eq]
  pointwise

/-- One entry of an output block, from the blocks it is computed from. -/
theorem pay (X : FVec Ideal S512x2048 .f32) (A B : FVec Ideal S512x1024 .bf16) (wa wb : FVec Ideal S1024x2048 .bf16)
    (r : Fin 512) (l : Fin 2048) :
    out0_5 (F := Ideal) X A B wa wb (ix2 r l) = X (ix2 r l) + (∑ k : Fin 1024, A (ix2 r k) * wa (ix2 k l))
      + ∑ k : Fin 1024, B (ix2 r k) * wb (ix2 k l) := by
  unfold out0_5
  rw [View.canon_unit_zero (by funext a; fin_cases a <;> rfl)]
  pointwise [k0_pay1]

/-- The whole result array after the run is the reference's result. -/
theorem final (c : Dev nD) : (dats m 0 c).arrAt 5 cfg0.N
    = REF (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after0_5]
  obtain ⟨r, l, rfl⟩ : ∃ (r : Fin 512) (l : Fin 2048), y = ix2 r l := ⟨y 0, y 1, by funext a; fin_cases a <;> rfl⟩
  have ht : t.val < 64 := t.isLt
  have hi : ((win0_5.blk t).view.emb (ix2 r l)) = ix2 ⟨t.val * 512 + r.val, by omega⟩ l := by
    blk_ext [place t]
  rw [pay, hi, ref_at, add_assoc]
  congr 1
  · blk_point [iblk, V, place t]
  congr 1
  · refine Finset.sum_congr rfl fun k _ => ?_
    blk_point [iblk, V, place t]
  · refine Finset.sum_congr rfl fun k _ => ?_
    blk_point [iblk, V, place t]

end Cert.OutIdeal.Hand

end
-- ==== Proof.AbIdealFrame.lean ====
/- The even layer's norm and projections: the run of the kernel.
   The grid has 32 row blocks of 1024 rows, and three column blocks for each. At the first column block the body norms the
   rows into a scratch array and multiplies them with both weights; at the other two it multiplies the scratch with the
   next columns of the wide weight only, and the block of the narrow result stays as it was stored. -/
module

public import proofs.«01_k».proof.Proof.Gen.AbIdeal.Frame
public import proofs.«01_k».proof.Proof.Gen.AbIdeal.Skeleton
public import proofs.«01_k».proof.Proof.Gen.AbIdeal.Launch
public import proofs.«01_k».proof.Proof.Gen.AbIdeal.Points
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.AbIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch is taken at the first column block of a row block. -/
abbrev cond0 (i : grid0.Coords) : Prop := k0_cond1 i = 1#1

theorem hcond0 : ∀ t : Fin cfg0.N, cond0 (grid0.coords t) ↔ t.val % 3 = 0 :=
  (fun t => by
    have ht : t.val < 96 := Nat.lt_of_lt_of_eq t.isLt N_0
    have e1 : (grid0.coords t 1).val = t.val / 1 % 3 := Pipeline.Grid.coords_val t 1 (by decide) rfl
    simp only [cond0, k0_cond1, e1]
    word_cmp
   : ∀ t : Fin grid0.N, cond0 (grid0.coords t) ↔ t.val % 3 = 0)

/-- A load of a whole array reads its contents. -/
theorem load_whole {S : Shape} {e : EltTy} {r : Memref sig .tc .vmem S e} (h : r.IsWhole) (X : S.Idx → Elt F e) {off : Fin S.rank → ℕ}
    (hz : ∀ a, off a = 0) (inb : ∀ a, off a + S.size a ≤ S.size a) :
    View.readAt (Elt F) r.view (Rect.unit off S.size inb).toLoadRect (h.unread X) = X :=
  (congrArg (fun Y => View.ld Y (Rect.unit off S.size inb)) (h.read_unread X)).trans (View.ld_unit_lit inb X hz)

/-- A store of a whole array leaves what was stored, whatever was there. -/
theorem store_whole {S : Shape} {e : EltTy} (v : View sig .tc .vmem S e) (f : v.ty.Contents (Elt F)) {off : Fin S.rank → ℕ}
    (hz : ∀ a, off a = 0) (inb : ∀ a, off a + S.size a ≤ S.size a) (w : S.Idx → Elt F e) :
    v.read (Elt F) (v.writes (Elt F) f [⟨Rect.unit off S.size inb, w⟩]) = w := by
  obtain rfl : off = fun _ => 0 := funext hz
  funext y
  have e0 : (Rect.unit (s := S) (fun _ => 0) S.size inb).emb y = y := by
    funext a; apply Fin.ext; simp [Rect.emb, Rect.unit]
  conv_lhs => rw [← e0]
  exact View.read_writes_cons_emb ..

set_option maxHeartbeats 1000000 in
/-- The body at the first column block. -/
theorem body_head (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (hc0 : cond0 i)
    (x0 : Vec F S1024x2048 .f32) (x1 : Vec F S1x2048 .f32) (x2 : Vec F S2048x2048 .bf16) (x3 : Vec F S2048x128 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (k0_pay3 (k0_pay1 x0 x1) x2) ∗ owns (c : Thread nD τ) arg7 fullShare (k0_pay2 (k0_pay1 x0 x1) x3) ∗ owns (c : Thread nD τ) arg8 fullShare (k0_pay1 x0 x1)) -∗ K ⟨⟩))
          ⊢ wp frame (wpE (defs₀ (F := F)) Variants.none c none) E (cc0_norm_matmul i arg2 harg2 arg3 harg3 arg4 harg4 arg5 harg5 arg6 harg6 arg7 harg7 arg8 harg8) K := by
    simp only [cc0_norm_matmul_eq_skeleton]; unfold cc0_norm_matmul_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    have hp : body_head.sl.HS0_1 c arg2 harg2 arg3 harg3 x0 x1 = [⟨Rect.unit ![0, 0] S1024x2048.size inb_S1024x2048_S1024x2048_0_0, k0_pay1 x0 x1⟩] := by
      unfold body_head.sl.HS0_1
      rw [load_whole harg2 x0 (by decide), load_whole harg3 x1 (by decide)]
    have hk : body_head.sl.v28 c arg2 harg2 arg3 harg3 arg8 x0 x1 = k0_pay1 x0 x1 := by
      unfold body_head.sl.v28
      rw [hp]
      exact View.readCov_unit_lit arg8.view _ _ (by decide)
    isplitl [H4]
    · iexists _; isplitr
      swap; · iexact H4
      ipureintro
      exact (store_whole _ _ (by decide) _ _).trans (congrArg₂ k0_pay3 hk (load_whole harg4 x2 (by decide) _))
    isplitl [H5]
    · iexists _; isplitr
      swap; · iexact H5
      ipureintro
      exact (store_whole _ _ (by decide) _ _).trans (congrArg₂ k0_pay2 hk (load_whole harg5 x3 (by decide) _))
    iexists _; isplitr
    swap; · iexact HS0
    ipureintro
    rw [hp]
    exact store_whole _ _ (by decide) _ _

set_option maxHeartbeats 1000000 in
/-- The body at a later column block: it neither reads the rows nor stores the narrow result. -/
theorem body_tail (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (hc0 : ¬cond0 i)
    (x2 : Vec F S2048x2048 .bf16) (xs : Vec F S1024x2048 .bf16) (E : Set ℕ) (K : PUnit → sProp 𝕄) :
        iprop(owns (c : Thread nD τ) arg4 fullShare x2 ∗ (∃ d, owns (c : Thread nD τ) arg6 fullShare d) ∗ owns (c : Thread nD τ) arg8 fullShare xs
            ∗ (iprop(owns (c : Thread nD τ) arg4 fullShare x2 ∗ owns (c : Thread nD τ) arg6 fullShare (k0_pay3 xs x2) ∗ owns (c : Thread nD τ) arg8 fullShare xs) -∗ K ⟨⟩))
          ⊢ wp frame (wpE (defs₀ (F := F)) Variants.none c none) E (cc0_norm_matmul i arg2 harg2 arg3 harg3 arg4 harg4 arg5 harg5 arg6 harg6 arg7 harg7 arg8 harg8) K := by
    simp only [cc0_norm_matmul_eq_skeleton]; unfold cc0_norm_matmul_skel
    unfold owns
    iintro ⟨⟨%f2, %hf2, H2⟩, ⟨%d4, %f4, -, H4⟩, ⟨%fs0, %hs0, HS0⟩, Hk⟩
    obtain rfl := harg4.eq_unread hf2; obtain rfl := harg8.eq_unread hs0
    sl_exec (disch := first | sl_exact hc0)
    sl_step
    iapply Hk
    isplitl [H2]
    · iexists _; isplitr; · ipureintro; exact harg4.read_unread _
      iexact H2
    isplitl [H4]
    · iexists _; isplitr
      swap; · iexact H4
      ipureintro
      exact (store_whole _ _ (by decide) _ _).trans (congrArg₂ k0_pay3 (load_whole harg8 xs (by decide) _) (load_whole harg4 x2 (by decide) _))
    iexists _; isplitr
    swap; · iexact HS0
    ipureintro
    exact harg8.read_unread _

/-- The block that each window moves at each step. -/
theorem place : ∀ t : Fin cfg0.N, win0_0.index t = ![t.val / 3, 0] ∧ win0_1.index t = ![0, 0]
    ∧ win0_2.index t = ![0, t.val % 3] ∧ win0_3.index t = ![0, 0] ∧ win0_4.index t = ![t.val / 3, t.val % 3] ∧ win0_5.index t = ![t.val / 3, 0] :=
  (by decide +kernel : ∀ t : Fin grid0.N, _)

theorem same_rows (c : Dev nD) (t u : Fin cfg0.N) (h : t.val / 3 = u.val / 3) : iblk m c 0 t = iblk m c 0 u := by
  funext y
  blk_ext [iblk, place t, place u, h]

theorem same_norm (c : Dev nD) (t u : Fin cfg0.N) : iblk m c 1 t = iblk m c 1 u := by
  funext y
  blk_ext [iblk, place t, place u]

theorem same_small (c : Dev nD) (t u : Fin cfg0.N) : iblk m c 3 t = iblk m c 3 u := by
  funext y
  blk_ext [iblk, place t, place u]

/-- What the scratch array holds from the first column block of a row block on: the normed rows. -/
def rows (c : Dev nD) (t : Fin cfg0.N) : Vec F S1024x2048 .bf16 := k0_pay1 (iblk m c 0 t) (iblk m c 1 t)

theorem rows_eq (c : Dev nD) (t u : Fin cfg0.N) (h : t.val / 3 = u.val / 3) : rows m c t = rows m c u := by
  unfold rows
  rw [same_rows m c t u h, same_norm m c t u]

/-- The step before. -/
abbrev prev (t : Fin cfg0.N) : Fin cfg0.N := ⟨t.val - 1, Nat.lt_of_le_of_lt (Nat.sub_le _ _) t.isLt⟩

theorem rows_prev (c : Dev nD) (t : Fin cfg0.N) (h : ¬t.val % 3 = 0) : rows m c (prev t) = rows m c t :=
  rows_eq m c _ _ (by show (t.val - 1) / 3 = t.val / 3; omega)

/-- The scratch array. -/
abbrev scr : Memref sig .tc .vmem S1024x2048 .bf16 := Memref.whole cc0_scratch0

theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- Between steps the scratch array holds the normed rows of the step before. -/
def inv (c : Dev nD) : (n : ℕ) → n ≤ cfg0.N → sProp 𝕄
  | 0, _ => Pipeline.ΦA spec0 c
  | n + 1, hn => iprop(iprop(owns (c : Thread nD τ) scr fullShare (rows m c ⟨n, hn⟩)) ∗ (∃ r, prngReg c r))

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = iprop(iprop(owns (c : Thread nD τ) scr fullShare (rows m c ⟨n - 1, by omega⟩)) ∗ (∃ r, prngReg c r)) := by
  cases n with
  | zero => exact absurd rfl hz
  | succ n => rfl

/-- The contents of every block after each step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (rows m c t) (iblk m c 2 t)
    | ⟨5, _⟩ => k0_pay2 (rows m c t) (iblk m c 3 t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay3 (rows m c t) (iblk m c 2 t) := by dsimp only [dats]
theorem after0_5 (c : Dev nD) (t : Fin cfg0.N) : (dats m 0 c).after 5 t = k0_pay2 (rows m c t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem live5 (t : Fin cfg0.N) (h : t.val % 3 = 0) : cfg0.idle 5 (cfg0.grid.coords t) = false := by
  have e : k0_cond1 (grid0.coords t) = 1#1 := (hcond0 t).mpr h
  show (!(k0_cond1 (grid0.coords t) == 1#1)) = false
  rw [e]; rfl

theorem idle5 (t : Fin cfg0.N) (h : ¬t.val % 3 = 0) : cfg0.idle 5 (cfg0.grid.coords t) = true := by
  have e : ¬k0_cond1 (grid0.coords t) = 1#1 := fun e => h ((hcond0 t).mp e)
  show (!(k0_cond1 (grid0.coords t) == 1#1)) = true
  simpa using e

theorem unflushed5 (t : Fin cfg0.N) (h : ¬t.val % 3 = 2) : (cfg0.win 5).flush t = false := by
  have := fun e => h ((flush0_5 t).mp e)
  simpa using this

theorem before0_5_pos (c : Dev nD) (t : Fin cfg0.N) (h : ¬t.val % 3 = 0) (d) :
    (dats m 0 c).before 5 t d = (dats m 0 c).left 5 (prev t) d := by
  rw [(dats m 0 c).before_of_pos 5 t (fun e => h (by rw [e])) ((cfg0.win 5).fetch_out rfl t) d,
    show (cfg0.win 5).flush ⟨t.val - 1, _⟩ = false from unflushed5 (prev t) (by show ¬(t.val - 1) % 3 = 2; omega), if_neg Bool.false_ne_true]

/-- At a later column block the narrow result's block still holds what the first one stored. -/
theorem before0_5 (c : Dev nD) (t : Fin cfg0.N) (h : ¬t.val % 3 = 0) (d) :
    (dats m 0 c).before 5 t d = k0_pay2 (rows m c t) (iblk m c 3 t) := by
  have first : ∀ u : Fin cfg0.N, u.val % 3 = 1 → (dats m 0 c).before 5 u d = k0_pay2 (rows m c u) (iblk m c 3 u) := fun u hu => by
    have hu0 : ¬u.val % 3 = 0 := by omega
    rw [before0_5_pos m c u hu0]
    unfold Dat.left
    rw [live5 (prev u) (by show (u.val - 1) % 3 = 0; omega)]
    show (dats m 0 c).after 5 (prev u) = _
    rw [after0_5, rows_prev m c u hu0, same_small m c (prev u) u]
  by_cases h1 : t.val % 3 = 1
  · exact first t h1
  · rw [before0_5_pos m c t h]
    unfold Dat.left
    rw [idle5 (prev t) (by show ¬(t.val - 1) % 3 = 0; omega)]
    show (dats m 0 c).before 5 (prev t) d = _
    rw [first (prev t) (by show (t.val - 1) % 3 = 1; omega), rows_prev m c t h, same_small m c (prev t) t]

/-- What the body is given at a step. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem inv_loose (c : Dev nD) (n : ℕ) (h : n ≤ cfg0.N) :
    inv m c n h ⊢ iprop(iprop((∃ d, owns (c : Thread nD τ) scr fullShare d)) ∗ (∃ r, prngReg c r)) := by
  by_cases hz : n = 0
  · rw [inv_zero m c n h hz, PhiA_eq]
    try exact Idealize.SL.BI.Entails.refl _
  · rw [inv_pos m c n h hz]
    iintro ⟨HS0, Hg⟩
    isplitl [HS0]
    · iexists _; iexact HS0
    iexact Hg

set_option maxHeartbeats 3200000 in
/-- The body meets its contract at every step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.succ = iprop(iprop(owns (c : Thread nD τ) scr fullShare (rows m c t)) ∗ (∃ r, prngReg c r)) from rfl]
  rw [inv_castSucc m c t]
  by_cases h0 : t.val % 3 = 0
  · refine (sep_mono (inv_loose m c t.val (Nat.le_of_lt t.isLt)) .rfl).trans ?_
    iintro ⟨⟨HS0, Hg⟩, Ho, ⟨%d0, H0⟩, ⟨%d1, H1⟩, ⟨%d2, H2⟩, ⟨%d3, H3⟩, ⟨%d4, H4⟩, ⟨%d5, H5⟩⟩
    iapply (body_head c (grid0.coords t) _ _ _ _ _ _ _ _ _ _ _ _ _ _ ((hcond0 t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · simp only [before0_5 m c t h0]
    rw [inv_pos m c _ _ (fun e => h0 (by rw [e])), show rows m c ⟨t.val - 1, _⟩ = rows m c t from rows_prev m c t h0]
    iintro ⟨⟨HS0, Hg⟩, Ho, ⟨%d0, H0⟩, ⟨%d1, H1⟩, ⟨%d2, H2⟩, ⟨%d3, H3⟩, ⟨%d4, H4⟩, ⟨%d5, H5⟩⟩
    iapply (body_tail c (grid0.coords t) _ _ _ _ _ _ _ _ _ _ _ _ _ _ (fun h => h0 ((hcond0 t).mp h)) (iblk m c 2 t) (rows m c t) Set.univ _)
    isplitl [H2]; · iexact H2
    isplitl [H4]; · iexists _; iexact H4
    isplitl [HS0]; · iexact HS0
    iintro ⟨H2, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  refine sep_mono .rfl (sep_mono .rfl (sep_mono .rfl (sep_mono .rfl (sep_mono .rfl (sep_mono .rfl (sep_mono .rfl ?_))))))
  by_cases h0 : t.val % 3 = 0
  · rw [live5 t h0]
  · rw [idle5 t h0]
    by_cases h2 : t.val % 3 = 2
    · rw [(flush0_5 t).mpr h2]
    · rw [unflushed5 t h2]
      simp only [before0_5 m c t h0, after0_5]
      iintro H
      iexists (k0_pay2 (rows m c t) (iblk m c 3 t))
      iexact H

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl, PhiA_eq]
  exact inv_loose m c _ _

set_option backward.isDefEq.respectTransparency.types false in
/-- The program runs, its result arrays hold the blocks above, and no semaphore is left raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- No argument is changed. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame of the program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.AbIdeal.Gen

end
-- ==== Proof.AbValue.lean ====
/- The even layer's norm and projections: what the kernel leaves in its two result arrays.
   The host reorders the weight's columns before the call; the reference multiplies with the weight as given and reorders
   the product. Both are read as one choice among the weight's columns. -/
module

public import proofs.«01_k».proof.Proof.AbIdealFrame
public import proofs.«01_k».proof.Proof.Gen.AbRefIdeal.Read
public import Idealize.ShloMosaic.Lib.Pipeline.ValueKit
public import Idealize.ShloMosaic.Lib.Pointwise

@[expose] public section

set_option maxRecDepth 16384

noncomputable section

namespace Cert.AbIdeal.Hand

open Cert.AbIdeal Cert.AbIdeal.Gen Idealize.ShloMosaic Idealize.ShloMosaic.TcCoe Idealize.SL.Sem
open Idealize.ShloMosaic.Pipeline (Dat)

variable (m : (ℓ : Loc nD τ sig) → Buf (Elt Ideal) ℓ)

/-- Column `j` of the reordered wide projection, taken from the columns `f` of the weight as given: the pieces in the
    order the kernel lays them out, and zeros past the last. -/
def wide (f : Fin 5984 → EReal) (j : Fin 6144) : EReal :=
  if h : j.val < 3072 then f ⟨1872 + j.val, by omega⟩
  else if h : j.val - 3072 < 1024 then f ⟨848 + (j.val - 3072), by omega⟩
  else if h : j.val - 3072 - 1024 < 1024 then f ⟨4960 + (j.val - 3072 - 1024), by omega⟩
  else if h : j.val - 3072 - 1024 - 1024 < 512 then f ⟨j.val - 3072 - 1024 - 1024, by omega⟩
  else if h : j.val - 3072 - 1024 - 1024 - 512 < 256 then f ⟨512 + (j.val - 3072 - 1024 - 1024 - 512), by omega⟩
  else 0

/-- The same for the narrow projection. -/
def narrow (f : Fin 5984 → EReal) (j : Fin 128) : EReal :=
  if h : j.val < 64 then f ⟨768 + j.val, by omega⟩
  else if h : j.val - 64 < 16 then f ⟨832 + (j.val - 64), by omega⟩
  else if h : j.val - 64 - 16 < 8 then f ⟨4944 + (j.val - 64 - 16), by omega⟩
  else if h : j.val - 64 - 16 - 8 < 8 then f ⟨4952 + (j.val - 64 - 16 - 8), by omega⟩
  else 0

/-- A product with a reordered weight is the reordering of the product. -/
theorem sum_wide (g : Fin 2048 → EReal) (f : Fin 2048 → Fin 5984 → EReal) (j : Fin 6144) :
    ∑ k, g k * wide (f k) j = wide (fun i => ∑ k, g k * f k i) j := by
  unfold wide
  split_ifs <;> simp

theorem sum_narrow (g : Fin 2048 → EReal) (f : Fin 2048 → Fin 5984 → EReal) (j : Fin 128) :
    ∑ k, g k * narrow (f k) j = narrow (fun i => ∑ k, g k * f k i) j := by
  unfold narrow
  split_ifs <;> simp

/-- The wide weight as the host lays it out. -/
def wideW (w : FVec Ideal S2048x5984 .f32) : FVec Ideal S2048x6144 .bf16 :=
  truncf .bf16 (pad S2048x6144 ![0, 0] ![0, 256] ![0, 0]
    (concatenate S2048x5888 1 [⟨S2048x3072, extractStridedSlice S2048x3072 ![0, 1872] w slices_S2048x5984_S2048x3072_0_1872⟩,
      ⟨S2048x1024, extractStridedSlice S2048x1024 ![0, 848] w slices_S2048x5984_S2048x1024_0_848⟩,
      ⟨S2048x1024, extractStridedSlice S2048x1024 ![0, 4960] w slices_S2048x5984_S2048x1024_0_4960⟩,
      ⟨S2048x512, extractStridedSlice S2048x512 ![0, 0] w slices_S2048x5984_S2048x512_0_0⟩,
      ⟨S2048x256, extractStridedSlice S2048x256 ![0, 512] w slices_S2048x5984_S2048x256_0_512⟩]
      concatenates_S2048x3072_S2048x1024_S2048x1024_S2048x512_S2048x256_S2048x5888_d1)
    (sitofp .f32 (constantI S_ 32 0#32)) pads_S2048x5888_S2048x6144_000_02560 h_S_) bitsLt_bf16_f32

/-- The narrow weight as the host lays it out. -/
def narrowW (w : FVec Ideal S2048x5984 .f32) : FVec Ideal S2048x128 .bf16 :=
  truncf .bf16 (pad S2048x128 ![0, 0] ![0, 32] ![0, 0]
    (concatenate S2048x96 1 [⟨S2048x64, extractStridedSlice S2048x64 ![0, 768] w slices_S2048x5984_S2048x64_0_768⟩,
      ⟨S2048x16, extractStridedSlice S2048x16 ![0, 832] w slices_S2048x5984_S2048x16_0_832⟩,
      ⟨S2048x8, extractStridedSlice S2048x8 ![0, 4944] w slices_S2048x5984_S2048x8_0_4944⟩,
      ⟨S2048x8, extractStridedSlice S2048x8 ![0, 4952] w slices_S2048x5984_S2048x8_0_4952⟩]
      concatenates_S2048x64_S2048x16_S2048x8_S2048x8_S2048x96_d1)
    (sitofp .f32 (constantI S_ 32 0#32)) pads_S2048x96_S2048x128_000_0320 h_S_) bitsLt_bf16_f32

theorem V_wide (c : Dev nD) : V m c main_v13 = wideW (m ((c : Thread nD τ).loc main_arg2)) := by
  unfold V wideW
  simp only [List.flatten_cons, List.flatten_nil, List.append_nil, List.cons_append, List.nil_append, StableHlo.after_cons, StableHlo.after_nil]
  after_results_simp
  rfl

theorem V_narrow (c : Dev nD) : V m c main_v14 = narrowW (m ((c : Thread nD τ).loc main_arg2)) := by
  unfold V narrowW
  simp only [List.flatten_cons, List.flatten_nil, List.append_nil, List.cons_append, List.nil_append, StableHlo.after_cons, StableHlo.after_nil]
  after_results_simp
  rfl

theorem V_norm (c : Dev nD) : V m c main_v15 = shapeCast S1x2048 (m ((c : Thread nD τ).loc main_arg1)) shapeCasts_S2048_S1x2048 := by
  unfold V
  simp only [List.flatten_cons, List.flatten_nil, List.append_nil, List.cons_append, List.nil_append, StableHlo.after_cons, StableHlo.after_nil]
  after_results_simp
  try rfl

theorem int_zero : (FloatOps.sitofp .f32 (0#32 : BitVec 32) : Ideal .f32) = (0 : EReal) := by
  simp [FloatOps.sitofp]

/-- A column of the reordered weight is the column it was taken from. -/
theorem wideW_at (w : FVec Ideal S2048x5984 .f32) (k : Fin 2048) (j : Fin 6144) :
    wideW w (ix2 k j) = wide (fun i => w (ix2 k i)) j := by
  unfold wideW wide
  pointwise
  split_ifs <;> first | with_reducible rfl | omega | exact int_zero | (rw [dif_pos]; omega)

theorem narrowW_at (w : FVec Ideal S2048x5984 .f32) (k : Fin 2048) (j : Fin 128) :
    narrowW w (ix2 k j) = narrow (fun i => w (ix2 k i)) j := by
  unfold narrowW narrow
  pointwise
  split_ifs <;> first | with_reducible rfl | omega | exact int_zero | (rw [dif_pos]; omega)

/-- The reference's wide result. -/
abbrev REF0 (x : FVec Ideal S32768x2048 .f32) (g : FVec Ideal S2048 .f32) (w : FVec Ideal S2048x5984 .f32) : FVec Ideal S32768x6144 .bf16 :=
  Cert.AbRefIdeal.Read.val_main_v27 (F := Ideal) x g w
/-- The reference's narrow result. -/
abbrev REF1 (x : FVec Ideal S32768x2048 .f32) (g : FVec Ideal S2048 .f32) (w : FVec Ideal S2048x5984 .f32) : FVec Ideal S32768x128 .f32 :=
  Cert.AbRefIdeal.Read.val_main_v26 (F := Ideal) x g w

/-- The reference's normed rows. -/
abbrev H (x : FVec Ideal S32768x2048 .f32) (g : FVec Ideal S2048 .f32) : FVec Ideal S32768x2048 .f32 :=
  Cert.AbRefIdeal.Read.val_main_v12 (F := Ideal) x g

theorem ref_wide (x : FVec Ideal S32768x2048 .f32) (g : FVec Ideal S2048 .f32) (w : FVec Ideal S2048x5984 .f32)
    (r : Fin 32768) (j : Fin 6144) :
    REF0 x g w (ix2 r j) = wide (fun i => ∑ k : Fin 2048, H x g (ix2 r k) * w (ix2 k i)) j := by
  unfold REF0 Cert.AbRefIdeal.Read.val_main_v27 Cert.AbRefIdeal.Read.val_main_v24 wide
  pointwise [Cert.AbRefIdeal.Read.val_main_v19, Cert.AbRefIdeal.Read.val_main_v18, Cert.AbRefIdeal.Read.val_main_v22, Cert.AbRefIdeal.Read.val_main_v14, Cert.AbRefIdeal.Read.val_main_v15, Cert.AbRefIdeal.Read.val_main_v23, Cert.AbRefIdeal.Read.val_main_cst_2, Cert.AbRefIdeal.Read.val_main_v13]

theorem ref_narrow (x : FVec Ideal S32768x2048 .f32) (g : FVec Ideal S2048 .f32) (w : FVec Ideal S2048x5984 .f32)
    (r : Fin 32768) (j : Fin 128) :
    REF1 x g w (ix2 r j) = narrow (fun i => ∑ k : Fin 2048, H x g (ix2 r k) * w (ix2 k i)) j := by
  unfold REF1 Cert.AbRefIdeal.Read.val_main_v26 narrow
  pointwise [Cert.AbRefIdeal.Read.val_main_v16, Cert.AbRefIdeal.Read.val_main_v17, Cert.AbRefIdeal.Read.val_main_v20, Cert.AbRefIdeal.Read.val_main_v21, Cert.AbRefIdeal.Read.val_main_v25, Cert.AbRefIdeal.Read.val_main_cst_3, Cert.AbRefIdeal.Read.val_main_v13]

theorem x_at (c : Dev nD) (t : Fin cfg0.N) (r : Fin 1024) (k : Fin 2048) (h : t.val / 3 * 1024 + r.val < 32768) :
    iblk m c 0 t (ix2 r k) = m ((c : Thread nD τ).loc main_arg0) (ix2 ⟨t.val / 3 * 1024 + r.val, h⟩ k) := by
  rw [← V_main_arg0 m c]
  blk_ext [iblk, place t]

theorem g_at (c : Dev nD) (t : Fin cfg0.N) (k : Fin 2048) :
    iblk m c 1 t (ix2 0 k) = m ((c : Thread nD τ).loc main_arg1) (ix1 k) := by
  have e : iblk m c 1 t (ix2 0 k) = V m c main_v15 (ix2 0 k) := by blk_ext [iblk, place t]
  rw [e, V_norm]
  pointwise

theorem w_at (c : Dev nD) (t : Fin cfg0.N) (k : Fin 2048) (j : Fin 2048) (h : t.val % 3 * 2048 + j.val < 6144) :
    iblk m c 2 t (ix2 k j) = wide (fun i => m ((c : Thread nD τ).loc main_arg2) (ix2 k i)) ⟨t.val % 3 * 2048 + j.val, h⟩ := by
  have e : iblk m c 2 t (ix2 k j) = V m c main_v13 (ix2 k ⟨t.val % 3 * 2048 + j.val, h⟩) := by blk_ext [iblk, place t]
  rw [e, V_wide, wideW_at]

theorem ws_at (c : Dev nD) (t : Fin cfg0.N) (k : Fin 2048) (j : Fin 128) :
    iblk m c 3 t (ix2 k j) = narrow (fun i => m ((c : Thread nD τ).loc main_arg2) (ix2 k i)) j := by
  have e : iblk m c 3 t (ix2 k j) = V m c main_v14 (ix2 k j) := by blk_ext [iblk, place t]
  rw [e, V_narrow, narrowW_at]

/-- The kernel's normed rows are the reference's. -/
theorem rows_at (c : Dev nD) (t : Fin cfg0.N) (r : Fin 1024) (k : Fin 2048) (h : t.val / 3 * 1024 + r.val < 32768) :
    rows m c t (ix2 r k) = H (m ((c : Thread nD τ).loc main_arg0)) (m ((c : Thread nD τ).loc main_arg1)) (ix2 ⟨t.val / 3 * 1024 + r.val, h⟩ k) := by
  unfold rows H
  pointwise [k0_pay1, Cert.AbRefIdeal.Read.val_main_v12, Cert.AbRefIdeal.Read.val_main_v11, Cert.AbRefIdeal.Read.val_main_v10, Cert.AbRefIdeal.Read.val_main_v9, Cert.AbRefIdeal.Read.val_main_v8, Cert.AbRefIdeal.Read.val_main_v7, Cert.AbRefIdeal.Read.val_main_v6, Cert.AbRefIdeal.Read.val_main_v5, Cert.AbRefIdeal.Read.val_main_v4, Cert.AbRefIdeal.Read.val_main_v3, Cert.AbRefIdeal.Read.val_main_v2, Cert.AbRefIdeal.Read.val_main_v1, Cert.AbRefIdeal.Read.val_main_v0, Cert.AbRefIdeal.Read.val_main_cst, Cert.AbRefIdeal.Read.val_main_cst_0, Cert.AbRefIdeal.Read.val_main_cst_1]
  simp only [x_at m c t r _ h, g_at]

theorem pay3_at (A : FVec Ideal S1024x2048 .bf16) (B : FVec Ideal S2048x2048 .bf16) (r : Fin 1024) (l : Fin 2048) :
    k0_pay3 (F := Ideal) A B (ix2 r l) = ∑ k : Fin 2048, A (ix2 r k) * B (ix2 k l) := by
  pointwise [k0_pay3]

theorem pay2_at (A : FVec Ideal S1024x2048 .bf16) (B : FVec Ideal S2048x128 .bf16) (r : Fin 1024) (l : Fin 128) :
    k0_pay2 (F := Ideal) A B (ix2 r l) = ∑ k : Fin 2048, A (ix2 r k) * B (ix2 k l) := by
  pointwise [k0_pay2]

/-- The whole wide result is the reference's. -/
theorem final_wide (c : Dev nD) : (dats m 0 c).arrAt 4 cfg0.N
    = REF0 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  obtain ⟨r, l, rfl⟩ : ∃ (r : Fin 1024) (l : Fin 2048), y = ix2 r l := ⟨y 0, y 1, by funext a; fin_cases a <;> rfl⟩
  have ht : t.val < 96 := t.isLt
  have hi : ((win0_4.blk t).view.emb (ix2 r l)) = ix2 ⟨t.val / 3 * 1024 + r.val, by omega⟩ ⟨t.val % 3 * 2048 + l.val, by omega⟩ := by
    blk_ext [place t]
  rw [hi, ref_wide]
  refine (pay3_at _ _ r l).trans ((Finset.sum_congr rfl fun k _ => ?_).trans (sum_wide (fun k => H _ _ (ix2 _ k)) (fun k i => m ((c : Thread nD τ).loc main_arg2) (ix2 k i)) _))
  rw [rows_at m c t r k (by omega), w_at m c t k l (by omega)]

/-- The whole narrow result is the reference's. -/
theorem final_narrow (c : Dev nD) : (dats m 0 c).arrAt 5 cfg0.N
    = REF1 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  obtain ⟨r, l, rfl⟩ : ∃ (r : Fin 1024) (l : Fin 128), y = ix2 r l := ⟨y 0, y 1, by funext a; fin_cases a <;> rfl⟩
  have ht : t.val < 96 := t.isLt
  have hi : ((win0_5.blk t).view.emb (ix2 r l)) = ix2 ⟨t.val / 3 * 1024 + r.val, by omega⟩ l := by
    blk_ext [place t]
  rw [hi, ref_narrow]
  refine (pay2_at _ _ r l).trans ((Finset.sum_congr rfl fun k _ => ?_).trans (sum_narrow (fun k => H _ _ (ix2 _ k)) (fun k i => m ((c : Thread nD τ).loc main_arg2) (ix2 k i)) _))
  rw [rows_at m c t r k (by omega), ws_at m c t k l]

end Cert.AbIdeal.Hand

end
-- ==== Proof.DsaLeft.lean ====
/- The sparse attention's preparation: what a grid point leaves in its result blocks, the values' block apart.
   The kernel norms the eight heads of a product one after the other and joins them; here one head is one definition. -/
module

public import proofs.«01_k».proof.Proof.Gen.DsaIdeal.Frame
public import proofs.«01_k».proof.Proof.Gen.DsaIdeal.Value
public import proofs.«01_k».proof.Proof.Gen.DsaRefIdeal.Read
public import Idealize.ShloMosaic.Lib.Pipeline.ValueKit
public import Idealize.ShloMosaic.Lib.Pointwise

@[expose] public section

set_option maxRecDepth 16384

noncomputable section

namespace Cert.DsaIdeal.Hand

open Cert.DsaIdeal Cert.DsaIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at point `t`. -/
theorem place : ∀ t : Fin cfg0.N, win0_0.index t = ![t.val, 10] ∧ win0_1.index t = ![t.val, 22] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0] ∧ win0_14.index t = ![t.val, 0]
    ∧ win0_15.index t = ![t.val, 0, 0] ∧ win0_16.index t = ![t.val, 0] ∧ win0_17.index t = ![t.val, 0] ∧ win0_18.index t = ![t.val, 0] :=
  (by decide +kernel : ∀ t : Fin grid0.N, _)

/-- Every head's columns lie inside the product. -/
theorem head_fits : ∀ n : Fin 8, S512x1024.Slices ![0, n.val * 128] S512x128 := by decide

/-- One head of a product, normed: columns `128 n` and the 127 after them, each row scaled to a mean square of one, times
    the gain times a constant. -/
def head (b : BitVec 32) (Y : FVec Ideal S512x1024 .f32) (g : FVec Ideal S1x128 .f32) (n : Fin 8) : FVec Ideal S512x128 .f32 :=
  mulf (mulf (extractStridedSlice S512x128 ![0, n.val * 128] Y (head_fits n))
      (broadcastTo S512x128 (rsqrt (addf (divf (shapeCast S512x1 (multiReduction .add [1] S512
        (mulf (extractStridedSlice S512x128 ![0, n.val * 128] Y (head_fits n)) (extractStridedSlice S512x128 ![0, n.val * 128] Y (head_fits n)))
        0x00000000#32 reduces_S512x128_S512 (.inl rfl) rfl) shapeCasts_S512_S512x1)
        (broadcast S512x1 (Scalar.ofBits .f32 0x43000000#32))) (broadcast S512x1 (Scalar.ofBits .f32 0x358637BD#32)))) broadcasts_S512x1_S512x128))
    (broadcastTo S512x128 (mulf g (broadcast S1x128 (Scalar.ofBits .f32 b))) broadcasts_S1x128_S512x128)

/-- The eight heads side by side. -/
def heads (b : BitVec 32) (Y : FVec Ideal S512x1024 .f32) (g : FVec Ideal S1x128 .f32) : FVec Ideal S512x1024 .bf16 :=
  truncf .bf16 (concatenate S512x1024 1 (List.ofFn fun n : Fin 8 => ⟨S512x128, head b Y g n⟩)
    concatenates_S512x128_S512x128_S512x128_S512x128_S512x128_S512x128_S512x128_S512x128_S512x1024_d1) bitsLt_bf16_f32

/-- The block of queries after point `t`: the heads of the query product, normed. -/
theorem left13 (c : Dev nD) (t : Fin cfg0.N) : (outsAt0 m c t).1
    = heads 0x3E0293EE#32 (k0_pay6 (iblk m c 0 t) (iblk m c 3 t) (iblk m c 5 t)) (k0_pay7 (iblk m c 9 t)) := by
  unfold outsAt0
  frame_out
  rfl

/-- The block of keys after point `t`: the heads of the key product, normed. -/
theorem left14 (c : Dev nD) (t : Fin cfg0.N) : (outsAt0 m c t).2.1
    = heads 0x3F800000#32 (k0_pay24 (iblk m c 1 t) (iblk m c 4 t) (iblk m c 7 t)) (k0_pay25 (iblk m c 10 t)) := by
  unfold outsAt0
  frame_out
  rfl

/-- The block of indexer queries after point `t`. -/
theorem left16 (c : Dev nD) (t : Fin cfg0.N) : (outsAt0 m c t).2.2.2.1 = k0_pay22 (k0_pay5 (iblk m c 0 t) (iblk m c 3 t)) (iblk m c 6 t) := by
  unfold outsAt0
  frame_out

/-- The block of indexer keys in the lower half, after point `t`. -/
theorem left17 (c : Dev nD) (t : Fin cfg0.N) : (outsAt0 m c t).2.2.2.2.1
    = k0_pay3 (k0_pay57 (iblk m c 2 t)) (k0_pay58 (iblk m c 2 t)) (iblk m c 11 t) (iblk m c 12 t) := by
  unfold outsAt0
  frame_out

/-- The block of indexer keys in the upper half, after point `t`. -/
theorem left18 (c : Dev nD) (t : Fin cfg0.N) : (outsAt0 m c t).2.2.2.2.2
    = k0_pay4 (k0_pay57 (iblk m c 2 t)) (k0_pay58 (iblk m c 2 t)) (iblk m c 11 t) (iblk m c 12 t) := by
  unfold outsAt0
  frame_out

end Cert.DsaIdeal.Hand

end
-- ==== Proof.DsaRows.lean ====
/- The sparse attention's preparation: the entries of its argument blocks, its normed rows and its products, each as an
   entry of the reference's. -/
module

public import proofs.«01_k».proof.Proof.DsaLeft
public import proofs.«01_k».proof.Proof.Gen.DsaIdeal.Value
public import proofs.«01_k».proof.Proof.Gen.DsaRefIdeal.Read
public import Idealize.ShloMosaic.Lib.Pipeline.ValueKit
public import Idealize.ShloMosaic.Lib.Pointwise

@[expose] public section

set_option maxRecDepth 16384

noncomputable section

namespace Cert.DsaIdeal.Hand

open Cert.DsaIdeal Cert.DsaIdeal.Gen Idealize.ShloMosaic Idealize.ShloMosaic.TcCoe Idealize.SL.Sem
open Idealize.ShloMosaic.Pipeline (Dat)

variable (m : (ℓ : Loc nD τ sig) → Buf (Elt Ideal) ℓ)

/-- One entry of a normed head. -/
theorem head_at (b : BitVec 32) (Y : FVec Ideal S512x1024 .f32) (g : FVec Ideal S1x128 .f32) (n : Fin 8) (r : Fin 512) (l : Fin 128) :
    head b Y g n (ix2 r l) = Y (ix2 r ⟨n.val * 128 + l.val, by omega⟩)
      * Ideal.rsqrt (Ideal.div (∑ k : Fin 128, Y (ix2 r ⟨n.val * 128 + k.val, by omega⟩) * Y (ix2 r ⟨n.val * 128 + k.val, by omega⟩))
          (Ideal.ofBits .f32 0x43000000#32) + Ideal.ofBits .f32 0x358637BD#32)
      * (g (ix2 0 l) * Ideal.ofBits .f32 b) := by
  unfold head
  pointwise

/-- A column of the joined heads is a column of one head. -/
theorem heads_at (b : BitVec 32) (Y : FVec Ideal S512x1024 .f32) (g : FVec Ideal S1x128 .f32) (r : Fin 512) (n : Fin 8) (l : Fin 128) :
    heads b Y g (ix2 r ⟨n.val * 128 + l.val, by omega⟩) = head b Y g n (ix2 r l) := by
  refine concatenate_ofFn_apply (t := S512x1024) 1 (head b Y g) concatenates_S512x128_S512x128_S512x128_S512x128_S512x128_S512x128_S512x128_S512x128_S512x1024_d1
    rfl 128 rfl (ix2 r ⟨n.val * 128 + l.val, by omega⟩) n ?_ (ix2 r l) ?_ ?_
  · show (n.val * 128 + l.val) / 128 = n.val
    omega
  · show l.val = (n.val * 128 + l.val) % 128
    omega
  · intro a ha
    fin_cases a
    · rfl
    · exact absurd rfl ha

/-- The projection, as the call is given it. -/
abbrev A0 (c : Dev nD) : FVec Ideal S32768x6144 .bf16 := m ((c : Thread nD τ).loc main_arg0)
/-- The narrow projection, as the call is given it. -/
abbrev A1 (c : Dev nD) : FVec Ideal S32768x128 .f32 := m ((c : Thread nD τ).loc main_arg1)
/-- The query norm's weights, as the call is given it. -/
abbrev A2 (c : Dev nD) : FVec Ideal S512 .f32 := m ((c : Thread nD τ).loc main_arg2)
/-- The key-value norm's weights, as the call is given it. -/
abbrev A3 (c : Dev nD) : FVec Ideal S256 .f32 := m ((c : Thread nD τ).loc main_arg3)
/-- The query weight, as the call is given it. -/
abbrev A4 (c : Dev nD) : FVec Ideal S512x1024 .f32 := m ((c : Thread nD τ).loc main_arg4)
/-- The indexer's query weight, as the call is given it. -/
abbrev A5 (c : Dev nD) : FVec Ideal S512x1024 .f32 := m ((c : Thread nD τ).loc main_arg5)
/-- The key weight, as the call is given it. -/
abbrev A6 (c : Dev nD) : FVec Ideal S256x1024 .f32 := m ((c : Thread nD τ).loc main_arg6)
/-- The value weight, as the call is given it. -/
abbrev A7 (c : Dev nD) : FVec Ideal S256x1024 .f32 := m ((c : Thread nD τ).loc main_arg7)
/-- The query gain, as the call is given it. -/
abbrev A8 (c : Dev nD) : FVec Ideal S128 .f32 := m ((c : Thread nD τ).loc main_arg8)
/-- The key gain, as the call is given it. -/
abbrev A9 (c : Dev nD) : FVec Ideal S128 .f32 := m ((c : Thread nD τ).loc main_arg9)
/-- The indexer's norm weights, as the call is given it. -/
abbrev A10 (c : Dev nD) : FVec Ideal S64 .f32 := m ((c : Thread nD τ).loc main_arg10)
/-- The indexer's norm offsets, as the call is given it. -/
abbrev A11 (c : Dev nD) : FVec Ideal S64 .f32 := m ((c : Thread nD τ).loc main_arg11)

/-- Row `r` of point `t`'s block of 512. -/
def row (t : Fin cfg0.N) (r : Fin 512) : Fin 32768 :=
  ⟨t.val * 512 + r.val, by have h : t.val < 64 := t.isLt; omega⟩

/-- The query rows: columns 5120 to 5631 of the projection. -/
theorem cq_at (c : Dev nD) (t : Fin cfg0.N) (r : Fin 512) (k : Fin 512) :
    iblk m c 0 t (ix2 r k) = A0 m c (ix2 (row t r) ⟨5120 + k.val, by omega⟩) := by
  unfold row A0
  rw [← V_main_arg0 m c]
  blk_ext [iblk, place t]

/-- The key-value rows: columns 5632 to 5887 of the projection. -/
theorem ckv_at (c : Dev nD) (t : Fin cfg0.N) (r : Fin 512) (k : Fin 256) :
    iblk m c 1 t (ix2 r k) = A0 m c (ix2 (row t r) ⟨5632 + k.val, by omega⟩) := by
  unfold row A0
  rw [← V_main_arg0 m c]
  blk_ext [iblk, place t]

/-- A row of the narrow projection. -/
theorem sm_at (c : Dev nD) (t : Fin cfg0.N) (r : Fin 512) (k : Fin 128) :
    iblk m c 2 t (ix2 r k) = A1 m c (ix2 (row t r) k) := by
  unfold row A1
  rw [← V_main_arg1 m c]
  blk_ext [iblk, place t]

/-- The weights of the query norm. -/
theorem qn_at (c : Dev nD) (t : Fin cfg0.N) (k : Fin 512) : iblk m c 3 t (ix2 0 k) = A2 m c (ix1 k) := by
  blk_point [iblk, V, place t]

/-- The weights of the key-value norm. -/
theorem kvn_at (c : Dev nD) (t : Fin cfg0.N) (k : Fin 256) : iblk m c 4 t (ix2 0 k) = A3 m c (ix1 k) := by
  blk_point [iblk, V, place t]

/-- The query weight. -/
theorem wuq_at (c : Dev nD) (t : Fin cfg0.N) (k : Fin 512) (j : Fin 1024) : iblk m c 5 t (ix2 k j) = A4 m c (ix2 k j) := by
  blk_point [iblk, V, place t]

/-- The indexer's query weight. -/
theorem wiq_at (c : Dev nD) (t : Fin cfg0.N) (k : Fin 512) (j : Fin 1024) : iblk m c 6 t (ix2 k j) = A5 m c (ix2 k j) := by
  blk_point [iblk, V, place t]

/-- The key weight. -/
theorem wuk_at (c : Dev nD) (t : Fin cfg0.N) (k : Fin 256) (j : Fin 1024) : iblk m c 7 t (ix2 k j) = A6 m c (ix2 k j) := by
  blk_point [iblk, V, place t]

/-- The value weight, which the host transposes. -/
theorem wuv_at (c : Dev nD) (t : Fin cfg0.N) (k : Fin 256) (j : Fin 1024) : iblk m c 8 t (ix2 j k) = A7 m c (ix2 k j) := by
  blk_point [iblk, V, place t]

/-- The query gain. -/
theorem qg_at (c : Dev nD) (t : Fin cfg0.N) (k : Fin 128) : iblk m c 9 t (ix2 0 k) = A8 m c (ix1 k) := by
  blk_point [iblk, V, place t]

/-- The key gain. -/
theorem kg_at (c : Dev nD) (t : Fin cfg0.N) (k : Fin 128) : iblk m c 10 t (ix2 0 k) = A9 m c (ix1 k) := by
  blk_point [iblk, V, place t]

/-- The weights of the indexer's layer norm. -/
theorem ikw_at (c : Dev nD) (t : Fin cfg0.N) (k : Fin 64) : iblk m c 11 t (ix2 0 k) = A10 m c (ix1 k) := by
  blk_point [iblk, V, place t]

/-- The offsets of the indexer's layer norm. -/
theorem ikb_at (c : Dev nD) (t : Fin cfg0.N) (k : Fin 64) : iblk m c 12 t (ix2 0 k) = A11 m c (ix1 k) := by
  blk_point [iblk, V, place t]

/-- The kernel's normed query rows are the reference's. -/
theorem qrows_at (c : Dev nD) (t : Fin cfg0.N) (r : Fin 512) (k : Fin 512) :
    k0_pay5 (F := Ideal) (iblk m c 0 t) (iblk m c 3 t) (ix2 r k) = Cert.DsaRefIdeal.Read.val_main_v14 (F := Ideal) (A0 m c) (A2 m c) (ix2 (row t r) k) := by
  pointwise [k0_pay5, Cert.DsaRefIdeal.Read.val_main_v14, Cert.DsaRefIdeal.Read.val_main_v13, Cert.DsaRefIdeal.Read.val_main_v12, Cert.DsaRefIdeal.Read.val_main_v11, Cert.DsaRefIdeal.Read.val_main_v10, Cert.DsaRefIdeal.Read.val_main_v9, Cert.DsaRefIdeal.Read.val_main_v8, Cert.DsaRefIdeal.Read.val_main_v7, Cert.DsaRefIdeal.Read.val_main_v6, Cert.DsaRefIdeal.Read.val_main_v5, Cert.DsaRefIdeal.Read.val_main_v4, Cert.DsaRefIdeal.Read.val_main_v3, Cert.DsaRefIdeal.Read.val_main_v2, Cert.DsaRefIdeal.Read.val_main_v1, Cert.DsaRefIdeal.Read.val_main_v0, Cert.DsaRefIdeal.Read.val_main_cst, Cert.DsaRefIdeal.Read.val_main_cst_0, Cert.DsaRefIdeal.Read.val_main_cst_1]
  simp only [cq_at m c t r _, qn_at]

/-- The kernel's normed key-value rows are the reference's. -/
theorem kvrows_at (c : Dev nD) (t : Fin cfg0.N) (r : Fin 512) (k : Fin 256) :
    k0_pay23 (F := Ideal) (iblk m c 1 t) (iblk m c 4 t) (ix2 r k) = Cert.DsaRefIdeal.Read.val_main_v47 (F := Ideal) (A0 m c) (A3 m c) (ix2 (row t r) k) := by
  pointwise [k0_pay23, Cert.DsaRefIdeal.Read.val_main_v47, Cert.DsaRefIdeal.Read.val_main_v46, Cert.DsaRefIdeal.Read.val_main_v45, Cert.DsaRefIdeal.Read.val_main_v44, Cert.DsaRefIdeal.Read.val_main_v43, Cert.DsaRefIdeal.Read.val_main_v42, Cert.DsaRefIdeal.Read.val_main_v41, Cert.DsaRefIdeal.Read.val_main_v40, Cert.DsaRefIdeal.Read.val_main_v39, Cert.DsaRefIdeal.Read.val_main_v38, Cert.DsaRefIdeal.Read.val_main_v37, Cert.DsaRefIdeal.Read.val_main_v36, Cert.DsaRefIdeal.Read.val_main_v35, Cert.DsaRefIdeal.Read.val_main_v34, Cert.DsaRefIdeal.Read.val_main_v33, Cert.DsaRefIdeal.Read.val_main_cst_6, Cert.DsaRefIdeal.Read.val_main_cst_7, Cert.DsaRefIdeal.Read.val_main_cst_8]
  simp only [ckv_at m c t r _, kvn_at]

/-- An entry of the kernel's query product. -/
theorem pay6_at (A : FVec Ideal S512x512 .bf16) (B : FVec Ideal S1x512 .f32) (W : FVec Ideal S512x1024 .bf16) (r : Fin 512) (j : Fin 1024) :
    k0_pay6 (F := Ideal) A B W (ix2 r j) = ∑ k : Fin 512, k0_pay5 (F := Ideal) A B (ix2 r k) * W (ix2 k j) := by
  pointwise [k0_pay6]

/-- An entry of the kernel's indexer query product. -/
theorem pay22_at (A : FVec Ideal S512x512 .bf16) (W : FVec Ideal S512x1024 .bf16) (r : Fin 512) (j : Fin 1024) :
    k0_pay22 (F := Ideal) A W (ix2 r j) = ∑ k : Fin 512, A (ix2 r k) * W (ix2 k j) := by
  pointwise [k0_pay22]

/-- An entry of the kernel's key product. -/
theorem pay24_at (A : FVec Ideal S512x256 .bf16) (B : FVec Ideal S1x256 .f32) (W : FVec Ideal S256x1024 .bf16) (r : Fin 512) (j : Fin 1024) :
    k0_pay24 (F := Ideal) A B W (ix2 r j) = ∑ k : Fin 256, k0_pay23 (F := Ideal) A B (ix2 r k) * W (ix2 k j) := by
  pointwise [k0_pay24]

/-- An entry of the kernel's transposed value product. -/
theorem pay39_at (A : FVec Ideal S512x256 .bf16) (W : FVec Ideal S1024x256 .bf16) (r : Fin 512) (j : Fin 1024) :
    k0_pay39 (F := Ideal) A W (ix2 j r) = ∑ k : Fin 256, W (ix2 j k) * A (ix2 r k) := by
  pointwise [k0_pay39]

/-- An entry of the reference's query product. -/
theorem ref15_at (x0 x2 x4) (r : Fin 32768) (j : Fin 1024) : Cert.DsaRefIdeal.Read.val_main_v15 (F := Ideal) x0 x2 x4 (ix2 r j)
    = ∑ k : Fin 512, Cert.DsaRefIdeal.Read.val_main_v14 (F := Ideal) x0 x2 (ix2 r k) * x4 (ix2 k j) := by
  pointwise [Cert.DsaRefIdeal.Read.val_main_v15]

/-- An entry of the reference's indexer queries. -/
theorem ref100_at (x0 x2 x5) (r : Fin 32768) (j : Fin 1024) : Cert.DsaRefIdeal.Read.val_main_v100 (F := Ideal) x0 x2 x5 (ix2 r j)
    = ∑ k : Fin 512, Cert.DsaRefIdeal.Read.val_main_v14 (F := Ideal) x0 x2 (ix2 r k) * x5 (ix2 k j) := by
  pointwise [Cert.DsaRefIdeal.Read.val_main_v100, Cert.DsaRefIdeal.Read.val_main_v32]

/-- An entry of the reference's key product. -/
theorem ref48_at (x0 x3 x6) (r : Fin 32768) (j : Fin 1024) : Cert.DsaRefIdeal.Read.val_main_v48 (F := Ideal) x0 x3 x6 (ix2 r j)
    = ∑ k : Fin 256, Cert.DsaRefIdeal.Read.val_main_v47 (F := Ideal) x0 x3 (ix2 r k) * x6 (ix2 k j) := by
  pointwise [Cert.DsaRefIdeal.Read.val_main_v48]

/-- An entry of the reference's value product. -/
theorem ref63_at (x0 x3 x7) (r : Fin 32768) (j : Fin 1024) : Cert.DsaRefIdeal.Read.val_main_v63 (F := Ideal) x0 x3 x7 (ix2 r j)
    = ∑ k : Fin 256, Cert.DsaRefIdeal.Read.val_main_v47 (F := Ideal) x0 x3 (ix2 r k) * x7 (ix2 k j) := by
  pointwise [Cert.DsaRefIdeal.Read.val_main_v63]

/-- The two query products agree. -/
theorem q_product (c : Dev nD) (t : Fin cfg0.N) (r : Fin 512) (j : Fin 1024) :
    k0_pay6 (F := Ideal) (iblk m c 0 t) (iblk m c 3 t) (iblk m c 5 t) (ix2 r j)
      = Cert.DsaRefIdeal.Read.val_main_v15 (F := Ideal) (A0 m c) (A2 m c) (A4 m c) (ix2 (row t r) j) := by
  refine (pay6_at _ _ _ r j).trans ((Finset.sum_congr rfl fun k _ => ?_).trans (ref15_at _ _ _ _ _).symm)
  rw [qrows_at m c t r k, wuq_at m c t k j]

/-- The two indexer query products agree. -/
theorem i_product (c : Dev nD) (t : Fin cfg0.N) (r : Fin 512) (j : Fin 1024) :
    k0_pay22 (F := Ideal) (k0_pay5 (iblk m c 0 t) (iblk m c 3 t)) (iblk m c 6 t) (ix2 r j)
      = Cert.DsaRefIdeal.Read.val_main_v100 (F := Ideal) (A0 m c) (A2 m c) (A5 m c) (ix2 (row t r) j) := by
  refine (pay22_at _ _ r j).trans ((Finset.sum_congr rfl fun k _ => ?_).trans (ref100_at _ _ _ _ _).symm)
  rw [qrows_at m c t r k, wiq_at m c t k j]

/-- The two key products agree. -/
theorem k_product (c : Dev nD) (t : Fin cfg0.N) (r : Fin 512) (j : Fin 1024) :
    k0_pay24 (F := Ideal) (iblk m c 1 t) (iblk m c 4 t) (iblk m c 7 t) (ix2 r j)
      = Cert.DsaRefIdeal.Read.val_main_v48 (F := Ideal) (A0 m c) (A3 m c) (A6 m c) (ix2 (row t r) j) := by
  refine (pay24_at _ _ _ r j).trans ((Finset.sum_congr rfl fun k _ => ?_).trans (ref48_at _ _ _ _ _).symm)
  rw [kvrows_at m c t r k, wuk_at m c t k j]

/-- The kernel multiplies the transposed weight with the rows, so the factors of each term are swapped. -/
theorem v_product (c : Dev nD) (t : Fin cfg0.N) (r : Fin 512) (j : Fin 1024) :
    k0_pay39 (F := Ideal) (k0_pay23 (iblk m c 1 t) (iblk m c 4 t)) (iblk m c 8 t) (ix2 j r)
      = Cert.DsaRefIdeal.Read.val_main_v63 (F := Ideal) (A0 m c) (A3 m c) (A7 m c) (ix2 (row t r) j) := by
  refine (pay39_at _ _ r j).trans ((Finset.sum_congr rfl fun k _ => ?_).trans (ref63_at _ _ _ _ _).symm)
  rw [kvrows_at m c t r k, wuv_at m c t k j]
  exact mul_comm _ _

end Cert.DsaIdeal.Hand

end
-- ==== Proof.DsaValue.lean ====
/- The sparse attention's preparation: what the kernel leaves in its six result arrays. -/
module

public import proofs.«01_k».proof.Proof.DsaRows
public import proofs.«01_k».proof.Proof.Gen.DsaIdeal.Value
public import proofs.«01_k».proof.Proof.Gen.DsaRefIdeal.Read
public import Idealize.ShloMosaic.Lib.Pipeline.ValueKit
public import Idealize.ShloMosaic.Lib.Pointwise

@[expose] public section

set_option maxRecDepth 16384

noncomputable section

namespace Cert.DsaIdeal.Hand

open Cert.DsaIdeal Cert.DsaIdeal.Gen Idealize.ShloMosaic Idealize.ShloMosaic.TcCoe Idealize.SL.Sem
open Idealize.ShloMosaic.Pipeline (Dat)

variable (m : (ℓ : Loc nD τ sig) → Buf (Elt Ideal) ℓ)

/-- An entry of the reference's queries. -/
theorem ref_q (x0 x2 x4 x8) (R : Fin 32768) (n : Fin 8) (l : Fin 128) :
    Cert.DsaRefIdeal.Read.val_main_v97 (F := Ideal) x0 x2 x4 x8 (ix2 R ⟨n.val * 128 + l.val, by omega⟩)
      = Cert.DsaRefIdeal.Read.val_main_v15 (F := Ideal) x0 x2 x4 (ix2 R ⟨n.val * 128 + l.val, by omega⟩)
        * Ideal.rsqrt (Ideal.div (∑ k : Fin 128, Cert.DsaRefIdeal.Read.val_main_v15 (F := Ideal) x0 x2 x4 (ix2 R ⟨n.val * 128 + k.val, by omega⟩)
            * Cert.DsaRefIdeal.Read.val_main_v15 (F := Ideal) x0 x2 x4 (ix2 R ⟨n.val * 128 + k.val, by omega⟩))
          (Ideal.ofBits .f32 0x43000000#32) + Ideal.ofBits .f32 0x358637BD#32)
        * x8 (ix1 l) * Ideal.ofBits .f32 0x3E0293EE#32 := by
  pointwise [Cert.DsaRefIdeal.Read.val_main_v97, Cert.DsaRefIdeal.Read.val_main_v92, Cert.DsaRefIdeal.Read.val_main_v31, Cert.DsaRefIdeal.Read.val_main_v30, Cert.DsaRefIdeal.Read.val_main_v29, Cert.DsaRefIdeal.Read.val_main_v28, Cert.DsaRefIdeal.Read.val_main_v27, Cert.DsaRefIdeal.Read.val_main_v26, Cert.DsaRefIdeal.Read.val_main_v25, Cert.DsaRefIdeal.Read.val_main_v24, Cert.DsaRefIdeal.Read.val_main_v23, Cert.DsaRefIdeal.Read.val_main_v22, Cert.DsaRefIdeal.Read.val_main_v21, Cert.DsaRefIdeal.Read.val_main_v20, Cert.DsaRefIdeal.Read.val_main_v19, Cert.DsaRefIdeal.Read.val_main_v18, Cert.DsaRefIdeal.Read.val_main_v17, Cert.DsaRefIdeal.Read.val_main_v16, Cert.DsaRefIdeal.Read.val_main_cst_2, Cert.DsaRefIdeal.Read.val_main_cst_3, Cert.DsaRefIdeal.Read.val_main_cst_4, Cert.DsaRefIdeal.Read.val_main_cst_5]

/-- An entry of the reference's keys. -/
theorem ref_k (x0 x3 x6 x9) (R : Fin 32768) (n : Fin 8) (l : Fin 128) :
    Cert.DsaRefIdeal.Read.val_main_v98 (F := Ideal) x0 x3 x6 x9 (ix2 R ⟨n.val * 128 + l.val, by omega⟩)
      = Cert.DsaRefIdeal.Read.val_main_v48 (F := Ideal) x0 x3 x6 (ix2 R ⟨n.val * 128 + l.val, by omega⟩)
        * Ideal.rsqrt (Ideal.div (∑ k : Fin 128, Cert.DsaRefIdeal.Read.val_main_v48 (F := Ideal) x0 x3 x6 (ix2 R ⟨n.val * 128 + k.val, by omega⟩)
            * Cert.DsaRefIdeal.Read.val_main_v48 (F := Ideal) x0 x3 x6 (ix2 R ⟨n.val * 128 + k.val, by omega⟩))
          (Ideal.ofBits .f32 0x43000000#32) + Ideal.ofBits .f32 0x358637BD#32)
        * x9 (ix1 l) := by
  pointwise [Cert.DsaRefIdeal.Read.val_main_v98, Cert.DsaRefIdeal.Read.val_main_v93, Cert.DsaRefIdeal.Read.val_main_v62, Cert.DsaRefIdeal.Read.val_main_v61, Cert.DsaRefIdeal.Read.val_main_v60, Cert.DsaRefIdeal.Read.val_main_v59, Cert.DsaRefIdeal.Read.val_main_v58, Cert.DsaRefIdeal.Read.val_main_v57, Cert.DsaRefIdeal.Read.val_main_v56, Cert.DsaRefIdeal.Read.val_main_v55, Cert.DsaRefIdeal.Read.val_main_v54, Cert.DsaRefIdeal.Read.val_main_v53, Cert.DsaRefIdeal.Read.val_main_v52, Cert.DsaRefIdeal.Read.val_main_v51, Cert.DsaRefIdeal.Read.val_main_v50, Cert.DsaRefIdeal.Read.val_main_v49, Cert.DsaRefIdeal.Read.val_main_cst_9, Cert.DsaRefIdeal.Read.val_main_cst_10, Cert.DsaRefIdeal.Read.val_main_cst_11]

/-- An entry of the reference's values: a head's 128 rows, then sixteen of ones. -/
theorem ref_v (x0 x3 x7) (t : Fin 64) (a : Fin 1152) (b : Fin 512) :
    Cert.DsaRefIdeal.Read.val_main_v99 (F := Ideal) x0 x3 x7 (ix3 t a b)
      = if h : a.val % 144 < 128 then Cert.DsaRefIdeal.Read.val_main_v63 (F := Ideal) x0 x3 x7
          (ix2 ⟨t.val * 512 + b.val, by omega⟩ ⟨a.val / 144 * 128 + a.val % 144, by omega⟩) else 1 := by
  unfold Cert.DsaRefIdeal.Read.val_main_v99
  pointwise [Cert.DsaRefIdeal.Read.val_main_v94, Cert.DsaRefIdeal.Read.val_main_v67, Cert.DsaRefIdeal.Read.val_main_v66, Cert.DsaRefIdeal.Read.val_main_v65, Cert.DsaRefIdeal.Read.val_main_v64, Cert.DsaRefIdeal.Read.val_main_cst_12]

/-- Every column of 1024 is a column of one of the eight heads. -/
theorem in_head (j : Fin 1024) : ∃ (n : Fin 8) (l : Fin 128), j = ⟨n.val * 128 + l.val, by omega⟩ :=
  ⟨⟨j.val / 128, by omega⟩, ⟨j.val % 128, by omega⟩, Fin.ext (by show j.val = j.val / 128 * 128 + j.val % 128; omega)⟩

/-- The kernel scales the gain, the reference the product with it. -/
theorem q_entry (c : Dev nD) (t : Fin cfg0.N) (r : Fin 512) (j : Fin 1024) :
    heads 0x3E0293EE#32 (k0_pay6 (iblk m c 0 t) (iblk m c 3 t) (iblk m c 5 t)) (k0_pay7 (iblk m c 9 t)) (ix2 r j)
      = Cert.DsaRefIdeal.Read.val_main_v97 (F := Ideal) (A0 m c) (A2 m c) (A4 m c) (A8 m c) (ix2 (row t r) j) := by
  obtain ⟨n, l, rfl⟩ := in_head j
  have hg : k0_pay7 (F := Ideal) (iblk m c 9 t) (ix2 0 l) = A8 m c (ix1 l) := by
    refine Eq.trans ?_ (qg_at m c t l)
    pointwise [k0_pay7]
  rw [heads_at, head_at, ref_q, hg]
  simp only [q_product m c t r _]
  exact (mul_assoc _ _ _).symm

/-- The kernel multiplies the gain by one. -/
theorem k_entry (c : Dev nD) (t : Fin cfg0.N) (r : Fin 512) (j : Fin 1024) :
    heads 0x3F800000#32 (k0_pay24 (iblk m c 1 t) (iblk m c 4 t) (iblk m c 7 t)) (k0_pay25 (iblk m c 10 t)) (ix2 r j)
      = Cert.DsaRefIdeal.Read.val_main_v98 (F := Ideal) (A0 m c) (A3 m c) (A6 m c) (A9 m c) (ix2 (row t r) j) := by
  obtain ⟨n, l, rfl⟩ := in_head j
  have hg : k0_pay25 (F := Ideal) (iblk m c 10 t) (ix2 0 l) = A9 m c (ix1 l) := by
    refine Eq.trans ?_ (kg_at m c t l)
    pointwise [k0_pay25]
  rw [heads_at, head_at, ref_k, hg]
  simp only [k_product m c t r _, Ideal.ofBits_one_f32, mul_one]

/-- The kernel's normed indexer keys are the reference's. -/
theorem ik_at (c : Dev nD) (t : Fin cfg0.N) (r : Fin 512) (l : Fin 64) :
    k0_pay1 (F := Ideal) (k0_pay57 (iblk m c 2 t)) (k0_pay58 (iblk m c 2 t)) (iblk m c 11 t) (iblk m c 12 t) (ix2 r l)
      = Cert.DsaRefIdeal.Read.val_main_v90 (F := Ideal) (A1 m c) (A10 m c) (A11 m c) (ix2 (row t r) l) := by
  pointwise [k0_pay1, k0_pay57, k0_pay58, Cert.DsaRefIdeal.Read.val_main_v90, Cert.DsaRefIdeal.Read.val_main_v89, Cert.DsaRefIdeal.Read.val_main_v88, Cert.DsaRefIdeal.Read.val_main_v87, Cert.DsaRefIdeal.Read.val_main_v86, Cert.DsaRefIdeal.Read.val_main_v85, Cert.DsaRefIdeal.Read.val_main_v84, Cert.DsaRefIdeal.Read.val_main_v83, Cert.DsaRefIdeal.Read.val_main_v82, Cert.DsaRefIdeal.Read.val_main_v81, Cert.DsaRefIdeal.Read.val_main_v80, Cert.DsaRefIdeal.Read.val_main_v79, Cert.DsaRefIdeal.Read.val_main_v78, Cert.DsaRefIdeal.Read.val_main_v77, Cert.DsaRefIdeal.Read.val_main_v76, Cert.DsaRefIdeal.Read.val_main_v75, Cert.DsaRefIdeal.Read.val_main_v74, Cert.DsaRefIdeal.Read.val_main_v73, Cert.DsaRefIdeal.Read.val_main_v72, Cert.DsaRefIdeal.Read.val_main_v71, Cert.DsaRefIdeal.Read.val_main_v70, Cert.DsaRefIdeal.Read.val_main_v69, Cert.DsaRefIdeal.Read.val_main_v68, Cert.DsaRefIdeal.Read.val_main_cst_13, Cert.DsaRefIdeal.Read.val_main_cst_14, Cert.DsaRefIdeal.Read.val_main_cst_15, Cert.DsaRefIdeal.Read.val_main_cst_16, Cert.DsaRefIdeal.Read.val_main_cst_17]
  simp only [sm_at m c t r _, ikw_at, ikb_at]

/-- The indexer's keys with zeros after them. -/
theorem pay3_at (x w b) (y : FVec Ideal S512 .f32) (r : Fin 512) (j : Fin 128) :
    k0_pay3 (F := Ideal) x y w b (ix2 r j) = if h : j.val < 64 then k0_pay1 (F := Ideal) x y w b (ix2 r ⟨j.val, h⟩) else 0 := by
  pointwise [k0_pay3, k0_pay2]

/-- The indexer's keys with zeros before them. -/
theorem pay4_at (x w b) (y : FVec Ideal S512 .f32) (r : Fin 512) (j : Fin 128) :
    k0_pay4 (F := Ideal) x y w b (ix2 r j) = if h : j.val < 64 then 0 else k0_pay1 (F := Ideal) x y w b (ix2 r ⟨j.val - 64, by omega⟩) := by
  pointwise [k0_pay4, k0_pay2]

/-- The reference's keys with zeros after them. -/
theorem ref_ke (x1 x10 x11) (r : Fin 32768) (j : Fin 128) : Cert.DsaRefIdeal.Read.val_main_v101 (F := Ideal) x1 x10 x11 (ix2 r j)
    = if h : j.val < 64 then Cert.DsaRefIdeal.Read.val_main_v90 (F := Ideal) x1 x10 x11 (ix2 r ⟨j.val, h⟩) else 0 := by
  pointwise [Cert.DsaRefIdeal.Read.val_main_v101, Cert.DsaRefIdeal.Read.val_main_v95, Cert.DsaRefIdeal.Read.val_main_v91, Cert.DsaRefIdeal.Read.val_main_cst_18]

/-- The reference's keys with zeros before them. -/
theorem ref_ko (x1 x10 x11) (r : Fin 32768) (j : Fin 128) : Cert.DsaRefIdeal.Read.val_main_v102 (F := Ideal) x1 x10 x11 (ix2 r j)
    = if h : j.val < 64 then 0 else Cert.DsaRefIdeal.Read.val_main_v90 (F := Ideal) x1 x10 x11 (ix2 r ⟨j.val - 64, by omega⟩) := by
  pointwise [Cert.DsaRefIdeal.Read.val_main_v102, Cert.DsaRefIdeal.Read.val_main_v96, Cert.DsaRefIdeal.Read.val_main_v91, Cert.DsaRefIdeal.Read.val_main_cst_18]

/-- Every head's rows lie inside the transposed product. -/
theorem value_fits : ∀ n : Fin 8, S1024x512.Slices ![n.val * 128, 0] S128x512 := by decide

/-- What the result `v` holds at row `a` of a block: a head's product transposed, 128 rows, then sixteen rows of ones. -/
def vcol (W : FVec Ideal S1024x512 .bf16) (a : Fin 1152) (b : Fin 512) : EReal :=
  if h : a.val % 144 < 128 then W (ix2 ⟨a.val / 144 * 128 + a.val % 144, by omega⟩ b) else 1

/-- A stored head of values agrees with `vcol` on its rows. -/
theorem tile_head (W : FVec Ideal S1024x512 .bf16) (a : Fin 1152) (b : Fin 512) (n : Fin 8) :
    View.TileAt (Val := Elt Ideal) (e := .bf16) (S := S1x1152x512) (ix3 0 a b) ![0, n.val * 144, 0] ![1, 128, 512]
      (shapeCast S1x128x512 (extractStridedSlice S128x512 ![n.val * 128, 0] W (value_fits n)) shapeCasts_S128x512_S1x128x512) (vcol W a b) := by
  intro x hx
  obtain ⟨p, q, rfl⟩ : ∃ (p : Fin 128) (q : Fin 512), x = ix3 0 p q := ⟨x 1, x 2, by funext i; fin_cases i <;> first | rfl | exact Subsingleton.elim (α := Fin 1) _ _⟩
  have h1 : a.val = n.val * 144 + p.val := hx 1
  have h2 : b.val = 0 + q.val := hx 2
  obtain rfl : b = q := Fin.ext (by omega)
  unfold vcol
  rw [dif_pos (by omega)]
  have e : (⟨a.val / 144 * 128 + a.val % 144, by omega⟩ : Fin 1024) = ⟨n.val * 128 + p.val, by omega⟩ := Fin.ext (by
    show a.val / 144 * 128 + a.val % 144 = n.val * 128 + p.val
    omega)
  rw [e]
  pointwise

/-- Stored rows of ones agree with `vcol`. -/
theorem tile_ones (W : FVec Ideal S1024x512 .bf16) (a : Fin 1152) (b : Fin 512) (n : Fin 8) :
    View.TileAt (Val := Elt Ideal) (e := .bf16) (S := S1x1152x512) (ix3 0 a b) ![0, n.val * 144 + 128, 0] ![1, 16, 512]
      (shapeCast S1x16x512 (k0_pay40 (F := Ideal)) shapeCasts_S16x512_S1x16x512) (vcol W a b) := by
  intro x hx
  obtain ⟨p, q, rfl⟩ : ∃ (p : Fin 16) (q : Fin 512), x = ix3 0 p q := ⟨x 1, x 2, by funext i; fin_cases i <;> first | rfl | exact Subsingleton.elim (α := Fin 1) _ _⟩
  have h1 : a.val = n.val * 144 + 128 + p.val := hx 1
  unfold vcol
  rw [dif_neg (by omega)]
  pointwise [k0_pay40]

/-- The block of values after point `t`: sixteen stores, a head and its ones in turn. -/
theorem left15 (c : Dev nD) (t : Fin cfg0.N) (a : Fin 1152) (b : Fin 512) : (outsAt0 m c t).2.2.1 (ix3 0 a b)
    = vcol (k0_pay39 (k0_pay23 (iblk m c 1 t) (iblk m c 4 t)) (iblk m c 8 t)) a b := by
  unfold outsAt0
  frame_out
  refine View.canon_eq_of_allAt _ _ _ (View.cover_of_tiledBy _ ![1, 16, 512] (by sl_kernel_rfl) _) ?_
  refine View.allAt_cons_unit _ _ _ _ _ (tile_ones _ a b 7) (View.allAt_cons_unit _ _ _ _ _ (tile_head _ a b 7) ?_)
  refine View.allAt_cons_unit _ _ _ _ _ (tile_ones _ a b 6) (View.allAt_cons_unit _ _ _ _ _ (tile_head _ a b 6) ?_)
  refine View.allAt_cons_unit _ _ _ _ _ (tile_ones _ a b 5) (View.allAt_cons_unit _ _ _ _ _ (tile_head _ a b 5) ?_)
  refine View.allAt_cons_unit _ _ _ _ _ (tile_ones _ a b 4) (View.allAt_cons_unit _ _ _ _ _ (tile_head _ a b 4) ?_)
  refine View.allAt_cons_unit _ _ _ _ _ (tile_ones _ a b 3) (View.allAt_cons_unit _ _ _ _ _ (tile_head _ a b 3) ?_)
  refine View.allAt_cons_unit _ _ _ _ _ (tile_ones _ a b 2) (View.allAt_cons_unit _ _ _ _ _ (tile_head _ a b 2) ?_)
  refine View.allAt_cons_unit _ _ _ _ _ (tile_ones _ a b 1) (View.allAt_cons_unit _ _ _ _ _ (tile_head _ a b 1) ?_)
  exact View.allAt_cons_unit _ _ _ _ _ (tile_ones _ a b 0) (View.allAt_cons_unit _ _ _ _ _ (tile_head _ a b 0) (View.allAt_nil _ _))

/-- The queries after the run are the reference's. -/
theorem final13 (c : Dev nD) : (dats m 0 c).arrAt 13 cfg0.N = Cert.DsaRefIdeal.Read.val_main_v97 (F := Ideal) (A0 m c) (A2 m c) (A4 m c) (A8 m c) := by
  refine (dats m 0 c).arrAt_eq_of_covers 13 _ (by decide +kernel) fun t _ y => ?_
  blk_simp
  obtain ⟨r, l, rfl⟩ : ∃ (r : Fin 512) (l : Fin 1024), y = ix2 r l := ⟨y 0, y 1, by funext a; fin_cases a <;> rfl⟩
  have hi : ((win0_13.blk t).view.emb (ix2 r l)) = ix2 (row t r) l := by
    unfold row
    blk_ext [place t]
  rw [after0_13, left13, hi]
  exact q_entry m c t r l

/-- The keys after the run are the reference's. -/
theorem final14 (c : Dev nD) : (dats m 0 c).arrAt 14 cfg0.N = Cert.DsaRefIdeal.Read.val_main_v98 (F := Ideal) (A0 m c) (A3 m c) (A6 m c) (A9 m c) := by
  refine (dats m 0 c).arrAt_eq_of_covers 14 _ (by decide +kernel) fun t _ y => ?_
  blk_simp
  obtain ⟨r, l, rfl⟩ : ∃ (r : Fin 512) (l : Fin 1024), y = ix2 r l := ⟨y 0, y 1, by funext a; fin_cases a <;> rfl⟩
  have hi : ((win0_14.blk t).view.emb (ix2 r l)) = ix2 (row t r) l := by
    unfold row
    blk_ext [place t]
  rw [after0_14, left14, hi]
  exact k_entry m c t r l

/-- The indexer's queries after the run are the reference's. -/
theorem final16 (c : Dev nD) : (dats m 0 c).arrAt 16 cfg0.N = Cert.DsaRefIdeal.Read.val_main_v100 (F := Ideal) (A0 m c) (A2 m c) (A5 m c) := by
  refine (dats m 0 c).arrAt_eq_of_covers 16 _ (by decide +kernel) fun t _ y => ?_
  blk_simp
  obtain ⟨r, l, rfl⟩ : ∃ (r : Fin 512) (l : Fin 1024), y = ix2 r l := ⟨y 0, y 1, by funext a; fin_cases a <;> rfl⟩
  have hi : ((win0_16.blk t).view.emb (ix2 r l)) = ix2 (row t r) l := by
    unfold row
    blk_ext [place t]
  rw [after0_16, left16, hi]
  exact i_product m c t r l

/-- The indexer's keys after the run, zeros in the upper half, are the reference's. -/
theorem final17 (c : Dev nD) : (dats m 0 c).arrAt 17 cfg0.N = Cert.DsaRefIdeal.Read.val_main_v101 (F := Ideal) (A1 m c) (A10 m c) (A11 m c) := by
  refine (dats m 0 c).arrAt_eq_of_covers 17 _ (by decide +kernel) fun t _ y => ?_
  blk_simp
  obtain ⟨r, l, rfl⟩ : ∃ (r : Fin 512) (l : Fin 128), y = ix2 r l := ⟨y 0, y 1, by funext a; fin_cases a <;> rfl⟩
  have hi : ((win0_17.blk t).view.emb (ix2 r l)) = ix2 (row t r) l := by
    unfold row
    blk_ext [place t]
  rw [after0_17, left17, hi]
  refine (pay3_at _ _ _ _ r l).trans (Eq.trans ?_ (ref_ke _ _ _ _ _).symm)
  simp only [ik_at m c t r _]

/-- The indexer's keys after the run, zeros in the lower half, are the reference's. -/
theorem final18 (c : Dev nD) : (dats m 0 c).arrAt 18 cfg0.N = Cert.DsaRefIdeal.Read.val_main_v102 (F := Ideal) (A1 m c) (A10 m c) (A11 m c) := by
  refine (dats m 0 c).arrAt_eq_of_covers 18 _ (by decide +kernel) fun t _ y => ?_
  blk_simp
  obtain ⟨r, l, rfl⟩ : ∃ (r : Fin 512) (l : Fin 128), y = ix2 r l := ⟨y 0, y 1, by funext a; fin_cases a <;> rfl⟩
  have hi : ((win0_18.blk t).view.emb (ix2 r l)) = ix2 (row t r) l := by
    unfold row
    blk_ext [place t]
  rw [after0_18, left18, hi]
  refine (pay4_at _ _ _ _ r l).trans (Eq.trans ?_ (ref_ko _ _ _ _ _).symm)
  simp only [ik_at m c t r _]

/-- The values after the run are the reference's. -/
theorem final15 (c : Dev nD) : (dats m 0 c).arrAt 15 cfg0.N = Cert.DsaRefIdeal.Read.val_main_v99 (F := Ideal) (A0 m c) (A3 m c) (A7 m c) := by
  refine (dats m 0 c).arrAt_eq_of_covers 15 _ (by decide +kernel) fun t _ y => ?_
  blk_simp
  obtain ⟨r, l, rfl⟩ : ∃ (r : Fin 1152) (l : Fin 512), y = ix3 0 r l :=
    ⟨y 1, y 2, by funext a; fin_cases a <;> first | rfl | exact Subsingleton.elim (α := Fin 1) _ _⟩
  have ht : t.val < 64 := t.isLt
  have hi : ((win0_15.blk t).view.emb (ix3 0 r l)) = ix3 ⟨t.val, ht⟩ r l := by
    blk_ext [place t]
  rw [after0_15, hi, ref_v]
  refine (left15 m c t r l).trans ?_
  unfold vcol
  simp only [v_product m c t l _]
  rfl

end Cert.DsaIdeal.Hand

end
-- ==== Proof.GdnConv.lean ====
/- The recurrence's preparation: its convolution. The kernel moves a tile down by one, two and three rows with products by
   matrices of zeros and ones, and takes the rows before the tile from the block that ends there; each moved tile is the
   sequence read that many rows earlier. -/
module

public import proofs.«01_k».proof.Proof.Gen.GdnIdeal.Value
public import proofs.«01_k».proof.Proof.Gen.GdnRefIdeal.Read
public import Idealize.ShloMosaic.Lib.Pipeline.ValueKit
public import Idealize.ShloMosaic.Lib.Pointwise

@[expose] public section

set_option maxRecDepth 16384

noncomputable section

namespace Cert.GdnIdeal.Hand

open Cert.GdnIdeal Cert.GdnIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at point `t`: batch `t / 16`, tile `t % 16`. -/
theorem place : ∀ t : Fin cfg0.N, win0_0.index t = ![t.val / 16, t.val % 16, 0] ∧ win0_1.index t = ![t.val / 16, t.val % 16 * 16 - 1, 0]
    ∧ win0_2.index t = ![t.val / 16, t.val % 16, 0] ∧ win0_3.index t = ![0, 0] ∧ win0_4.index t = ![0, 0] ∧ win0_5.index t = ![0, 0]
    ∧ win0_6.index t = ![t.val / 16, t.val % 16, 0] ∧ win0_7.index t = ![t.val / 16, t.val % 16, 0]
    ∧ win0_8.index t = ![t.val / 16, t.val % 16, 0] ∧ win0_9.index t = ![t.val / 16, t.val % 16, 0]
    ∧ win0_10.index t = ![t.val / 16, t.val % 16, 0] ∧ win0_11.index t = ![t.val / 16, t.val % 16, 0, 0]
    ∧ (grid0.coords t 1).val = t.val % 16 :=
  (by decide +kernel : ∀ t : Fin grid0.N, _)

/-- The projection, as the call is given it. -/
abbrev A0 (c : Dev nD) : FVec Ideal S8x4096x6144 .bf16 := m ((c : Thread nD τ).loc main_arg0)
/-- The narrow projection, as the call is given it. -/
abbrev A1 (c : Dev nD) : FVec Ideal S8x4096x128 .f32 := m ((c : Thread nD τ).loc main_arg1)
/-- The convolution's weights, as the call is given them. -/
abbrev A2 (c : Dev nD) : FVec Ideal S4x3072 .f32 := m ((c : Thread nD τ).loc main_arg2)
/-- The decay's logarithms, as the call is given them. -/
abbrev A3 (c : Dev nD) : FVec Ideal S8 .f32 := m ((c : Thread nD τ).loc main_arg3)
/-- The step's offsets, as the call is given them. -/
abbrev A4 (c : Dev nD) : FVec Ideal S8 .f32 := m ((c : Thread nD τ).loc main_arg4)

/-- The batch of point `t`. -/
def bat (t : Fin cfg0.N) : Fin 8 :=
  ⟨t.val / 16, by have h : t.val < 128 := t.isLt; omega⟩

/-- Row `r` of point `t`'s tile, within its sequence. -/
def row (t : Fin cfg0.N) (r : Fin 256) : Fin 4096 :=
  ⟨t.val % 16 * 256 + r.val, by omega⟩

/-- A row of the tile. -/
theorem x_at (c : Dev nD) (t : Fin cfg0.N) (r : Fin 256) (k : Fin 3072) :
    iblk m c 0 t (ix3 0 r k) = A0 m c (ix3 (bat t) (row t r) ⟨k.val, by omega⟩) := by
  unfold row bat A0
  rw [← V_main_arg0 m c]
  blk_ext [iblk, place t]

/-- A row of the block before the tile. -/
theorem halo_at (c : Dev nD) (t : Fin cfg0.N) (r : Fin 16) (k : Fin 3072) :
    iblk m c 1 t (ix3 0 r k) = A0 m c (ix3 (bat t) ⟨(t.val % 16 * 16 - 1) * 16 + r.val, by omega⟩ ⟨k.val, by omega⟩) := by
  unfold bat A0
  rw [← V_main_arg0 m c]
  blk_ext [iblk, place t]

/-- A row of the narrow projection. -/
theorem sm_at (c : Dev nD) (t : Fin cfg0.N) (r : Fin 256) (k : Fin 128) :
    iblk m c 2 t (ix3 0 r k) = A1 m c (ix3 (bat t) (row t r) k) := by
  unfold row bat A1
  rw [← V_main_arg1 m c]
  blk_ext [iblk, place t]

/-- The convolution's weights. -/
theorem cw_at (c : Dev nD) (t : Fin cfg0.N) (j : Fin 4) (k : Fin 3072) : iblk m c 3 t (ix2 j k) = A2 m c (ix2 j k) := by
  blk_point [iblk, V, place t]

/-- A sum in which one term at most is picked. -/
theorem pick {n : ℕ} (f : Fin n → EReal) (k : ℕ) (p : Fin n → Prop) [DecidablePred p] (hp : ∀ j, p j ↔ j.val = k) :
    (∑ j : Fin n, if p j then f j else 0) = if h : k < n then f ⟨k, h⟩ else 0 := by
  by_cases h : k < n
  · rw [dif_pos h, Finset.sum_eq_single ⟨k, h⟩]
    · rw [if_pos ((hp _).2 rfl)]
    · intro j _ hj
      rw [if_neg fun q => hj (Fin.ext ((hp j).1 q))]
    · intro q
      exact absurd (Finset.mem_univ _) q
  · rw [dif_neg h]
    refine Finset.sum_eq_zero fun j _ => ?_
    rw [if_neg fun q => h ((hp j).1 q ▸ j.isLt)]

/-- A choice by equality of two words. -/
theorem choose_eq {w : ℕ} {α : Type} (x y : BitVec w) (a b : α) : Scalar.select (IntOp.cmpi .eq x y) a b = if x = y then a else b := by
  unfold Scalar.select IntOp.cmpi
  by_cases h : x = y
  · simp [h]
  · have q : (x == y) = false := beq_eq_false_iff_ne.mpr h
    simp [h, q]

/-- The word of a position less `n` is the word of a position of the tile where the positions lie `n` apart. -/
theorem word_sub {n : ℕ} (hn : n < 8) (r j : Fin 256) :
    (BitVec.ofNat 32 j.val = IntOp.subi (BitVec.ofNat 32 r.val) (BitVec.ofNat 32 n)) ↔ j.val + n = r.val := by
  unfold IntOp.subi
  rw [← BitVec.toNat_inj, BitVec.toNat_sub, BitVec.toNat_ofNat, BitVec.toNat_ofNat, BitVec.toNat_ofNat]
  omega

/-- The word of a position plus `n` is the word of a position of the block before where the positions lie `n` apart. -/
theorem word_add {n : ℕ} (hn : n < 32) (r : Fin 8) (j : Fin 16) :
    (BitVec.ofNat 32 j.val = IntOp.addi (BitVec.ofNat 32 r.val) (BitVec.ofNat 32 n)) ↔ j.val = r.val + n := by
  unfold IntOp.addi
  rw [← BitVec.toNat_inj, BitVec.toNat_add, BitVec.toNat_ofNat, BitVec.toNat_ofNat, BitVec.toNat_ofNat]
  omega

/-- A tile moved down by `n` rows, the first `n` rows the last ones of `h`. -/
def moved (n : ℕ) (v : FVec Ideal S256x3072 .bf16) (h : FVec Ideal S16x3072 .bf16) : FVec Ideal S256x3072 .f32 :=
  concatenate S256x3072 0
    [⟨S8x3072, addf
      (extractStridedSlice S8x3072 ![0, 0]
        (matmul dot_S256x256_S256x3072_S256x3072_1_0_0_1_n_n none
          (truncf .bf16 (select (cmpi .eq (iota .tc S256x256 32 [1] iota_S256x256_d1_w32)
            (subi (iota .tc S256x256 32 [0] iota_S256x256_d0_w32) (broadcast S256x256 (BitVec.ofNat 32 n))))
            (broadcast S256x256 (Scalar.ofBits .f32 0x3F800000#32)) (broadcast S256x256 (Scalar.ofBits .f32 0x00000000#32))) bitsLt_bf16_f32)
          v (constant S256x3072 .f32 0x00000000#32)) slices_S256x3072_o0_0_S8x3072)
      (matmul dot_S8x16_S16x3072_S8x3072_1_0_0_1_n_n none
        (truncf .bf16 (select (cmpi .eq (iota .tc S8x16 32 [1] iota_S8x16_d1_w32)
          (addi (iota .tc S8x16 32 [0] iota_S8x16_d0_w32) (broadcast S8x16 (BitVec.ofNat 32 (16 - n)))))
          (broadcast S8x16 (Scalar.ofBits .f32 0x3F800000#32)) (broadcast S8x16 (Scalar.ofBits .f32 0x00000000#32))) bitsLt_bf16_f32)
        h (constant S8x3072 .f32 0x00000000#32))⟩,
     ⟨S248x3072, extractStridedSlice S248x3072 ![8, 0]
        (matmul dot_S256x256_S256x3072_S256x3072_1_0_0_1_n_n none
          (truncf .bf16 (select (cmpi .eq (iota .tc S256x256 32 [1] iota_S256x256_d1_w32)
            (subi (iota .tc S256x256 32 [0] iota_S256x256_d0_w32) (broadcast S256x256 (BitVec.ofNat 32 n))))
            (broadcast S256x256 (Scalar.ofBits .f32 0x3F800000#32)) (broadcast S256x256 (Scalar.ofBits .f32 0x00000000#32))) bitsLt_bf16_f32)
          v (constant S256x3072 .f32 0x00000000#32)) slices_S256x3072_o8_0_S248x3072⟩]
    concatenates_S8x3072_S248x3072_S256x3072_d0

/-- One entry of the product that moves a tile: the entry `n` rows up, or zero. -/
theorem main_at (n : ℕ) (hn : n < 8) (v : FVec Ideal S256x3072 .bf16) (r : Fin 256) (k : Fin 3072) :
    matmul dot_S256x256_S256x3072_S256x3072_1_0_0_1_n_n none
          (truncf .bf16 (select (cmpi .eq (iota .tc S256x256 32 [1] iota_S256x256_d1_w32)
            (subi (iota .tc S256x256 32 [0] iota_S256x256_d0_w32) (broadcast S256x256 (BitVec.ofNat 32 n))))
            (broadcast S256x256 (Scalar.ofBits .f32 0x3F800000#32)) (broadcast S256x256 (Scalar.ofBits .f32 0x00000000#32))) bitsLt_bf16_f32)
          v (constant S256x3072 .f32 0x00000000#32) (ix2 r k)
      = if h : n ≤ r.val then v (ix2 ⟨r.val - n, by omega⟩ k) else 0 := by
  pointwise [iota_single_apply]
  simp only [choose_eq]
  by_cases h : n ≤ r.val
  · refine (pick _ (r.val - n) _ fun j => (word_sub hn r j).trans ⟨fun q => by omega, fun q => by omega⟩).trans ?_
    rw [dif_pos h, dif_pos (by omega)]
  · rw [dif_neg h]
    refine Finset.sum_eq_zero fun j _ => if_neg fun q => ?_
    have := (word_sub hn r j).1 q
    omega

/-- One entry of the product that takes the rows before the tile. -/
theorem head_at (n : ℕ) (hn : n < 8) (v : FVec Ideal S16x3072 .bf16) (r : Fin 8) (k : Fin 3072) :
    matmul dot_S8x16_S16x3072_S8x3072_1_0_0_1_n_n none
        (truncf .bf16 (select (cmpi .eq (iota .tc S8x16 32 [1] iota_S8x16_d1_w32)
          (addi (iota .tc S8x16 32 [0] iota_S8x16_d0_w32) (broadcast S8x16 (BitVec.ofNat 32 (16 - n)))))
          (broadcast S8x16 (Scalar.ofBits .f32 0x3F800000#32)) (broadcast S8x16 (Scalar.ofBits .f32 0x00000000#32))) bitsLt_bf16_f32)
        v (constant S8x3072 .f32 0x00000000#32) (ix2 r k)
      = if h : r.val < n then v (ix2 ⟨r.val + (16 - n), by omega⟩ k) else 0 := by
  pointwise [iota_single_apply]
  simp only [choose_eq]
  refine (pick _ (r.val + (16 - n)) _ fun j => word_add (by omega) r j).trans ?_
  by_cases h : r.val < n
  · rw [dif_pos h, dif_pos (by omega)]
  · rw [dif_neg h, dif_neg (by omega)]

/-- A row of a moved tile: a row of the tile, or of the block before it. -/
theorem moved_at (n : ℕ) (hn : n < 8) (v : FVec Ideal S256x3072 .bf16) (w : FVec Ideal S16x3072 .bf16) (r : Fin 256) (k : Fin 3072) :
    moved n v w (ix2 r k)
      = if h : n ≤ r.val then v (ix2 ⟨r.val - n, by omega⟩ k) else w (ix2 ⟨r.val + (16 - n), by omega⟩ k) := by
  have hm := main_at n hn v
  have hh := head_at n hn w
  unfold moved
  generalize matmul dot_S256x256_S256x3072_S256x3072_1_0_0_1_n_n none _ v (constant S256x3072 .f32 0x00000000#32) = M at hm ⊢
  generalize matmul dot_S8x16_S16x3072_S8x3072_1_0_0_1_n_n none _ w (constant S8x3072 .f32 0x00000000#32) = H at hh ⊢
  pointwise
  by_cases h8 : r.val < 8
  · rw [dif_pos h8, hm, hh]
    by_cases h : n ≤ r.val
    · rw [dif_pos h, dif_pos h, dif_neg (by show ¬ r.val < n; omega), add_zero]
    · rw [dif_neg h, dif_neg h, dif_pos (by show r.val < n; omega), zero_add]
  · have e : (⟨8 + (r.val - 8), by omega⟩ : Fin 256) = r := Fin.ext (by show 8 + (r.val - 8) = r.val; omega)
    rw [dif_neg h8, e, hm]
    rw [dif_pos (by omega), dif_pos (by omega)]

/-- A sequence read `n` rows earlier, zero before its start. -/
def past (X : FVec Ideal S8x4096x6144 .bf16) (b : Fin 8) (n : ℕ) (p : Fin 4096) (k : Fin 3072) : EReal :=
  if h : n ≤ p.val then X (ix3 b ⟨p.val - n, by omega⟩ ⟨k.val, by omega⟩) else 0

/-- Whether a tile is past the first, as a word. -/
theorem first_word : ∀ q : Fin 16, Scalar.cmpi .sgt (BitVec.ofNat 32 q.val) 0#32 = if q.val = 0 then 0#1 else 1#1 := by decide

/-- The block before the tile, zero at the first tile. -/
theorem before_at (c : Dev nD) (t : Fin cfg0.N) (r : Fin 16) (k : Fin 3072) :
    k0_pay3 (F := Ideal) (grid0.coords t) (View.ld (iblk m c 1 t) r0_1) (ix2 r k)
      = if t.val % 16 = 0 then 0 else A0 m c (ix3 (bat t) ⟨(t.val % 16 * 16 - 1) * 16 + r.val, by omega⟩ ⟨k.val, by omega⟩) := by
  have hq : (grid0.coords t 1).val = t.val % 16 := (place t).2.2.2.2.2.2.2.2.2.2.2.2
  have hs := first_word ⟨t.val % 16, by omega⟩
  pointwise [k0_pay3]
  rw [hq, hs, halo_at]
  by_cases h : t.val % 16 = 0
  · rw [if_pos h, if_pos h]
    rfl
  · rw [if_neg h, if_neg h]
    rfl

/-- A moved tile is the sequence read `n` rows earlier. -/
theorem tap_at (c : Dev nD) (t : Fin cfg0.N) (n : ℕ) (hn : n < 8) (r : Fin 256) (k : Fin 3072) :
    moved n (k0_pay2 (View.ld (iblk m c 0 t) r0_0)) (k0_pay3 (F := Ideal) (grid0.coords t) (View.ld (iblk m c 1 t) r0_1)) (ix2 r k)
      = past (A0 m c) (bat t) n (row t r) k := by
  rw [moved_at n hn]
  have e : ∀ q : Fin 256, k0_pay2 (F := Ideal) (View.ld (iblk m c 0 t) r0_0) (ix2 q k) = A0 m c (ix3 (bat t) (row t q) ⟨k.val, by omega⟩) := fun q => by
    rw [← x_at m c t q k]
    pointwise [k0_pay2]
  simp only [e, before_at]
  unfold past
  by_cases h : n ≤ r.val
  · rw [dif_pos h, dif_pos (by show n ≤ t.val % 16 * 256 + r.val; omega)]
    refine congrArg (fun q => A0 m c (ix3 (bat t) q _)) (Fin.ext ?_)
    show t.val % 16 * 256 + (r.val - n) = t.val % 16 * 256 + r.val - n
    omega
  · rw [dif_neg h]
    by_cases h0 : t.val % 16 = 0
    · rw [if_pos h0, dif_neg (by show ¬ n ≤ t.val % 16 * 256 + r.val; omega)]
    · rw [if_neg h0, dif_pos (by show n ≤ t.val % 16 * 256 + r.val; omega)]
      refine congrArg (fun q => A0 m c (ix3 (bat t) q _)) (Fin.ext ?_)
      show (t.val % 16 * 16 - 1) * 16 + (r.val + (16 - n)) = t.val % 16 * 256 + r.val - n
      omega

/-- The convolution of a tile, before its gate: the row itself and the rows three, two and one earlier, each times its weight. -/
def convolved (X : FVec Ideal S256x3072 .bf16) (H : FVec Ideal S16x3072 .bf16) (w3 w0 w1 w2 : FVec Ideal S1x3072 .f32) : FVec Ideal S256x3072 .f32 :=
  addf (addf (addf
    (mulf (broadcastTo S256x3072 w3 broadcasts_S1x3072_S256x3072) (extf .f32 X bitsLt_bf16_f32))
    (mulf (broadcastTo S256x3072 w0 broadcasts_S1x3072_S256x3072) (moved 3 X H)))
    (mulf (broadcastTo S256x3072 w1 broadcasts_S1x3072_S256x3072) (moved 2 X H)))
    (mulf (broadcastTo S256x3072 w2 broadcasts_S1x3072_S256x3072) (moved 1 X H))

/-- The convolution of point `t`'s tile. -/
def conv (c : Dev nD) (t : Fin cfg0.N) : FVec Ideal S256x3072 .f32 :=
  convolved (k0_pay2 (View.ld (iblk m c 0 t) r0_0)) (k0_pay3 (F := Ideal) (grid0.coords t) (View.ld (iblk m c 1 t) r0_1))
    (View.ld (iblk m c 3 t) r0_2) (View.ld (iblk m c 3 t) r0_3) (View.ld (iblk m c 3 t) r0_4) (View.ld (iblk m c 3 t) r0_5)

/-- Point `t`'s gated convolution. -/
def gated (c : Dev nD) (t : Fin cfg0.N) : FVec Ideal S256x3072 .f32 :=
  k0_pay74 (F := Ideal) (grid0.coords t) (iblk m c 0 t) (iblk m c 1 t) (iblk m c 2 t) (iblk m c 3 t) (iblk m c 4 t) (iblk m c 5 t)

/-- The kernel's gated convolution is the convolution times its logistic. -/
theorem gated_eq (c : Dev nD) (t : Fin cfg0.N) :
    gated m c t = mulf (conv m c t) (divf (broadcast S256x3072 (Scalar.ofBits .f32 0x3F800000#32))
          (addf (broadcast S256x3072 (Scalar.ofBits .f32 0x3F800000#32)) (exp (subf (broadcast S256x3072 (Scalar.ofBits .f32 0x00000000#32)) (conv m c t))))) := by
  rfl

/-- A sequence padded by three zero rows is the sequence read three rows earlier. -/
theorem padded_at (X : FVec Ideal S8x4096x6144 .bf16) (b : Fin 8) (p : Fin 4096) (j : Fin 4) (k : Fin 3072) :
    Cert.GdnRefIdeal.Read.val_main_v2 (F := Ideal) X (ix3 b ⟨j.val + p.val, by omega⟩ k) = past X b (3 - j.val) p k := by
  unfold past
  pointwise [Cert.GdnRefIdeal.Read.val_main_v2, Cert.GdnRefIdeal.Read.val_main_v1, Cert.GdnRefIdeal.Read.val_main_v0, Cert.GdnRefIdeal.Read.val_main_call0_v0, Cert.GdnRefIdeal.Read.val_main_c]
  have z : (FloatOps.sitofp (F := Ideal) .f32 (0#32) : EReal) = 0 := by
    show ((((0#32 : BitVec 32).toInt : ℤ) : ℝ) : EReal) = 0
    simp
  rw [z]
  by_cases h : 3 - j.val ≤ p.val
  · rw [dif_pos h, dif_pos (by omega)]
    refine congrArg (fun q => X (ix3 b q _)) (Fin.ext ?_)
    show j.val + p.val - 3 = p.val - (3 - j.val)
    omega
  · rw [dif_neg h, dif_neg (by omega)]

/-- One entry of the convolution. -/
theorem conv_at (c : Dev nD) (t : Fin cfg0.N) (r : Fin 256) (k : Fin 3072) :
    conv m c t (ix2 r k) = A2 m c (ix2 3 k) * A0 m c (ix3 (bat t) (row t r) ⟨k.val, by omega⟩) + A2 m c (ix2 0 k) * past (A0 m c) (bat t) 3 (row t r) k
      + A2 m c (ix2 1 k) * past (A0 m c) (bat t) 2 (row t r) k + A2 m c (ix2 2 k) * past (A0 m c) (bat t) 1 (row t r) k := by
  rw [← tap_at m c t 3 (by decide), ← tap_at m c t 2 (by decide), ← tap_at m c t 1 (by decide), ← x_at m c t r k, ← cw_at m c t 0 k, ← cw_at m c t 1 k, ← cw_at m c t 2 k, ← cw_at m c t 3 k]
  unfold conv convolved
  pointwise [k0_pay2]

/-- One entry of the reference's convolution. -/
theorem conv_ref (X : FVec Ideal S8x4096x6144 .bf16) (W : FVec Ideal S4x3072 .f32) (b : Fin 8) (p : Fin 4096) (k : Fin 3072) :
    Cert.GdnRefIdeal.Read.val_main_v31 (F := Ideal) X W (ix3 b p k)
      = W (ix2 0 k) * past X b 3 p k + W (ix2 1 k) * past X b 2 p k + W (ix2 2 k) * past X b 1 p k + W (ix2 3 k) * past X b 0 p k := by
  pointwise [Cert.GdnRefIdeal.Read.val_main_v31, Cert.GdnRefIdeal.Read.val_main_v30, Cert.GdnRefIdeal.Read.val_main_v29, Cert.GdnRefIdeal.Read.val_main_v28, Cert.GdnRefIdeal.Read.val_main_v27, Cert.GdnRefIdeal.Read.val_main_v26, Cert.GdnRefIdeal.Read.val_main_v25, Cert.GdnRefIdeal.Read.val_main_v24, Cert.GdnRefIdeal.Read.val_main_v23, Cert.GdnRefIdeal.Read.val_main_v22, Cert.GdnRefIdeal.Read.val_main_v21, Cert.GdnRefIdeal.Read.val_main_v20, Cert.GdnRefIdeal.Read.val_main_v19, Cert.GdnRefIdeal.Read.val_main_v18, Cert.GdnRefIdeal.Read.val_main_v17, Cert.GdnRefIdeal.Read.val_main_v16, Cert.GdnRefIdeal.Read.val_main_v15, Cert.GdnRefIdeal.Read.val_main_v14, Cert.GdnRefIdeal.Read.val_main_v13, Cert.GdnRefIdeal.Read.val_main_v12, Cert.GdnRefIdeal.Read.val_main_v11, Cert.GdnRefIdeal.Read.val_main_v10, Cert.GdnRefIdeal.Read.val_main_v9, Cert.GdnRefIdeal.Read.val_main_v8, Cert.GdnRefIdeal.Read.val_main_v7, Cert.GdnRefIdeal.Read.val_main_v6, Cert.GdnRefIdeal.Read.val_main_v5, Cert.GdnRefIdeal.Read.val_main_v4, Cert.GdnRefIdeal.Read.val_main_v3, Cert.GdnRefIdeal.Read.val_main_cst]
  have h0 := padded_at X b p 0 k
  have h1 : Cert.GdnRefIdeal.Read.val_main_v2 (F := Ideal) X (ix3 b ⟨1 + p.val, by omega⟩ k) = past X b 2 p k := padded_at X b p 1 k
  have h2 : Cert.GdnRefIdeal.Read.val_main_v2 (F := Ideal) X (ix3 b ⟨2 + p.val, by omega⟩ k) = past X b 1 p k := padded_at X b p 2 k
  have h3 : Cert.GdnRefIdeal.Read.val_main_v2 (F := Ideal) X (ix3 b ⟨3 + p.val, by omega⟩ k) = past X b 0 p k := padded_at X b p 3 k
  have e : (⟨(0 : Fin 4).val + p.val, by have := p.isLt; show 0 + p.val < 4099; omega⟩ : Fin 4099) = ⟨p.val, by omega⟩ := Fin.ext (Nat.zero_add _)
  rw [e] at h0
  rw [h0, h1, h2, h3]
  rfl

/-- One entry of the gated convolution is the reference's. -/
theorem gated_at (c : Dev nD) (t : Fin cfg0.N) (r : Fin 256) (k : Fin 3072) :
    gated m c t (ix2 r k) = Cert.GdnRefIdeal.Read.val_main_v32 (F := Ideal) (A0 m c) (A2 m c) (ix3 (bat t) (row t r) k) := by
  have e : conv m c t (ix2 r k) = Cert.GdnRefIdeal.Read.val_main_v31 (F := Ideal) (A0 m c) (A2 m c) (ix3 (bat t) (row t r) k) := by
    rw [conv_at, conv_ref]
    have h0 : past (A0 m c) (bat t) 0 (row t r) k = A0 m c (ix3 (bat t) (row t r) ⟨k.val, by omega⟩) := rfl
    rw [h0]
    abel
  rw [gated_eq]
  pointwise [Cert.GdnRefIdeal.Read.val_main_v32, Cert.GdnRefIdeal.Read.val_main_call1_v5, Cert.GdnRefIdeal.Read.val_main_call1_v4, Cert.GdnRefIdeal.Read.val_main_call1_v3, Cert.GdnRefIdeal.Read.val_main_call1_v2, Cert.GdnRefIdeal.Read.val_main_call1_v1, Cert.GdnRefIdeal.Read.val_main_call1_v0, Cert.GdnRefIdeal.Read.val_main_call1_cst, Cert.GdnRefIdeal.Read.val_main_call1_cst_0]
  rw [e, zero_sub]

end Cert.GdnIdeal.Hand

end
-- ==== Proof.GdnHeads.lean ====
/- The recurrence's preparation: its queries, keys and values. A result's columns are stored a head at a time; one definition
   here stands for the eight heads, and one lemma reads eight stored heads back. -/
module

public import proofs.«01_k».proof.Proof.GdnConv
public import proofs.«01_k».proof.Proof.Gen.GdnIdeal.Value
public import proofs.«01_k».proof.Proof.Gen.GdnRefIdeal.Read
public import Idealize.ShloMosaic.Lib.Pipeline.ValueKit
public import Idealize.ShloMosaic.Lib.Pointwise

@[expose] public section

set_option maxRecDepth 16384

noncomputable section

namespace Cert.GdnIdeal.Hand

open Cert.GdnIdeal Cert.GdnIdeal.Gen Idealize.ShloMosaic Idealize.ShloMosaic.TcCoe Idealize.SL.Sem
open Idealize.ShloMosaic.Pipeline (Dat)

variable (m : (ℓ : Loc nD τ sig) → Buf (Elt Ideal) ℓ)

/-- A stored head, at a column of one head: the two heads are the same and the column is its own. -/
theorem tile_col (p : Fin 8 → FVec Ideal S1x256x128 .f32) (r : Fin 256) (n : Fin 8) (l : Fin 128) (k : Fin 8) :
    View.TileAt (Val := Elt Ideal) (e := .f32) (S := S1x256x1024) (ix3 0 r ⟨n.val * 128 + l.val, by omega⟩) ![0, 0, k.val * 128] ![1, 256, 128]
      (p k) (p n (ix3 0 r l)) := by
  intro x hx
  obtain ⟨a, q, rfl⟩ : ∃ (a : Fin 256) (q : Fin 128), x = ix3 0 a q := ⟨x 1, x 2, by funext i; fin_cases i <;> first | rfl | exact Subsingleton.elim (α := Fin 1) _ _⟩
  have h1 : r.val = 0 + a.val := hx 1
  have h2 : n.val * 128 + l.val = k.val * 128 + q.val := hx 2
  obtain rfl : r = a := Fin.ext (by omega)
  obtain rfl : k = n := Fin.ext (by omega)
  obtain rfl : q = l := Fin.ext (by omega)
  rfl

/-- Eight stored heads. -/
def columns (p : Fin 8 → FVec Ideal S1x256x128 .f32) : FVec Ideal S1x256x1024 .f32 :=
  View.canon (Val := Elt Ideal) (e := .f32) [⟨r0_13, p 7⟩, ⟨r0_12, p 6⟩, ⟨r0_11, p 5⟩, ⟨r0_10, p 4⟩, ⟨r0_9, p 3⟩, ⟨r0_8, p 2⟩, ⟨r0_7, p 1⟩, ⟨r0_6, p 0⟩]

/-- Eight stored heads, read at a column of one. -/
theorem columns_at (p : Fin 8 → FVec Ideal S1x256x128 .f32) (r : Fin 256) (n : Fin 8) (l : Fin 128) :
    columns p (ix3 0 r ⟨n.val * 128 + l.val, by omega⟩) = p n (ix3 0 r l) := by
  unfold columns
  refine View.canon_eq_of_allAt _ _ _ (cover0_6 (F := Ideal) _ _ _ _ _ _ _ _ _) ?_
  refine View.allAt_cons_unit _ _ _ _ _ (tile_col p r n l 7) (View.allAt_cons_unit _ _ _ _ _ (tile_col p r n l 6) ?_)
  refine View.allAt_cons_unit _ _ _ _ _ (tile_col p r n l 5) (View.allAt_cons_unit _ _ _ _ _ (tile_col p r n l 4) ?_)
  refine View.allAt_cons_unit _ _ _ _ _ (tile_col p r n l 3) (View.allAt_cons_unit _ _ _ _ _ (tile_col p r n l 2) ?_)
  exact View.allAt_cons_unit _ _ _ _ _ (tile_col p r n l 1) (View.allAt_cons_unit _ _ _ _ _ (tile_col p r n l 0) (View.allAt_nil _ _))

/-- Every query head's columns lie inside the tile. -/
theorem q_fits : ∀ n : Fin 8, S256x3072.Slices ![0, n.val * 128] S256x128 := by decide

/-- Every key head's columns lie inside the tile. -/
theorem k_fits : ∀ n : Fin 8, S256x3072.Slices ![0, 1024 + n.val * 128] S256x128 := by decide

/-- A head with each of its rows divided by the root of its sum of squares. -/
def unit (Y : FVec Ideal S256x128 .f32) : FVec Ideal S256x128 .f32 :=
  mulf Y (broadcastTo S256x128 (rsqrt (addf (shapeCast S256x1 (multiReduction .add [1] S256 (mulf Y Y) 0x00000000#32 reduces_S256x128_S256 (.inl rfl) rfl)
    shapeCasts_S256_S256x1) (broadcast S256x1 (Scalar.ofBits .f32 0x358637BD#32)))) broadcasts_S256x1_S256x128)

/-- A query head. -/
def qhead (Y : FVec Ideal S256x3072 .f32) (n : Fin 8) : FVec Ideal S1x256x128 .f32 :=
  shapeCast S1x256x128 (mulf (unit (extractStridedSlice S256x128 ![0, n.val * 128] Y (q_fits n))) (broadcast S256x128 (Scalar.ofBits .f32 0x3DB504F3#32)))
    shapeCasts_S256x128_S1x256x128

/-- A key head. -/
def khead (Y : FVec Ideal S256x3072 .f32) (n : Fin 8) : FVec Ideal S1x256x128 .f32 :=
  shapeCast S1x256x128 (unit (extractStridedSlice S256x128 ![0, 1024 + n.val * 128] Y (k_fits n))) shapeCasts_S256x128_S1x256x128

/-- The block of queries after point `t`. -/
theorem left6 (c : Dev nD) (t : Fin cfg0.N) : (dats m 0 c).after 6 t = columns (qhead (gated m c t)) :=
  (after0_6 m c t).trans rfl

/-- The block of keys after point `t`. -/
theorem left7 (c : Dev nD) (t : Fin cfg0.N) : (dats m 0 c).after 7 t = columns (khead (gated m c t)) :=
  (after0_7 m c t).trans rfl

/-- One entry of a query head. -/
theorem qhead_at (Y : FVec Ideal S256x3072 .f32) (n : Fin 8) (r : Fin 256) (l : Fin 128) :
    qhead Y n (ix3 0 r l) = Y (ix2 r ⟨n.val * 128 + l.val, by omega⟩)
      * Ideal.rsqrt ((∑ k : Fin 128, Y (ix2 r ⟨n.val * 128 + k.val, by omega⟩) * Y (ix2 r ⟨n.val * 128 + k.val, by omega⟩)) + Ideal.ofBits .f32 0x358637BD#32)
      * Ideal.ofBits .f32 0x3DB504F3#32 := by
  unfold qhead unit
  pointwise

/-- One entry of a key head. -/
theorem khead_at (Y : FVec Ideal S256x3072 .f32) (n : Fin 8) (r : Fin 256) (l : Fin 128) :
    khead Y n (ix3 0 r l) = Y (ix2 r ⟨1024 + (n.val * 128 + l.val), by omega⟩)
      * Ideal.rsqrt ((∑ k : Fin 128, Y (ix2 r ⟨1024 + (n.val * 128 + k.val), by omega⟩) * Y (ix2 r ⟨1024 + (n.val * 128 + k.val), by omega⟩)) + Ideal.ofBits .f32 0x358637BD#32) := by
  unfold khead unit
  pointwise
  simp only [Nat.add_assoc]

/-- One entry of the reference's queries. -/
theorem ref_q (x0 x2) (b : Fin 8) (p : Fin 4096) (n : Fin 8) (l : Fin 128) :
    Cert.GdnRefIdeal.Read.val_main_v91 (F := Ideal) x0 x2 (ix3 b p ⟨n.val * 128 + l.val, by omega⟩)
      = Cert.GdnRefIdeal.Read.val_main_v32 (F := Ideal) x0 x2 (ix3 b p ⟨n.val * 128 + l.val, by omega⟩)
      * Ideal.rsqrt ((∑ k : Fin 128, Cert.GdnRefIdeal.Read.val_main_v32 (F := Ideal) x0 x2 (ix3 b p ⟨n.val * 128 + k.val, by omega⟩)
        * Cert.GdnRefIdeal.Read.val_main_v32 (F := Ideal) x0 x2 (ix3 b p ⟨n.val * 128 + k.val, by omega⟩)) + Ideal.ofBits .f32 0x358637BD#32)
      * Ideal.ofBits .f32 0x3DB504F3#32 := by
  pointwise [Cert.GdnRefIdeal.Read.val_main_v91, Cert.GdnRefIdeal.Read.val_main_v48, Cert.GdnRefIdeal.Read.val_main_v47, Cert.GdnRefIdeal.Read.val_main_v46, Cert.GdnRefIdeal.Read.val_main_v45, Cert.GdnRefIdeal.Read.val_main_v44, Cert.GdnRefIdeal.Read.val_main_v43, Cert.GdnRefIdeal.Read.val_main_v42, Cert.GdnRefIdeal.Read.val_main_v41, Cert.GdnRefIdeal.Read.val_main_v40, Cert.GdnRefIdeal.Read.val_main_v39, Cert.GdnRefIdeal.Read.val_main_v36, Cert.GdnRefIdeal.Read.val_main_v33, Cert.GdnRefIdeal.Read.val_main_cst_0, Cert.GdnRefIdeal.Read.val_main_cst_1, Cert.GdnRefIdeal.Read.val_main_cst_2]

/-- One entry of the reference's keys. -/
theorem ref_k (x0 x2) (b : Fin 8) (p : Fin 4096) (n : Fin 8) (l : Fin 128) :
    Cert.GdnRefIdeal.Read.val_main_v92 (F := Ideal) x0 x2 (ix3 b p ⟨n.val * 128 + l.val, by omega⟩)
      = Cert.GdnRefIdeal.Read.val_main_v32 (F := Ideal) x0 x2 (ix3 b p ⟨1024 + (n.val * 128 + l.val), by omega⟩)
      * Ideal.rsqrt ((∑ k : Fin 128, Cert.GdnRefIdeal.Read.val_main_v32 (F := Ideal) x0 x2 (ix3 b p ⟨1024 + (n.val * 128 + k.val), by omega⟩)
        * Cert.GdnRefIdeal.Read.val_main_v32 (F := Ideal) x0 x2 (ix3 b p ⟨1024 + (n.val * 128 + k.val), by omega⟩)) + Ideal.ofBits .f32 0x358637BD#32) := by
  pointwise [Cert.GdnRefIdeal.Read.val_main_v92, Cert.GdnRefIdeal.Read.val_main_v56, Cert.GdnRefIdeal.Read.val_main_v55, Cert.GdnRefIdeal.Read.val_main_v54, Cert.GdnRefIdeal.Read.val_main_v53, Cert.GdnRefIdeal.Read.val_main_v52, Cert.GdnRefIdeal.Read.val_main_v51, Cert.GdnRefIdeal.Read.val_main_v50, Cert.GdnRefIdeal.Read.val_main_v49, Cert.GdnRefIdeal.Read.val_main_v37, Cert.GdnRefIdeal.Read.val_main_v34, Cert.GdnRefIdeal.Read.val_main_cst_3, Cert.GdnRefIdeal.Read.val_main_cst_4]

/-- Every column of 1024 is a column of one of the eight heads. -/
theorem in_head (j : Fin 1024) : ∃ (n : Fin 8) (l : Fin 128), j = ⟨n.val * 128 + l.val, by omega⟩ :=
  ⟨⟨j.val / 128, by omega⟩, ⟨j.val % 128, by omega⟩, Fin.ext (by show j.val = j.val / 128 * 128 + j.val % 128; omega)⟩

/-- The queries after the run are the reference's. -/
theorem final6 (c : Dev nD) : (dats m 0 c).arrAt 6 cfg0.N = Cert.GdnRefIdeal.Read.val_main_v91 (F := Ideal) (A0 m c) (A2 m c) := by
  refine (dats m 0 c).arrAt_eq_of_covers 6 _ (by decide +kernel) fun t _ y => ?_
  blk_simp
  obtain ⟨r, j, rfl⟩ : ∃ (r : Fin 256) (j : Fin 1024), y = ix3 0 r j := ⟨y 1, y 2, by funext i; fin_cases i <;> first | rfl | exact Subsingleton.elim (α := Fin 1) _ _⟩
  obtain ⟨n, l, rfl⟩ := in_head j
  have hi : ((win0_6.blk t).view.emb (ix3 0 r ⟨n.val * 128 + l.val, by omega⟩)) = ix3 (bat t) (row t r) ⟨n.val * 128 + l.val, by omega⟩ := by
    unfold row bat
    blk_ext [place t]
  rw [left6, hi, columns_at, qhead_at, ref_q]
  simp only [gated_at]

/-- The keys after the run are the reference's. -/
theorem final7 (c : Dev nD) : (dats m 0 c).arrAt 7 cfg0.N = Cert.GdnRefIdeal.Read.val_main_v92 (F := Ideal) (A0 m c) (A2 m c) := by
  refine (dats m 0 c).arrAt_eq_of_covers 7 _ (by decide +kernel) fun t _ y => ?_
  blk_simp
  obtain ⟨r, j, rfl⟩ : ∃ (r : Fin 256) (j : Fin 1024), y = ix3 0 r j := ⟨y 1, y 2, by funext i; fin_cases i <;> first | rfl | exact Subsingleton.elim (α := Fin 1) _ _⟩
  obtain ⟨n, l, rfl⟩ := in_head j
  have hi : ((win0_7.blk t).view.emb (ix3 0 r ⟨n.val * 128 + l.val, by omega⟩)) = ix3 (bat t) (row t r) ⟨n.val * 128 + l.val, by omega⟩ := by
    unfold row bat
    blk_ext [place t]
  rw [left7, hi, columns_at, khead_at, ref_k]
  simp only [gated_at]

/-- The values after the run are the reference's. -/
theorem final8 (c : Dev nD) : (dats m 0 c).arrAt 8 cfg0.N = Cert.GdnRefIdeal.Read.val_main_v93 (F := Ideal) (A0 m c) (A2 m c) := by
  refine (dats m 0 c).arrAt_eq_of_covers 8 _ (by decide +kernel) fun t _ y => ?_
  blk_simp
  obtain ⟨r, j, rfl⟩ : ∃ (r : Fin 256) (j : Fin 1024), y = ix3 0 r j := ⟨y 1, y 2, by funext i; fin_cases i <;> first | rfl | exact Subsingleton.elim (α := Fin 1) _ _⟩
  have hi : ((win0_8.blk t).view.emb (ix3 0 r j)) = ix3 (bat t) (row t r) j := by
    unfold row bat
    blk_ext [place t]
  have hl : (dats m 0 c).after 8 t = k0_pay35 (gated m c t) := by
    rw [after0_8]
    unfold out0_8
    frame_out
    rfl
  have hk : k0_pay35 (gated m c t) (ix3 0 r j) = gated m c t (ix2 r ⟨2048 + j.val, by omega⟩) := by
    pointwise [k0_pay35]
  have hv : Cert.GdnRefIdeal.Read.val_main_v93 (F := Ideal) (A0 m c) (A2 m c) (ix3 (bat t) (row t r) j) = Cert.GdnRefIdeal.Read.val_main_v32 (F := Ideal) (A0 m c) (A2 m c) (ix3 (bat t) (row t r) ⟨2048 + j.val, by omega⟩) := by
    pointwise [Cert.GdnRefIdeal.Read.val_main_v93, Cert.GdnRefIdeal.Read.val_main_v38, Cert.GdnRefIdeal.Read.val_main_v35]
  rw [hl, hi, hk, hv, gated_at]

end Cert.GdnIdeal.Hand

end
-- ==== Proof.GdnGates.lean ====
/- The recurrence's preparation: its gates. The decay's steps are summed within chunks of 64 rows: the kernel sums over the
   256 rows of a tile under a mask, the reference over the 64 of a chunk. -/
module

public import proofs.«01_k».proof.Proof.GdnHeads
public import proofs.«01_k».proof.Proof.Gen.GdnIdeal.Value
public import proofs.«01_k».proof.Proof.Gen.GdnRefIdeal.Read
public import Idealize.ShloMosaic.Lib.Pipeline.ValueKit
public import Idealize.ShloMosaic.Lib.Pointwise
public import Idealize.ShloMosaic.Lib.Routing.OpsOne

@[expose] public section

set_option maxRecDepth 16384

noncomputable section

namespace Cert.GdnIdeal.Hand

open Cert.GdnIdeal Cert.GdnIdeal.Gen Idealize.ShloMosaic Idealize.ShloMosaic.TcCoe Idealize.SL.Sem
open Idealize.ShloMosaic.Pipeline (Dat)

variable (m : (ℓ : Loc nD τ sig) → Buf (Elt Ideal) ℓ)

/-- Where the update `k` of a row of eight, put at column 88 of a row of 128, lands. -/
theorem lands (idx : IVec S2 32) (h0 : (idx (ix1 0)).toInt = 0) (h1 : (idx (ix1 1)).toInt = 88) (k n : Fin 8) :
    scatter_S1x128_S2_S8_0_0_01_0.resultIdx? (ix1 k) idx = some (ix2 0 ⟨88 + n.val, by omega⟩) ↔ k = n := by
  refine (Routing.resultIdx?_ix2 (R := 1) (C := 128) scatter_S1x128_S2_S8_0_0_01_0 (ix1 k) idx 0 ⟨88 + n.val, by omega⟩).trans ?_
  rw [Routing.start_pair (R := 1) (C := 128) scatter_S1x128_S2_S8_0_0_01_0 rfl rfl, Routing.start_pair (R := 1) (C := 128) scatter_S1x128_S2_S8_0_0_01_0 rfl rfl]
  have g0 : (idx (ValueIdx.ix1 (0 : Fin 2))).toInt = 0 := h0
  have g1 : (idx (ValueIdx.ix1 (1 : Fin 2))).toInt = 88 := h1
  rw [g0, g1]
  have w0 : scatter_S1x128_S2_S8_0_0_01_0.window (ix1 k) 0 = 0 := rfl
  have w1 : scatter_S1x128_S2_S8_0_0_01_0.window (ix1 k) 1 = k.val := rfl
  rw [w0, w1, Fin.ext_iff]
  show (0 : Int) + ((0 : ℕ) : Int) = ((0 : ℕ) : Int) ∧ (88 : Int) + (k.val : Int) = ((88 + n.val : ℕ) : Int) ↔ k.val = n.val
  omega

/-- A row of eight, put at column 88 of a row of 128, is read back there. -/
theorem put_at (x : FVec Ideal S1x128 .f32) (idx : IVec S2 32) (h0 : (idx (ix1 0)).toInt = 0) (h1 : (idx (ix1 1)).toInt = 88) (u : FVec Ideal S8 .f32) (n : Fin 8) :
    Host.scatter scatter_S1x128_S2_S8_0_0_01_0 (fun _ b => b) x idx u (ix2 0 ⟨88 + n.val, by omega⟩) = u (ix1 n) := by
  refine Routing.scatter_set_hit scatter_S1x128_S2_S8_0_0_01_0 x idx u _ _ (fun k hk => ?_) (ix1 n) ((lands idx h0 h1 n n).2 rfl)
  obtain ⟨q, rfl⟩ : ∃ q : Fin 8, k = ix1 q := ⟨k 0, by funext i; fin_cases i; rfl⟩
  rw [(lands idx h0 h1 q n).1 hk]

/-- The decay's logarithms lie at column 88 of their row. -/
theorem al_at (c : Dev nD) (t : Fin cfg0.N) (n : Fin 8) : iblk m c 4 t (ix2 0 ⟨88 + n.val, by omega⟩) = A3 m c (ix1 n) := by
  have hi : (win0_4.blk t).view.emb (ix2 0 ⟨88 + n.val, by omega⟩) = ix2 0 ⟨88 + n.val, by omega⟩ := by
    blk_ext [place t]
  show V m c main_v4 ((win0_4.blk t).view.emb (ix2 0 ⟨88 + n.val, by omega⟩)) = _
  rw [hi]
  unfold V
  after_results
  exact put_at _ _ rfl rfl _ n

/-- The step's offsets lie at column 88 of their row. -/
theorem db_at (c : Dev nD) (t : Fin cfg0.N) (n : Fin 8) : iblk m c 5 t (ix2 0 ⟨88 + n.val, by omega⟩) = A4 m c (ix1 n) := by
  have hi : (win0_5.blk t).view.emb (ix2 0 ⟨88 + n.val, by omega⟩) = ix2 0 ⟨88 + n.val, by omega⟩ := by
    blk_ext [place t]
  show V m c main_v9 ((win0_5.blk t).view.emb (ix2 0 ⟨88 + n.val, by omega⟩)) = _
  rw [hi]
  unfold V
  after_results
  exact put_at _ _ rfl rfl _ n

/-- The logarithms of the decay's rates, per row and column of the narrow projection: the rate times the softplus of the step. -/
def decay (sm : FVec Ideal S1x256x128 .f32) (al db : FVec Ideal S1x128 .f32) : FVec Ideal S256x128 .f32 :=
  mulf (broadcastTo S256x128 (subf (broadcast S1x128 (Scalar.ofBits .f32 0x00000000#32)) (exp (shapeCast S1x128 al shapeCasts_S1x128_S1x128))) broadcasts_S1x128_S256x128)
    (addf (k0_pay38 sm db) (log (addf (broadcast S256x128 (Scalar.ofBits .f32 0x3F800000#32)) (k0_pay39 sm db))))

/-- Ones where the second position is in the first one's chunk and not after it. -/
def within : FVec Ideal S256x256 .f32 :=
  select (andi (cmpi .eq (shrsi (iota .tc S256x256 32 [0] iota_S256x256_d0_w32) (broadcast S256x256 6#32)) (shrsi (iota .tc S256x256 32 [1] iota_S256x256_d1_w32) (broadcast S256x256 6#32)))
      (cmpi .sle (iota .tc S256x256 32 [1] iota_S256x256_d1_w32) (iota .tc S256x256 32 [0] iota_S256x256_d0_w32)))
    (broadcast S256x256 (Scalar.ofBits .f32 0x3F800000#32)) (broadcast S256x256 (Scalar.ofBits .f32 0x00000000#32))

/-- Point `t`'s sums of the decay's steps. -/
def summed (c : Dev nD) (t : Fin cfg0.N) : FVec Ideal S256x128 .f32 :=
  k0_pay78 (F := Ideal) (grid0.coords t) (iblk m c 0 t) (iblk m c 1 t) (iblk m c 2 t) (iblk m c 3 t) (iblk m c 4 t) (iblk m c 5 t)

/-- Point `t`'s logistics of the narrow projection. -/
def logistic (c : Dev nD) (t : Fin cfg0.N) : FVec Ideal S256x128 .f32 :=
  k0_pay79 (F := Ideal) (grid0.coords t) (iblk m c 0 t) (iblk m c 1 t) (iblk m c 2 t) (iblk m c 3 t) (iblk m c 4 t) (iblk m c 5 t)

/-- The sums are a product with the mask. -/
theorem summed_eq (c : Dev nD) (t : Fin cfg0.N) :
    summed m c t = matmul dot_S256x256_S256x128_S256x128_1_0_0_1_n_n (some .fp32) within
      (decay (View.ld (iblk m c 2 t) r0_15) (View.ld (iblk m c 4 t) r0_16) (View.ld (iblk m c 5 t) r0_16)) (constant S256x128 .f32 0x00000000#32) :=
  rfl

/-- A word shifted right by six is its position's chunk. -/
theorem chunk_word : ∀ r : Fin 256, IntOp.shrsi .vector (BitVec.ofNat 32 r.val) 6#32 = BitVec.ofNat 32 (r.val / 64) := by decide +kernel

/-- A small position's word, read signed. -/
theorem small_word : ∀ r : Fin 256, (BitVec.ofNat 32 r.val).toInt = (r.val : Int) := by decide +kernel

/-- A choice by two words' order. -/
theorem choose_le {α : Type} (r k : Fin 256) (a b : α) :
    Scalar.select (IntOp.cmpi .sle (BitVec.ofNat 32 k.val) (BitVec.ofNat 32 r.val)) a b = if k.val ≤ r.val then a else b := by
  have q : (BitVec.ofNat 32 k.val).sle (BitVec.ofNat 32 r.val) = decide (k.val ≤ r.val) := by
    unfold BitVec.sle
    rw [small_word, small_word]
    exact decide_eq_decide.2 Int.ofNat_le
  simp only [Scalar.select, IntOp.cmpi, q]
  by_cases h : k.val ≤ r.val <;> simp [h]

/-- A choice by two conditions is a choice within a choice. -/
theorem choose_and {α : Type} (p q : BitVec 1) (a b : α) :
    Scalar.select (IntOp.andi p q) a b = Scalar.select p (Scalar.select q a b) b := by
  have one : ∀ x : BitVec 1, x = 0 ∨ x = 1 := by decide
  rcases one p with rfl | rfl <;> rcases one q with rfl | rfl <;> rfl

/-- Two chunks' words are the same when the chunks are. -/
theorem same_chunk : ∀ a b : Fin 4, BitVec.ofNat 32 a.val = BitVec.ofNat 32 b.val ↔ a.val = b.val := by decide +kernel

/-- The mask's entries. -/
theorem within_at (r k : Fin 256) : within (ix2 r k) = if r.val / 64 = k.val / 64 ∧ k.val ≤ r.val then 1 else 0 := by
  unfold within
  pointwise
  rw [chunk_word, chunk_word, choose_and, choose_eq, choose_le, ite_and]
  simp only [same_chunk ⟨r.val / 64, by omega⟩ ⟨k.val / 64, by omega⟩]

/-- The decay's step at a row is the reference's. -/
theorem decay_at (c : Dev nD) (t : Fin cfg0.N) (r : Fin 256) (n : Fin 8) :
    decay (View.ld (iblk m c 2 t) r0_15) (View.ld (iblk m c 4 t) r0_16) (View.ld (iblk m c 5 t) r0_16) (ix2 r ⟨88 + n.val, by omega⟩)
      = Cert.GdnRefIdeal.Read.val_main_v81 (F := Ideal) (A1 m c) (A3 m c) (A4 m c) (ix3 (bat t) (row t r) n) := by
  unfold decay
  pointwise [k0_pay38, k0_pay39, k0_pay37, k0_pay36, Cert.GdnRefIdeal.Read.val_main_v81, Cert.GdnRefIdeal.Read.val_main_v80, Cert.GdnRefIdeal.Read.val_main_v79, Cert.GdnRefIdeal.Read.val_main_v78, Cert.GdnRefIdeal.Read.val_main_v77, Cert.GdnRefIdeal.Read.val_main_v76, Cert.GdnRefIdeal.Read.val_main_v75, Cert.GdnRefIdeal.Read.val_main_v74, Cert.GdnRefIdeal.Read.val_main_v73, Cert.GdnRefIdeal.Read.val_main_v72, Cert.GdnRefIdeal.Read.val_main_v71, Cert.GdnRefIdeal.Read.val_main_v70, Cert.GdnRefIdeal.Read.val_main_v69, Cert.GdnRefIdeal.Read.val_main_v68, Cert.GdnRefIdeal.Read.val_main_v67, Cert.GdnRefIdeal.Read.val_main_v66, Cert.GdnRefIdeal.Read.val_main_v65, Cert.GdnRefIdeal.Read.val_main_v64, Cert.GdnRefIdeal.Read.val_main_cst_7, Cert.GdnRefIdeal.Read.val_main_cst_8]
  simp only [al_at, db_at, sm_at, zero_sub]

/-- The reference's triangle of ones. -/
theorem triangle_at (i j : Fin 64) : Cert.GdnRefIdeal.Read.val_main_v83 (F := Ideal) (ix2 i j) = if j.val ≤ i.val then 1 else 0 := by
  pointwise [Cert.GdnRefIdeal.Read.val_main_v83, Cert.GdnRefIdeal.Read.val_main_v82, Cert.GdnRefIdeal.Read.val_main_cst_9, Cert.GdnRefIdeal.Read.val_main_call2_v0, Cert.GdnRefIdeal.Read.val_main_call2_v1, Cert.GdnRefIdeal.Read.val_main_call2_v2, Cert.GdnRefIdeal.Read.val_main_call2_v3, Cert.GdnRefIdeal.Read.val_main_call2_v4, Cert.GdnRefIdeal.Read.val_main_call2_v5, Cert.GdnRefIdeal.Read.val_main_call2_c, Cert.GdnRefIdeal.Read.val_main_call2_cst]
  rw [show IntOp.addi (BitVec.ofNat 32 i.val) 0#32 = BitVec.ofNat 32 i.val from BitVec.add_zero _]
  exact choose_le ⟨i.val, by omega⟩ ⟨j.val, by omega⟩ 1 0

/-- The reference's sums within a chunk. -/
theorem ref_sum (x1 x3 x4) (b : Fin 8) (q : Fin 64) (n : Fin 8) (i : Fin 64) :
    Cert.GdnRefIdeal.Read.val_main_v85 (F := Ideal) x1 x3 x4 (ix4 b q n i)
      = ∑ j : Fin 64, (if j.val ≤ i.val then 1 else 0) * Cert.GdnRefIdeal.Read.val_main_v81 (F := Ideal) x1 x3 x4 (ix3 b ⟨q.val * 64 + j.val, by omega⟩ n) := by
  rw [Cert.GdnRefIdeal.Read.val_main_v85_apply]
  refine Finset.sum_congr rfl fun j _ => ?_
  have hl : Cert.GdnRefIdeal.Read.lidx_main_v85 (ix4 b q n i) j = ix4 b q j n := by funext a; fin_cases a <;> rfl
  have hr : Cert.GdnRefIdeal.Read.ridx_main_v85 (ix4 b q n i) j = ix2 i j := by funext a; fin_cases a <;> rfl
  have h4 : Cert.GdnRefIdeal.Read.val_main_v84 (F := Ideal) x1 x3 x4 (ix4 b q j n) = Cert.GdnRefIdeal.Read.val_main_v81 (F := Ideal) x1 x3 x4 (ix3 b ⟨q.val * 64 + j.val, by omega⟩ n) := by
    pointwise [Cert.GdnRefIdeal.Read.val_main_v84]
  rw [hl, hr, triangle_at, h4, mul_comm]

/-- The chunk of a tile's row. -/
def chunk (t : Fin cfg0.N) (q : Fin 4) : Fin 64 := ⟨t.val % 16 * 4 + q.val, by omega⟩

/-- The sums of a tile are the reference's: a row takes part in its own chunk's alone. -/
theorem summed_at (c : Dev nD) (t : Fin cfg0.N) (q : Fin 4) (i : Fin 64) (n : Fin 8) :
    summed m c t (ix2 ⟨q.val * 64 + i.val, by omega⟩ ⟨88 + n.val, by omega⟩)
      = Cert.GdnRefIdeal.Read.val_main_v85 (F := Ideal) (A1 m c) (A3 m c) (A4 m c) (ix4 (bat t) (chunk t q) n i) := by
  rw [summed_eq, ref_sum]
  generalize hd : decay (View.ld (iblk m c 2 t) r0_15) (View.ld (iblk m c 4 t) r0_16) (View.ld (iblk m c 5 t) r0_16) = D
  generalize hw : within = W
  pointwise
  subst hw hd
  refine (Fintype.sum_of_injective (fun j : Fin 64 => (⟨q.val * 64 + j.val, by omega⟩ : Fin 256)) ?_ _ _ ?_ ?_).symm
  · intro a b h
    have h' : q.val * 64 + a.val = q.val * 64 + b.val := congrArg Fin.val h
    exact Fin.ext (by omega)
  · intro k hk
    rw [within_at, if_neg, zero_mul]
    rintro ⟨h, -⟩
    have h' : (q.val * 64 + i.val) / 64 = k.val / 64 := h
    exact hk ⟨⟨k.val % 64, by omega⟩, Fin.ext (by show q.val * 64 + k.val % 64 = k.val; omega)⟩
  · intro j
    rw [within_at, decay_at]
    have hp : (⟨(chunk t q).val * 64 + j.val, by omega⟩ : Fin 4096) = row t ⟨q.val * 64 + j.val, by omega⟩ :=
      Fin.ext (by unfold chunk row; show (t.val % 16 * 4 + q.val) * 64 + j.val = t.val % 16 * 256 + (q.val * 64 + j.val); omega)
    rw [hp]
    congr 1
    refine if_congr ?_ rfl rfl
    show j.val ≤ i.val ↔ (q.val * 64 + i.val) / 64 = (q.val * 64 + j.val) / 64 ∧ q.val * 64 + j.val ≤ q.val * 64 + i.val
    omega

/-- The logistics of a tile are the reference's. -/
theorem logistic_at (c : Dev nD) (t : Fin cfg0.N) (r : Fin 256) (n : Fin 8) :
    logistic m c t (ix2 r ⟨80 + n.val, by omega⟩) = Cert.GdnRefIdeal.Read.val_main_v63 (F := Ideal) (A1 m c) (ix3 (bat t) (row t r) n) := by
  have h : logistic m c t = k0_pay41 (k0_pay36 (View.ld (iblk m c 2 t) r0_15)) := rfl
  rw [h]
  pointwise [k0_pay41, k0_pay36, Cert.GdnRefIdeal.Read.val_main_v63, Cert.GdnRefIdeal.Read.val_main_v62, Cert.GdnRefIdeal.Read.val_main_v61, Cert.GdnRefIdeal.Read.val_main_v60, Cert.GdnRefIdeal.Read.val_main_v59, Cert.GdnRefIdeal.Read.val_main_v58, Cert.GdnRefIdeal.Read.val_main_v57, Cert.GdnRefIdeal.Read.val_main_cst_5, Cert.GdnRefIdeal.Read.val_main_cst_6]
  simp only [sm_at, zero_sub]

/-- The gates' columns lie inside the narrow projection. -/
theorem g_fits : ∀ n : Fin 8, S256x128.Slices ![0, 88 + n.val] S256x1 := by decide

/-- The logistics' columns lie inside the narrow projection. -/
theorem b_fits : ∀ n : Fin 8, S256x128.Slices ![0, 80 + n.val] S256x1 := by decide

/-- A column repeated across a head. -/
def lane (o : ℕ) (h : S256x128.Slices ![0, o] S256x1) (Z : FVec Ideal S256x128 .f32) : FVec Ideal S1x256x128 .f32 :=
  shapeCast S1x256x128 (broadcastTo S256x128 (shapeCast S256x1 (extractStridedSlice S256x1 ![0, o] Z h) shapeCasts_S256x1_S256x1) broadcasts_S256x1_S256x128)
    shapeCasts_S256x128_S1x256x128

/-- A repeated column's entries. -/
theorem lane_at (o : ℕ) (ho : o < 128) (h : S256x128.Slices ![0, o] S256x1) (Z : FVec Ideal S256x128 .f32) (r : Fin 256) (l : Fin 128) :
    lane o h Z (ix3 0 r l) = Z (ix2 r ⟨o, ho⟩) := by
  unfold lane
  pointwise

/-- The block of sums after point `t`. -/
theorem left9 (c : Dev nD) (t : Fin cfg0.N) : (dats m 0 c).after 9 t = columns fun n => lane (88 + n.val) (g_fits n) (summed m c t) :=
  (after0_9 m c t).trans rfl

/-- The block of logistics after point `t`. -/
theorem left10 (c : Dev nD) (t : Fin cfg0.N) : (dats m 0 c).after 10 t = columns fun n => lane (80 + n.val) (b_fits n) (logistic m c t) :=
  (after0_10 m c t).trans rfl

/-- Every row of a tile is a row of one of its four chunks. -/
theorem in_chunk (r : Fin 256) : ∃ (q : Fin 4) (i : Fin 64), r = ⟨q.val * 64 + i.val, by omega⟩ :=
  ⟨⟨r.val / 64, by omega⟩, ⟨r.val % 64, by omega⟩, Fin.ext (by show r.val = r.val / 64 * 64 + r.val % 64; omega)⟩

/-- The reference's sums, repeated across their heads. -/
theorem ref_lane (x1 x3 x4) (b : Fin 8) (t : Fin cfg0.N) (q : Fin 4) (i : Fin 64) (n : Fin 8) (l : Fin 128) :
    Cert.GdnRefIdeal.Read.val_main_v94 (F := Ideal) x1 x3 x4 (ix3 b (row t ⟨q.val * 64 + i.val, by omega⟩) ⟨n.val * 128 + l.val, by omega⟩)
      = Cert.GdnRefIdeal.Read.val_main_v85 (F := Ideal) x1 x3 x4 (ix4 b (chunk t q) n i) := by
  have hp : row t ⟨q.val * 64 + i.val, by omega⟩ = ⟨(chunk t q).val * 64 + i.val, by omega⟩ :=
    Fin.ext (by unfold chunk row; show t.val % 16 * 256 + (q.val * 64 + i.val) = (t.val % 16 * 4 + q.val) * 64 + i.val; omega)
  rw [hp]
  pointwise [Cert.GdnRefIdeal.Read.val_main_v94, Cert.GdnRefIdeal.Read.val_main_v88, Cert.GdnRefIdeal.Read.val_main_v87, Cert.GdnRefIdeal.Read.val_main_v86]

/-- The sums after the run, repeated across their heads, are the reference's. -/
theorem final9 (c : Dev nD) : (dats m 0 c).arrAt 9 cfg0.N = Cert.GdnRefIdeal.Read.val_main_v94 (F := Ideal) (A1 m c) (A3 m c) (A4 m c) := by
  refine (dats m 0 c).arrAt_eq_of_covers 9 _ (by decide +kernel) fun t _ y => ?_
  blk_simp
  obtain ⟨r, j, rfl⟩ : ∃ (r : Fin 256) (j : Fin 1024), y = ix3 0 r j := ⟨y 1, y 2, by funext i; fin_cases i <;> first | rfl | exact Subsingleton.elim (α := Fin 1) _ _⟩
  obtain ⟨n, l, rfl⟩ := in_head j
  obtain ⟨q, i, rfl⟩ := in_chunk r
  have hi : ((win0_9.blk t).view.emb (ix3 0 ⟨q.val * 64 + i.val, by omega⟩ ⟨n.val * 128 + l.val, by omega⟩)) = ix3 (bat t) (row t ⟨q.val * 64 + i.val, by omega⟩) ⟨n.val * 128 + l.val, by omega⟩ := by
    unfold row bat
    blk_ext [place t]
  rw [left9, hi, columns_at, lane_at _ (by omega), summed_at, ref_lane]

/-- The logistics after the run, repeated across their heads, are the reference's. -/
theorem final10 (c : Dev nD) : (dats m 0 c).arrAt 10 cfg0.N = Cert.GdnRefIdeal.Read.val_main_v95 (F := Ideal) (A1 m c) := by
  refine (dats m 0 c).arrAt_eq_of_covers 10 _ (by decide +kernel) fun t _ y => ?_
  blk_simp
  obtain ⟨r, j, rfl⟩ : ∃ (r : Fin 256) (j : Fin 1024), y = ix3 0 r j := ⟨y 1, y 2, by funext i; fin_cases i <;> first | rfl | exact Subsingleton.elim (α := Fin 1) _ _⟩
  obtain ⟨n, l, rfl⟩ := in_head j
  have hi : ((win0_10.blk t).view.emb (ix3 0 r ⟨n.val * 128 + l.val, by omega⟩)) = ix3 (bat t) (row t r) ⟨n.val * 128 + l.val, by omega⟩ := by
    unfold row bat
    blk_ext [place t]
  have hv : Cert.GdnRefIdeal.Read.val_main_v95 (F := Ideal) (A1 m c) (ix3 (bat t) (row t r) ⟨n.val * 128 + l.val, by omega⟩) = Cert.GdnRefIdeal.Read.val_main_v63 (F := Ideal) (A1 m c) (ix3 (bat t) (row t r) n) := by
    pointwise [Cert.GdnRefIdeal.Read.val_main_v95, Cert.GdnRefIdeal.Read.val_main_v90, Cert.GdnRefIdeal.Read.val_main_v89]
  rw [left10, hi, columns_at, lane_at _ (by omega), logistic_at, hv]

/-- Every chunk's sums lie inside the transposed tile. -/
theorem s_fits : ∀ q : Fin 4, S128x256.Slices ![88, q.val * 64] S8x64 := by decide

/-- A chunk's sums, a head to a row. -/
def piece (Z : FVec Ideal S256x128 .f32) (q : Fin 4) : FVec Ideal S1x1x8x64 .f32 :=
  shapeCast S1x1x8x64 (extractStridedSlice S8x64 ![88, q.val * 64] (transpose S128x256 [1, 0] Z transposes_S256x128_p1_0_S128x256) (s_fits q)) shapeCasts_S8x64_S1x1x8x64

/-- One entry of a chunk's sums. -/
theorem piece_at (Z : FVec Ideal S256x128 .f32) (q : Fin 4) (n : Fin 8) (i : Fin 64) :
    piece Z q (ix4 0 0 n i) = Z (ix2 ⟨q.val * 64 + i.val, by omega⟩ ⟨88 + n.val, by omega⟩) := by
  unfold piece
  pointwise

/-- A stored chunk, at an entry of one chunk: the two are the same and the entry is its own. -/
theorem tile_piece (Z : FVec Ideal S256x128 .f32) (q : Fin 4) (n : Fin 8) (i : Fin 64) (k : Fin 4) :
    View.TileAt (Val := Elt Ideal) (e := .f32) (S := S1x4x8x64) (ix4 0 q n i) ![0, k.val, 0, 0] ![1, 1, 8, 64] (piece Z k) (piece Z q (ix4 0 0 n i)) := by
  intro x hx
  obtain ⟨a, d, rfl⟩ : ∃ (a : Fin 8) (d : Fin 64), x = ix4 0 0 a d := ⟨x 2, x 3, by funext i; fin_cases i <;> first | rfl | exact Subsingleton.elim (α := Fin 1) _ _⟩
  have h1 : q.val = k.val + 0 := hx 1
  have h2 : n.val = 0 + a.val := hx 2
  have h3 : i.val = 0 + d.val := hx 3
  obtain rfl : q = k := Fin.ext (by omega)
  obtain rfl : n = a := Fin.ext (by omega)
  obtain rfl : i = d := Fin.ext (by omega)
  rfl

/-- The block of chunks after point `t`. -/
theorem left11 (c : Dev nD) (t : Fin cfg0.N) (q : Fin 4) (n : Fin 8) (i : Fin 64) :
    (dats m 0 c).after 11 t (ix4 0 q n i) = piece (summed m c t) q (ix4 0 0 n i) := by
  have h : (dats m 0 c).after 11 t = View.canon (Val := Elt Ideal) (e := .f32) [⟨r0_20, piece (summed m c t) 3⟩, ⟨r0_19, piece (summed m c t) 2⟩, ⟨r0_18, piece (summed m c t) 1⟩, ⟨r0_17, piece (summed m c t) 0⟩] :=
    (after0_11 m c t).trans rfl
  rw [h]
  refine View.canon_eq_of_allAt _ _ _ (cover0_11 (F := Ideal) _ _ _ _ _) ?_
  refine View.allAt_cons_unit _ _ _ _ _ (tile_piece _ q n i 3) (View.allAt_cons_unit _ _ _ _ _ (tile_piece _ q n i 2) ?_)
  exact View.allAt_cons_unit _ _ _ _ _ (tile_piece _ q n i 1) (View.allAt_cons_unit _ _ _ _ _ (tile_piece _ q n i 0) (View.allAt_nil _ _))

/-- The sums after the run, a chunk and a head to a row, are the reference's. -/
theorem final11 (c : Dev nD) : (dats m 0 c).arrAt 11 cfg0.N = Cert.GdnRefIdeal.Read.val_main_v96 (F := Ideal) (A1 m c) (A3 m c) (A4 m c) := by
  refine (dats m 0 c).arrAt_eq_of_covers 11 _ (by decide +kernel) fun t _ y => ?_
  blk_simp
  obtain ⟨q, n, i, rfl⟩ : ∃ (q : Fin 4) (n : Fin 8) (i : Fin 64), y = ix4 0 q n i := ⟨y 1, y 2, y 3, by funext i; fin_cases i <;> first | rfl | exact Subsingleton.elim (α := Fin 1) _ _⟩
  have hi : ((win0_11.blk t).view.emb (ix4 0 q n i)) = ix4 (bat t) (chunk t q) n i := by
    unfold chunk bat
    blk_ext [place t]
  have hv : Cert.GdnRefIdeal.Read.val_main_v96 (F := Ideal) (A1 m c) (A3 m c) (A4 m c) (ix4 (bat t) (chunk t q) n i) = Cert.GdnRefIdeal.Read.val_main_v85 (F := Ideal) (A1 m c) (A3 m c) (A4 m c) (ix4 (bat t) (chunk t q) n i) := by
    pointwise [Cert.GdnRefIdeal.Read.val_main_v96, Cert.GdnRefIdeal.Read.val_main_v86]
  rw [left11, hi, piece_at, summed_at, hv]

end Cert.GdnIdeal.Hand

end
-- ==== Proof.BiasBucket.lean ====
/- The relative position bias: the bucket of a distance, as the kernel and the reference both compute it. -/
module

public import Idealize.ShloMosaic.PureOps.Ideal
public import Idealize.ShloMosaic.Lib.Pointwise
public import Mathlib.Analysis.SpecialFunctions.Log.Basic

@[expose] public section

noncomputable section

namespace Cert.Bias.Hand

open Idealize.ShloMosaic

/-- The part of a distance of at least sixteen that grows with its logarithm. -/
def logPart (d : BitVec 32) : EReal :=
  Ideal.div (Ideal.log (Ideal.div ((((IntOp.maxsi d 1#32).toInt : ℝ)) : EReal) (Ideal.ofBits .f32 0x41800000#32)))
    (Ideal.ofBits .f32 0x40051592#32) * Ideal.ofBits .f32 0x41800000#32

/-- The bucket of a distance: itself under sixteen, then growing with the logarithm, at most 31. -/
def bucketWord (d : BitVec 32) : BitVec 32 :=
  Scalar.select (IntOp.cmpi .slt d 16#32) d (IntOp.minsi (IntOp.addi 16#32 (Ideal.fptosi 32 (logPart d))) 31#32)

theorem sixteen : Ideal.ofBits .f32 0x41800000#32 = ((16 : ℝ) : EReal) := by
  simp [Ideal.ofBits, Ideal.ieee, -EReal.coe_mul]; norm_num

/-- The float nearest to the logarithm of eight. -/
theorem log_eight : Ideal.ofBits .f32 0x40051592#32 = ((4360905 / 2097152 : ℝ) : EReal) := by
  simp [Ideal.ofBits, Ideal.ieee, -EReal.coe_mul]; norm_num

theorem max_one (d : ℕ) (h : 16 ≤ d) (h' : d < 1024) : (IntOp.maxsi (BitVec.ofNat 32 d) 1#32).toInt = (d : ℤ) := by
  have e : (BitVec.ofNat 32 d).toInt = (d : ℤ) := by
    rw [BitVec.toInt_eq_toNat_of_lt (by simp; omega)]; simp; omega
  simp only [IntOp.maxsi]
  split
  · exact e
  · rename_i h2
    simp [BitVec.slt, BitVec.sle, e] at h2
    omega

theorem logPart_eq (d : ℕ) (h : 16 ≤ d) (h' : d < 1024) :
    logPart (BitVec.ofNat 32 d) = ((Real.log (d / 16) / (4360905 / 2097152) * 16 : ℝ) : EReal) := by
  have hp : (0 : ℝ) < (d : ℝ) / 16 := by
    have : (16 : ℝ) ≤ d := by exact_mod_cast h
    positivity
  unfold logPart
  rw [max_one d h h', sixteen, log_eight, Ideal.div_coe (by norm_num), Ideal.div_coe (by norm_num), ← EReal.coe_mul]
  have e : ((((d : ℤ) : ℝ) * (1 / 16) : ℝ)) = (d : ℝ) / 16 := by push_cast; ring
  rw [e]
  have l : Ideal.log (((d : ℝ) / 16 : ℝ) : EReal) = ((Real.log (d / 16) : ℝ) : EReal) := by
    show (if (d : ℝ) / 16 ≤ 0 then (⊥ : EReal) else _) = _
    rw [if_neg (not_le.mpr hp)]
  rw [l, ← EReal.coe_mul, ← EReal.coe_mul]
  congr 1
  ring

theorem log_two_lower : 2 / 3 ≤ Real.log 2 := by
  have h : Real.log (((21 : ℝ) / 20) ^ 14) ≤ Real.log 2 := Real.log_le_log (by norm_num) (by norm_num)
  have h' : 1 - ((21 : ℝ) / 20)⁻¹ ≤ Real.log ((21 : ℝ) / 20) := Real.one_sub_inv_le_log_of_pos (by norm_num)
  rw [Real.log_pow] at h
  norm_num at h h'
  linarith

theorem log_two_upper : Real.log 2 ≤ 1 := by
  have h := Real.log_le_sub_one_of_pos (show (0 : ℝ) < 2 by norm_num)
  linarith

/-- The logarithmic part, cut to a whole number, is a small natural one. -/
theorem cut (d : ℕ) (h : 16 ≤ d) (h' : d < 1024) :
    ∃ n : ℕ, n < 64 ∧ (128 ≤ d → 15 ≤ n) ∧ Ideal.fptosi 32 (logPart (BitVec.ofNat 32 d)) = BitVec.ofNat 32 n := by
  set r : ℝ := Real.log (d / 16) / (4360905 / 2097152) * 16 with hr
  have h16 : (16 : ℝ) ≤ d := by exact_mod_cast h
  have h1024 : (d : ℝ) < 1024 := by exact_mod_cast h'
  have l0 : 0 ≤ Real.log ((d : ℝ) / 16) := Real.log_nonneg (by linarith)
  have two := log_two_lower
  have two' := log_two_upper
  have l64 : Real.log ((d : ℝ) / 16) ≤ 6 * Real.log 2 := by
    have : Real.log ((2 : ℝ) ^ 6) = 6 * Real.log 2 := by rw [Real.log_pow]; norm_num
    rw [← this]
    exact Real.log_le_log (by positivity) (by norm_num; linarith)
  have r0 : 0 ≤ r := by positivity
  have r64 : r < 64 := by rw [hr]; norm_num; linarith
  have f0 : 0 ≤ ⌊r⌋ := Int.floor_nonneg.mpr r0
  have f64 : ⌊r⌋ < 64 := Int.floor_lt.mpr (by exact_mod_cast r64)
  refine ⟨⌊r⌋.toNat, by omega, fun hd => ?_, ?_⟩
  · have h128 : (128 : ℝ) ≤ d := by exact_mod_cast hd
    have l8 : 3 * Real.log 2 ≤ Real.log ((d : ℝ) / 16) := by
      have : Real.log ((2 : ℝ) ^ 3) = 3 * Real.log 2 := by rw [Real.log_pow]; norm_num
      rw [← this]
      exact Real.log_le_log (by positivity) (by norm_num; linarith)
    have : (15 : ℤ) ≤ ⌊r⌋ := Int.le_floor.mpr (by rw [hr]; push_cast; norm_num; linarith)
    omega
  · rw [logPart_eq d h h', ← hr]
    show BitVec.ofInt 32 (Ideal.toIntClamped _ _ _) = _
    rw [Ideal.toIntClamped_coe, if_pos r0]
    have : max (-((2 ^ (32 - 1) : ℕ) : ℤ)) (min (((2 ^ (32 - 1) : ℕ) : ℤ) - 1) ⌊r⌋) = ⌊r⌋ := by
      norm_num
      omega
    rw [this]
    obtain ⟨n, hn⟩ := Int.eq_ofNat_of_zero_le f0
    rw [hn]
    simp

theorem bucket_small : ∀ d : Fin 16, IntOp.cmpi .slt (BitVec.ofNat 32 d.val) 16#32 = 1#1 := by decide +kernel

theorem bucket_large : ∀ d : Fin 1024, 16 ≤ d.val → IntOp.cmpi .slt (BitVec.ofNat 32 d.val) 16#32 = 0#1 := by decide +kernel

theorem capped : ∀ n : Fin 64, (IntOp.minsi (IntOp.addi 16#32 (BitVec.ofNat 32 n.val)) 31#32).toNat = min (16 + n.val) 31 := by decide +kernel

/-- The bucket of a distance as a number. -/
def bucket (d : ℕ) : ℕ := (bucketWord (BitVec.ofNat 32 d)).toNat

theorem bucket_lt (d : ℕ) (h : d < 1024) : bucket d < 32 := by
  unfold bucket bucketWord
  by_cases h16 : d < 16
  · rw [bucket_small ⟨d, h16⟩]
    show (BitVec.ofNat 32 d).toNat < 32
    simp
    omega
  · rw [bucket_large ⟨d, h⟩ (by simpa using h16)]
    obtain ⟨n, hn, _, e⟩ := cut d (by omega) h
    show (IntOp.minsi (IntOp.addi 16#32 (Ideal.fptosi 32 (logPart (BitVec.ofNat 32 d)))) 31#32).toNat < 32
    rw [e, capped ⟨n, hn⟩]
    omega

/-- From a distance of 128 on it is the last bucket. -/
theorem bucket_far (d : ℕ) (h : d < 1024) (h128 : 128 ≤ d) : bucket d = 31 := by
  unfold bucket bucketWord
  rw [bucket_large ⟨d, h⟩ (by simp; omega)]
  obtain ⟨n, hn, n15, e⟩ := cut d (by omega) h
  show (IntOp.minsi (IntOp.addi 16#32 (Ideal.fptosi 32 (logPart (BitVec.ofNat 32 d)))) 31#32).toNat = 31
  rw [e, capped ⟨n, hn⟩]
  have := n15 h128
  show min (16 + n) 31 = 31
  omega

end Cert.Bias.Hand

end
-- ==== Proof.BiasRef.lean ====
/- The relative position bias: an entry of the reference's result. -/
module

public import proofs.«01_k».proof.Proof.BiasBucket
public import proofs.«01_k».proof.Proof.Gen.BiasRefIdeal.Read
public import Idealize.ShloMosaic.Lib.Pointwise

@[expose] public section

set_option maxRecDepth 16384

noncomputable section

namespace Cert.Bias.Hand

open Cert.BiasRefIdeal Cert.BiasRefIdeal.Read Idealize.ShloMosaic Idealize.ShloMosaic.TcCoe

/-- The bias of a query `p * 512 + b` places along and a key `a` places along, of the table's column `x`:
    the bucket's entry less the last one, in base-two logarithm units, and zero in a tile of later keys. -/
def bias (x : ℕ → EReal) (p a b : ℕ) : EReal :=
  if p * 4 + b / 128 < a / 128 then 0 else (x (bucket (p * 512 + b - a)) - x 31) * Ideal.ofBits .f32 0x3FB8AA3B#32

/-- A head's column of the table. -/
def column (x0 : (⟨S32x8, .f32⟩ : BufTy).Contents (Elt Ideal)) (h : Fin 8) (n : ℕ) : EReal :=
  if hn : n < 32 then x0 (ix2 ⟨n, hn⟩ h) else 0

/-- A choice by the equality of two words. -/
theorem select_eq (u v : BitVec 32) (x y : EReal) : Scalar.select (IntOp.cmpi .eq u v) x y = if u = v then x else y := by
  by_cases h : u = v
  · simp [IntOp.cmpi, Scalar.select, h]
  · have : (u == v) = false := by simpa using h
    simp [IntOp.cmpi, Scalar.select, h, this]

/-- The larger of a difference of small words and zero is the word of the natural difference. -/
theorem dist_word (s a : ℕ) (hs : s < 2048) (ha : a < 1024) :
    IntOp.maxsi (IntOp.subi (BitVec.ofNat 32 s) (BitVec.ofNat 32 a)) 0#32 = BitVec.ofNat 32 (s - a) := by
  have e : (IntOp.subi (BitVec.ofNat 32 s) (BitVec.ofNat 32 a)).toInt = (s : ℤ) - a := by
    simp only [IntOp.subi, BitVec.toInt_eq_toNat_cond, BitVec.toNat_sub, BitVec.toNat_ofNat]
    split <;> omega
  have e' : (BitVec.ofNat 32 (s - a)).toInt = ((s - a : ℕ) : ℤ) := by
    simp only [BitVec.toInt_eq_toNat_cond, BitVec.toNat_ofNat]
    split <;> omega
  refine BitVec.eq_of_toInt_eq ?_
  rw [e']
  simp only [IntOp.maxsi]
  split <;> rename_i h <;> simp [BitVec.slt, BitVec.sle, e] at h ⊢ <;> omega

theorem ref_dist (p : Fin 2) (a b : Fin 512) :
    val_main_v14 (F := Ideal) (ix3 p a b) = BitVec.ofNat 32 (p.val * 512 + b.val - a.val) := by
  pointwise [val_main_v14, val_main_v13, val_main_v12, val_main_v11, val_main_v10, val_main_v9, val_main_v8, val_main_v7, val_main_v6, val_main_v5, val_main_v4, val_main_v3, val_main_v2, val_main_v1, val_main_v0, val_main_c, val_main_c_0]
  have hp := p.isLt
  have e : IntOp.addi (IntOp.muli (BitVec.ofNat 32 p.val) 512#32) (BitVec.ofNat 32 b.val) = BitVec.ofNat 32 (p.val * 512 + b.val) := by
    rw [BitVec.ofNat_add, BitVec.ofNat_mul]
    rfl
  rw [e]
  exact dist_word _ _ (by omega) (by omega)

theorem ref_bucket (p : Fin 2) (a b : Fin 512) :
    val_main_v32 (F := Ideal) (ix3 p a b) = bucketWord (val_main_v14 (F := Ideal) (ix3 p a b)) := by
  unfold bucketWord logPart
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_c_1, val_main_c_4, val_main_c_5, val_main_c_6, val_main_cst, val_main_cst_2, val_main_cst_3]
  rfl

theorem ref_table (x0) (h : Fin 8) (k : Fin 32) :
    val_main_v46 (F := Ideal) x0 (ix2 h k) = (column x0 h k - column x0 h 31) * Ideal.ofBits .f32 0x3FB8AA3B#32 := by
  unfold column
  rw [dif_pos k.isLt, dif_pos (by decide)]
  pointwise [val_main_v46, val_main_v45, val_main_v44, val_main_v43, val_main_v42, val_main_v41, val_main_v40, val_main_v39, val_main_cst_7]

theorem shifted : ∀ i : Fin 512, IntOp.shrsi .host (BitVec.ofNat 32 i.val) 7#32 = BitVec.ofNat 32 (i.val / 128) := by decide +kernel

theorem later : ∀ (p : Fin 2) (a b : Fin 4), IntOp.cmpi .slt (IntOp.addi (IntOp.muli (BitVec.ofNat 32 p.val) 4#32) (BitVec.ofNat 32 b.val)) (BitVec.ofNat 32 a.val)
    = if p.val * 4 + b.val < a.val then 1#1 else 0#1 := by decide +kernel

theorem ref_future (p : Fin 2) (a b : Fin 512) :
    val_main_v64 (F := Ideal) (ix3 p a b) = if p.val * 4 + b.val / 128 < a.val / 128 then 1#1 else 0#1 := by
  pointwise [val_main_v64, val_main_v63, val_main_v62, val_main_v61, val_main_v60, val_main_v59, val_main_v58, val_main_v57, val_main_v56, val_main_v55, val_main_v54, val_main_v53, val_main_v52, val_main_v51, val_main_v0, val_main_c_10, val_main_c_11]
  rw [shifted, shifted]
  exact later p ⟨a.val / 128, by omega⟩ ⟨b.val / 128, by omega⟩

/-- The sum over the one-hot row has one summand, the bucket's. -/
theorem ref_sum (x0) (p : Fin 2) (h : Fin 8) (a b : Fin 512) :
    ∑ k : Fin 32, val_main_v49 (F := Ideal) x0 (idx_main_v50 (ix4 p h a b) k)
      = (column x0 h (bucket (p.val * 512 + b.val - a.val)) - column x0 h 31) * Ideal.ofBits .f32 0x3FB8AA3B#32 := by
  have hp := p.isLt
  have hb := bucket_lt (p.val * 512 + b.val - a.val) (by omega)
  have term : ∀ k : Fin 32, val_main_v49 (F := Ideal) x0 (idx_main_v50 (ix4 p h a b) k)
      = if k = ⟨bucket (p.val * 512 + b.val - a.val), hb⟩ then val_main_v46 (F := Ideal) x0 (ix2 h k) else 0 := by
    intro k
    have hk := k.isLt
    have e : val_main_v49 (F := Ideal) x0 (ix5 p h a b k)
        = Scalar.select (IntOp.cmpi .eq (val_main_v32 (F := Ideal) (ix3 p a b)) (BitVec.ofNat 32 k.val)) (val_main_v46 (F := Ideal) x0 (ix2 h k)) (0 : EReal) := by
      pointwise [val_main_v49, val_main_call1_v0, val_main_call1_v1, val_main_call1_v2, val_main_call1_v3, val_main_v48, val_main_v47, val_main_v38, val_main_v37, val_main_v36, val_main_v35, val_main_v34, val_main_v33, val_main_cst_8]
      rw [id, constant]
      pointwise
    refine (congrArg _ (by funext i; fin_cases i <;> rfl)).trans (e.trans ?_)
    rw [ref_bucket, ref_dist]
    rw [select_eq]
    have w : (bucketWord (BitVec.ofNat 32 (p.val * 512 + b.val - a.val))).toNat = bucket (p.val * 512 + b.val - a.val) := rfl
    refine if_congr ⟨fun q => Fin.ext ?_, fun q => BitVec.eq_of_toNat_eq ?_⟩ rfl rfl
    · show k.val = bucket _
      rw [← w, q, BitVec.toNat_ofNat]
      omega
    · rw [w, q, BitVec.toNat_ofNat]
      show bucket _ = bucket _ % _
      omega
  rw [Finset.sum_congr rfl fun k _ => term k, Finset.sum_ite_eq' Finset.univ, if_pos (Finset.mem_univ _)]
  exact ref_table x0 h ⟨_, hb⟩

/-- An entry of the reference's result. -/
theorem ref_entry (x0) (p : Fin 2) (h : Fin 8) (a b : Fin 512) :
    val_main_v67 (F := Ideal) x0 (ix4 p h a b) = bias (column x0 h) p a b := by
  have e : val_main_v67 (F := Ideal) x0 (ix4 p h a b)
      = Scalar.select (val_main_v64 (F := Ideal) (ix3 p a b)) (0 : EReal) (val_main_v50 (F := Ideal) x0 (ix4 p h a b)) := by
    pointwise [val_main_v67, val_main_v66, val_main_call2_v2, val_main_call2_v1, val_main_call2_v0, val_main_v65, val_main_cst_12]
    rw [id, constant]
    pointwise
  have z : val_main_cst_9 (F := Ideal) (Shape.Idx.first Gen.h_S_) = (0 : EReal) := Ideal.ofBits_zero_f32
  rw [e, val_main_v50_apply, z, zero_add, ref_sum, ref_future]
  unfold bias
  split <;> rfl

end Cert.Bias.Hand

end
-- ==== Proof.BiasValue.lean ====
/- The relative position bias: what the kernel leaves in its result. -/
module

public import proofs.«01_k».proof.Proof.BiasRef
public import proofs.«01_k».proof.Pre_last_bucket_finite
public import proofs.«01_k».proof.Proof.Gen.BiasIdeal.Frame
public import proofs.«01_k».proof.Proof.Gen.BiasIdeal.Value
public import Idealize.ShloMosaic.Lib.Pipeline.ValueKit
public import Idealize.ShloMosaic.Lib.Pointwise

@[expose] public section

set_option maxRecDepth 16384

noncomputable section

namespace Cert.BiasIdeal.Hand

open Cert.BiasIdeal Cert.BiasIdeal.Gen Cert.Bias.Hand Idealize.ShloMosaic Idealize.ShloMosaic.TcCoe Idealize.SL.Sem
open Idealize.ShloMosaic.Pipeline (Dat)

variable (m : (ℓ : Loc nD τ sig) → Buf (Elt Ideal) ℓ)

/-- The table. -/
abbrev A0 (c : Dev nD) : Vec Ideal S32x8 .f32 := m ((c : Thread nD τ).loc main_arg0)

/-- The distances in a tile whose corner lies `base` places along the diagonal, negative ones as zero. -/
def dist (base : BitVec 32) : IVec S128x128 32 :=
  maxsi (subi (addi (broadcast S128x128 base) (iota .tc S128x128 32 [1] iota_S128x128_d1_w32)) (iota .tc S128x128 32 [0] iota_S128x128_d0_w32))
    (broadcast S128x128 0#32)

/-- The buckets of a tile of distances. -/
def buckets (d : IVec S128x128 32) : IVec S128x128 32 :=
  select (cmpi .slt d (broadcast S128x128 16#32)) d
    (minsi (addi (broadcast S128x128 16#32) (fptosi 32 (mulf (F := Ideal) (divf (log (divf (sitofp .f32 (maxsi d (broadcast S128x128 1#32)))
      (broadcast S128x128 (Scalar.ofBits .f32 0x41800000#32)))) (broadcast S128x128 (Scalar.ofBits .f32 0x40051592#32)))
      (broadcast S128x128 (Scalar.ofBits .f32 0x41800000#32))))) (broadcast S128x128 31#32))

/-- The first `n` entries of `x`, each chosen where the bucket is its own. -/
def chain (k : IVec S128x128 32) (x : ℕ → Ideal .f32) : ℕ → FVec Ideal S128x128 .f32
  | 0 => broadcast S128x128 (Scalar.ofBits .f32 0x00000000#32)
  | n + 1 => select (cmpi .eq k (broadcast S128x128 (BitVec.ofNat 32 n))) (broadcast S128x128 (x n)) (chain k x n)

/-- A computed tile. -/
def tile (base : BitVec 32) (x : ℕ → Ideal .f32) : FVec Ideal S1x1x128x128 .bf16 :=
  shapeCast S1x1x128x128 (truncf .bf16 (mulf (subf (chain (buckets (dist base)) x 32) (broadcast S128x128 (x 31)))
    (broadcast S128x128 (Scalar.ofBits .f32 0x3FB8AA3B#32))) bitsLt_bf16_f32) shapeCasts_S128x128_S1x1x128x128

theorem chain_at (k : IVec S128x128 32) (x : ℕ → Ideal .f32) (y : S128x128.Idx) (n : ℕ) (hn : n ≤ 32) :
    chain k x n y = if (k y).toNat < n then x (k y).toNat else (0 : EReal) := by
  induction n with
  | zero =>
    rw [if_neg (by omega)]
    exact Ideal.ofBits_zero_f32
  | succ n ih =>
    refine (select_eq (k y) (BitVec.ofNat 32 n) (x n) (chain k x n y)).trans ?_
    by_cases h : k y = BitVec.ofNat 32 n
    · have e : (k y).toNat = n := by
        rw [h, BitVec.toNat_ofNat]
        omega
      rw [if_pos h, e, if_pos (by omega)]
    · have e : (k y).toNat ≠ n := fun q => h (BitVec.eq_of_toNat_eq (by
        rw [q, BitVec.toNat_ofNat]
        omega))
      rw [if_neg h, ih (by omega)]
      exact if_congr (by omega) rfl rfl

theorem dist_at (base : ℕ) (hb : base < 512) (i j : Fin 128) : dist (BitVec.ofNat 32 base) (ix2 i j) = BitVec.ofNat 32 (base + j.val - i.val) := by
  unfold dist
  pointwise
  have e : IntOp.addi (BitVec.ofNat 32 base) (BitVec.ofNat 32 j.val) = BitVec.ofNat 32 (base + j.val) := by
    rw [BitVec.ofNat_add]
    rfl
  rw [e]
  exact dist_word _ _ (by omega) (by omega)

theorem buckets_at (d : IVec S128x128 32) (y : S128x128.Idx) : buckets d y = bucketWord (d y) := rfl

/-- An entry of a computed tile. -/
theorem tile_at (base : ℕ) (hb : base < 512) (x : ℕ → Ideal .f32) (i j : Fin 128) :
    tile (BitVec.ofNat 32 base) x (ix4 0 0 i j) = (x (bucket (base + j.val - i.val)) - x 31) * Ideal.ofBits .f32 0x3FB8AA3B#32 := by
  have e : tile (BitVec.ofNat 32 base) x (ix4 0 0 i j)
      = (chain (buckets (dist (BitVec.ofNat 32 base))) x 32 (ix2 i j) - x 31) * Ideal.ofBits .f32 0x3FB8AA3B#32 := by
    unfold tile
    pointwise
  have lt := bucket_lt (base + j.val - i.val) (by omega)
  rw [e, chain_at _ _ _ _ le_rfl, buckets_at, dist_at base hb]
  have w : (bucketWord (BitVec.ofNat 32 (base + j.val - i.val))).toNat = bucket (base + j.val - i.val) := rfl
  rw [w, if_pos lt]

/-- A computed tile on the diagonal of distance `base` agrees with the bias on its entries. -/
theorem tile_near (base : ℕ) (x : ℕ → Ideal .f32) (p : Fin 2) (a b : Fin 512) (typ rk cq : ℕ) (hb : base < 512)
    (h : typ * 512 + cq * 128 = base + rk * 128) :
    View.TileAt (Val := Elt Ideal) (e := .bf16) (S := S2x1x512x512) (ix4 p 0 a b) ![typ, 0, rk * 128, cq * 128] ![1, 1, 128, 128]
      (tile (BitVec.ofNat 32 base) x) (bias x p a b) := by
  intro y hy
  obtain ⟨i, j, rfl⟩ : ∃ (i j : Fin 128), y = ix4 0 0 i j :=
    ⟨y 2, y 3, by funext i; fin_cases i <;> first | rfl | exact Subsingleton.elim (α := Fin 1) _ _⟩
  have h0 : p.val = typ + 0 := hy 0
  have h2 : a.val = rk * 128 + i.val := hy 2
  have h3 : b.val = cq * 128 + j.val := hy 3
  unfold bias
  rw [if_neg (by omega)]
  have e : p.val * 512 + b.val - a.val = base + j.val - i.val := by omega
  rw [e]
  exact tile_at base hb x i j

/-- A tile of zeros agrees with the bias where its keys are later or far. -/
theorem tile_far (x : ℕ → Ideal .f32) (hx : (x 31 : EReal) - x 31 = 0) (p : Fin 2) (a b : Fin 512) (typ rk cq : ℕ)
    (h : typ * 4 + cq < rk ∨ rk + 2 ≤ typ * 4 + cq) :
    View.TileAt (Val := Elt Ideal) (e := .bf16) (S := S2x1x512x512) (ix4 p 0 a b) ![typ, 0, rk * 128, cq * 128] ![1, 1, 128, 128]
      (k0_pay2 (F := Ideal)) (bias x p a b) := by
  intro y hy
  have hp := p.isLt
  have h0 : p.val = typ + (y 0).val := hy 0
  have h2 : a.val = rk * 128 + (y 2).val := hy 2
  have h3 : b.val = cq * 128 + (y 3).val := hy 3
  have l0 : (y 0).val < 1 := (y 0).isLt
  have l2 : (y 2).val < 128 := (y 2).isLt
  have l3 : (y 3).val < 128 := (y 3).isLt
  have z : k0_pay2 (F := Ideal) y = (0 : EReal) := by
    show Ideal.ofBits .bf16 0x0000#16 = 0
    simp [Ideal.ofBits, Ideal.ieee]
  rw [z]
  unfold bias
  split
  · rfl
  · rw [bucket_far _ (by omega) (by omega), hx, zero_mul]

/-- Where a point's blocks lie, and the head it serves. -/
theorem place : ∀ t : Fin cfg0.N, win0_0.index t = ![0, 0] ∧ win0_1.index t = ![0, t.val, 0, 0]
    ∧ (Scalar.indexCast (BitVec.ofNat 32 (grid0.coords t 0).val)).toNat = t.val := by
  decide +kernel

/-- Every point reads the whole table. -/
theorem table_at (c : Dev nD) (t : Fin cfg0.N) (k : Fin 32) (h : Fin 8) : iblk m c 0 t (ix2 k h) = A0 m c (ix2 k h) := by
  blk_point [iblk, V, place t]

/-- The table's words at a point. -/
def word (c : Dev nD) (t : Fin cfg0.N) (n : ℕ) : Ideal .f32 :=
  View.ld (iblk m c 0 t) (Rect.unit (s := S32x8) ![n % 32, (Scalar.indexCast (BitVec.ofNat 32 (grid0.coords t 0).val)).toNat] S1x1.size
    (by
      have h1 := k0_off1_inb (grid0.coords t) 1
      intro a
      fin_cases a
      · show n % 32 + 1 ≤ 32
        omega
      · exact h1)) (Shape.Idx.first (show 0 < S1x1.numel by decide))

/-- The block of the result after point `t`: eight computed tiles and twenty-four of zeros. -/
theorem left (c : Dev nD) (t : Fin cfg0.N) (hx : (word m c t 31 : EReal) - word m c t 31 = 0) (p : Fin 2) (a b : Fin 512) :
    (outsAt0 m c t) (ix4 p 0 a b) = bias (word m c t) p a b := by
  unfold outsAt0
  frame_out
  refine View.canon_eq_of_allAt _ _ _ (View.cover_of_tiledBy _ ![1, 1, 128, 128] (by sl_kernel_rfl) _) ?_
  -- the tiles of row 3 of block 1, the last first
  refine View.allAt_cons_unit _ _ _ _ _ (tile_far _ hx p a b 1 3 3 (by decide)) ?_
  refine View.allAt_cons_unit _ _ _ _ _ (tile_far _ hx p a b 1 3 2 (by decide)) ?_
  refine View.allAt_cons_unit _ _ _ _ _ (tile_far _ hx p a b 1 3 1 (by decide)) ?_
  refine View.allAt_cons_unit _ _ _ _ _ (tile_near 128 (word m c t) p a b 1 3 0 (by decide) (by decide)) ?_
  -- the tiles of row 2 of block 1, the last first
  refine View.allAt_cons_unit _ _ _ _ _ (tile_far _ hx p a b 1 2 3 (by decide)) ?_
  refine View.allAt_cons_unit _ _ _ _ _ (tile_far _ hx p a b 1 2 2 (by decide)) ?_
  refine View.allAt_cons_unit _ _ _ _ _ (tile_far _ hx p a b 1 2 1 (by decide)) ?_
  refine View.allAt_cons_unit _ _ _ _ _ (tile_far _ hx p a b 1 2 0 (by decide)) ?_
  -- the tiles of row 1 of block 1, the last first
  refine View.allAt_cons_unit _ _ _ _ _ (tile_far _ hx p a b 1 1 3 (by decide)) ?_
  refine View.allAt_cons_unit _ _ _ _ _ (tile_far _ hx p a b 1 1 2 (by decide)) ?_
  refine View.allAt_cons_unit _ _ _ _ _ (tile_far _ hx p a b 1 1 1 (by decide)) ?_
  refine View.allAt_cons_unit _ _ _ _ _ (tile_far _ hx p a b 1 1 0 (by decide)) ?_
  -- the tiles of row 0 of block 1, the last first
  refine View.allAt_cons_unit _ _ _ _ _ (tile_far _ hx p a b 1 0 3 (by decide)) ?_
  refine View.allAt_cons_unit _ _ _ _ _ (tile_far _ hx p a b 1 0 2 (by decide)) ?_
  refine View.allAt_cons_unit _ _ _ _ _ (tile_far _ hx p a b 1 0 1 (by decide)) ?_
  refine View.allAt_cons_unit _ _ _ _ _ (tile_far _ hx p a b 1 0 0 (by decide)) ?_
  -- the tiles of row 3 of block 0, the last first
  refine View.allAt_cons_unit _ _ _ _ _ (tile_near 0 (word m c t) p a b 0 3 3 (by decide) (by decide)) ?_
  refine View.allAt_cons_unit _ _ _ _ _ (tile_far _ hx p a b 0 3 2 (by decide)) ?_
  refine View.allAt_cons_unit _ _ _ _ _ (tile_far _ hx p a b 0 3 1 (by decide)) ?_
  refine View.allAt_cons_unit _ _ _ _ _ (tile_far _ hx p a b 0 3 0 (by decide)) ?_
  -- the tiles of row 2 of block 0, the last first
  refine View.allAt_cons_unit _ _ _ _ _ (tile_near 128 (word m c t) p a b 0 2 3 (by decide) (by decide)) ?_
  refine View.allAt_cons_unit _ _ _ _ _ (tile_near 0 (word m c t) p a b 0 2 2 (by decide) (by decide)) ?_
  refine View.allAt_cons_unit _ _ _ _ _ (tile_far _ hx p a b 0 2 1 (by decide)) ?_
  refine View.allAt_cons_unit _ _ _ _ _ (tile_far _ hx p a b 0 2 0 (by decide)) ?_
  -- the tiles of row 1 of block 0, the last first
  refine View.allAt_cons_unit _ _ _ _ _ (tile_far _ hx p a b 0 1 3 (by decide)) ?_
  refine View.allAt_cons_unit _ _ _ _ _ (tile_near 128 (word m c t) p a b 0 1 2 (by decide) (by decide)) ?_
  refine View.allAt_cons_unit _ _ _ _ _ (tile_near 0 (word m c t) p a b 0 1 1 (by decide) (by decide)) ?_
  refine View.allAt_cons_unit _ _ _ _ _ (tile_far _ hx p a b 0 1 0 (by decide)) ?_
  -- the tiles of row 0 of block 0, the last first
  refine View.allAt_cons_unit _ _ _ _ _ (tile_far _ hx p a b 0 0 3 (by decide)) ?_
  refine View.allAt_cons_unit _ _ _ _ _ (tile_far _ hx p a b 0 0 2 (by decide)) ?_
  refine View.allAt_cons_unit _ _ _ _ _ (tile_near 128 (word m c t) p a b 0 0 1 (by decide) (by decide)) ?_
  refine View.allAt_cons_unit _ _ _ _ _ (tile_near 0 (word m c t) p a b 0 0 0 (by decide) (by decide)) ?_
  exact View.allAt_nil _ _

/-- The words are the head's column of the table. -/
theorem word_eq (c : Dev nD) (t : Fin cfg0.N) (n : ℕ) (hn : n < 32) : word m c t n = column (A0 m c) ⟨t.val, t.isLt⟩ n := by
  unfold word column
  rw [dif_pos hn, View.ld_apply]
  refine Eq.trans (congrArg (iblk m c 0 t) ?_) (table_at m c t ⟨n, hn⟩ ⟨t.val, t.isLt⟩)
  funext a
  refine Fin.ext ?_
  rw [Rect.idx_unit_val]
  fin_cases a
  · show n % 32 + 0 = n
    omega
  · exact (place t).2.2

/-- The bias reads the column at buckets only. -/
theorem bias_congr (x y : ℕ → EReal) (h : ∀ n, n < 32 → x n = y n) (p : Fin 2) (a b : Fin 512) : bias x p a b = bias y p a b := by
  have hp := p.isLt
  unfold bias
  rw [h _ (bucket_lt _ (by omega)), h 31 (by decide)]

/-- The result after the run is the reference's, where the last row is finite. -/
theorem final (c : Dev nD) (hx : ∀ h : Fin 8, (column (A0 m c) h 31 : EReal) - column (A0 m c) h 31 = 0) :
    (dats m 0 c).arrAt 1 cfg0.N = Cert.BiasRefIdeal.Read.val_main_v67 (F := Ideal) (A0 m c) := by
  refine (dats m 0 c).arrAt_eq_of_covers 1 _ (by decide +kernel) fun t _ y => ?_
  blk_simp
  obtain ⟨p, a, b, rfl⟩ : ∃ (p : Fin 2) (a b : Fin 512), y = ix4 p 0 a b :=
    ⟨y 0, y 2, y 3, by funext a; fin_cases a <;> first | rfl | exact Subsingleton.elim (α := Fin 1) _ _⟩
  have hi : ((win0_1.blk t).view.emb (ix4 p 0 a b)) = ix4 p ⟨t.val, t.isLt⟩ a b := by
    blk_ext [place t]
  rw [after0_1, hi]
  have h31 := word_eq m c t 31 (by decide)
  refine (left m c t (by rw [h31]; exact hx _) p a b).trans (Eq.trans ?_ (ref_entry (A0 m c) p ⟨t.val, t.isLt⟩ a b).symm)
  exact bias_congr _ _ (fun n hn => word_eq m c t n hn) p a b

theorem infinity : Ideal.ofBits .f32 0x7F800000#32 = ⊤ := by
  simp [Ideal.ofBits, Ideal.ieee]

/-- A number of finite magnitude less itself is zero. -/
theorem sub_self_of_lt (x : EReal) (h : max x (-x) < ⊤) : x - x = 0 := by
  refine EReal.sub_self (fun q => ?_) (fun q => ?_) <;> simp [q] at h

/-- What the precondition says of the table's last row. -/
theorem last_row [Cert.Pre_last_bucket_finite.Facts] (x0 : (⟨S32x8, .f32⟩ : BufTy).Contents (Elt Ideal))
    (h : Cert.Pre_last_bucket_finite.fn (F := Ideal) x0 = fun _ => 1#1) (n : Fin 8) :
    (column x0 n 31 : EReal) - column x0 n 31 = 0 := by
  have e := congrFun h (ix1 n)
  unfold column
  rw [dif_pos (by decide)]
  refine sub_self_of_lt _ ?_
  unfold Cert.Pre_last_bucket_finite.fn at e
  pointwise at e
  rw [infinity] at e
  by_contra q
  have q' : ¬ FloatOps.absf (F := Ideal) (φ := .f32) (x0 (ix2 31 n)) < (⊤ : EReal) := q
  rw [decide_eq_false q'] at e
  exact absurd e (by decide)

end Cert.BiasIdeal.Hand

end
-- ==== Proof.lean ====
module

public import proofs.«01_k».proof.Defs
public import proofs.«01_k».proof.Proof.Gen.Cd
public import proofs.«01_k».proof.Proof.Gen.Cd.Skeleton
public import proofs.«01_k».proof.Proof.Gen.Cd.Launch
public import proofs.«01_k».proof.Proof.Gen.Cd.Points
public import proofs.«01_k».proof.Proof.Gen.Cd.Frame
public import proofs.«01_k».proof.Proof.Gen.CdIdeal
public import proofs.«01_k».proof.Proof.Gen.CdIdeal.Skeleton
public import proofs.«01_k».proof.Proof.Gen.CdIdeal.Launch
public import proofs.«01_k».proof.Proof.Gen.CdIdeal.Points
public import proofs.«01_k».proof.Proof.Gen.CdIdeal.Frame
public import proofs.«01_k».proof.Proof.Gen.CdRefIdeal
public import proofs.«01_k».proof.Proof.Gen.Nm
public import proofs.«01_k».proof.Proof.Gen.Nm.Skeleton
public import proofs.«01_k».proof.Proof.Gen.Nm.Launch
public import proofs.«01_k».proof.Proof.Gen.Nm.Points
public import proofs.«01_k».proof.Proof.Gen.Nm.Frame
public import proofs.«01_k».proof.Proof.Gen.NmIdeal
public import proofs.«01_k».proof.Proof.Gen.NmIdeal.Skeleton
public import proofs.«01_k».proof.Proof.Gen.NmIdeal.Launch
public import proofs.«01_k».proof.Proof.Gen.NmIdeal.Points
public import proofs.«01_k».proof.Proof.Gen.NmIdeal.Frame
public import proofs.«01_k».proof.Proof.Gen.NmRefIdeal
public import proofs.«01_k».proof.Proof.Gen.CdIdeal.Value
public import proofs.«01_k».proof.Proof.Gen.NmIdeal.Value
public import proofs.«01_k».proof.Proof.Gen.CdRefIdeal.Run
public import proofs.«01_k».proof.Proof.Gen.CdRefIdeal.Read
public import proofs.«01_k».proof.Proof.Gen.NmRefIdeal.Run
public import proofs.«01_k».proof.Proof.Gen.NmRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Ab
public import proofs.«01_k».proof.Proof.Gen.Ab.Skeleton
public import proofs.«01_k».proof.Proof.Gen.Ab.Launch
public import proofs.«01_k».proof.Proof.Gen.Ab.Points
public import proofs.«01_k».proof.Proof.Gen.Ab.Frame
public import proofs.«01_k».proof.Proof.Gen.AbIdeal
public import proofs.«01_k».proof.Proof.Gen.AbIdeal.Skeleton
public import proofs.«01_k».proof.Proof.Gen.AbIdeal.Launch
public import proofs.«01_k».proof.Proof.Gen.AbIdeal.Points
public import proofs.«01_k».proof.Proof.Gen.AbIdeal.Frame
public import proofs.«01_k».proof.Proof.Gen.AbRefIdeal
public import proofs.«01_k».proof.Proof.Gen.AbRefIdeal.Run
public import proofs.«01_k».proof.Proof.Gen.AbRefIdeal.Read
public import proofs.«01_k».proof.Proof.CdFinal
public import proofs.«01_k».proof.Proof.NmValue
public import proofs.«01_k».proof.Proof.Gen.Gdn
public import proofs.«01_k».proof.Proof.Gen.Gdn.Skeleton
public import proofs.«01_k».proof.Proof.Gen.Gdn.Launch
public import proofs.«01_k».proof.Proof.Gen.Gdn.Points
public import proofs.«01_k».proof.Proof.Gen.Gdn.Frame
public import proofs.«01_k».proof.Proof.Gen.GdnIdeal
public import proofs.«01_k».proof.Proof.Gen.GdnIdeal.Skeleton
public import proofs.«01_k».proof.Proof.Gen.GdnIdeal.Launch
public import proofs.«01_k».proof.Proof.Gen.GdnIdeal.Points
public import proofs.«01_k».proof.Proof.Gen.GdnIdeal.Frame
public import proofs.«01_k».proof.Proof.Gen.GdnIdeal.Value
public import proofs.«01_k».proof.Proof.Gen.GdnRefIdeal
public import proofs.«01_k».proof.Proof.Gen.GdnRefIdeal.Run
public import proofs.«01_k».proof.Proof.Gen.GdnRefIdeal.Read
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.BiasIdeal.Value
public import proofs.«01_k».proof.Proof.Gen.BiasRefIdeal
public import proofs.«01_k».proof.Proof.Gen.BiasRefIdeal.Run
public import proofs.«01_k».proof.Proof.Gen.BiasRefIdeal.Read
public import proofs.«01_k».proof.Proof.Gen.Dsa
public import proofs.«01_k».proof.Proof.Gen.DsaIdeal
public import proofs.«01_k».proof.Proof.Gen.DsaRefIdeal
public import proofs.«01_k».proof.Proof.Gen.Dsa.Frame
public import proofs.«01_k».proof.Proof.Gen.DsaIdeal.Frame
public import proofs.«01_k».proof.Proof.Gen.DsaIdeal.Value
public import proofs.«01_k».proof.Proof.Gen.DsaRefIdeal.Run
public import proofs.«01_k».proof.Proof.Gen.DsaRefIdeal.Read
public import proofs.«01_k».proof.Proof.OutValue
public import proofs.«01_k».proof.Proof.AbFrame
public import proofs.«01_k».proof.Proof.AbValue
public import proofs.«01_k».proof.Proof.DsaValue
public import proofs.«01_k».proof.Proof.GdnGates
public import proofs.«01_k».proof.Proof.BiasValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The reference of the convolution mixer runs and leaves its arguments and semaphores alone. -/
theorem frame_cd_ref : Cert.quiescent_CdRefIdeal := by
  intro m g _
  exact θ_run_mono (Cert.CdRefIdeal.Value.run m g) fun r h =>
    ⟨fun c => (h c).2, sem_eq_zero_of_no_sems (by decide) r.2⟩

/-- The convolution mixer with its output projection equals its reference over the extended reals. -/
theorem algebraic_cd : Cert.algebraic_CdIdeal_CdRefIdeal := by
  intro m g m' g' _ hagree
  refine ⟨fun c => (Cert.CdIdeal.Gen.dats m 0 c).arrAt 18 Cert.CdIdeal.cfg0.N, ?_, ?_⟩
  · exact θ_run_mono (θ_run_and (Cert.CdIdeal.Gen.run_main m g) (Cert.CdIdeal.Gen.unchanged m g))
      fun r h c => ⟨Cert.CdIdeal.Value.post18 m r h.1 c, h.2 c⟩
  · refine θ_run_mono (Cert.CdRefIdeal.Value.run m' g') fun r h c => ⟨(h c).1.trans ?_, (h c).2⟩
    obtain ⟨e0, e1, e2, e3, e4, e5, e6, e7⟩ := hagree c
    refine (Cert.CdRefIdeal.Read.val_main_v293_eq (StableHlo.launchContents m' c)).trans ?_
    simp only [StableHlo.launchContents_devRef, e0, e1, e2, e3, e4, e5, e6, e7]
    exact (Cert.CdIdeal.Hand.final m c).symm

/-- The reference of the norm and projection runs and leaves its arguments and semaphores alone. -/
theorem frame_nm_ref : Cert.quiescent_NmRefIdeal := by
  intro m g _
  exact θ_run_mono (Cert.NmRefIdeal.Value.run m g) fun r h =>
    ⟨fun c => (h c).2, sem_eq_zero_of_no_sems (by decide) r.2⟩

/-- The norm and projection equals its reference over the extended reals. -/
theorem algebraic_nm : Cert.algebraic_NmIdeal_NmRefIdeal := by
  pair_intro
  · run_from Cert.NmIdeal.Gen.run_main m g
  · run_from Cert.NmRefIdeal.Value.run m' g'
    exact (Cert.NmIdeal.Hand.final m c).symm

/-- The reference of the mixer output projection runs and leaves its arguments and semaphores alone. -/
theorem frame_out_ref : Cert.quiescent_OutRefIdeal := by
  intro m g _
  exact θ_run_mono (Cert.OutRefIdeal.Value.run m g) fun r h =>
    ⟨fun c => (h c).2, sem_eq_zero_of_no_sems (by decide) r.2⟩

/-- The mixer output projection equals its reference over the extended reals. -/
theorem algebraic_out : Cert.algebraic_OutIdeal_OutRefIdeal := by
  intro m g m' g' _ hagree
  refine ⟨fun c => (Cert.OutIdeal.Gen.dats m 0 c).arrAt 5 Cert.OutIdeal.cfg0.N, ?_, ?_⟩
  · exact θ_run_mono (θ_run_and (Cert.OutIdeal.Gen.run_main m g) (Cert.OutIdeal.Gen.unchanged m g))
      fun r h c => ⟨(h.1 c).1 5, h.2 c⟩
  · refine θ_run_mono (Cert.OutRefIdeal.Value.run m' g') fun r h c => ⟨(h c).1.trans ?_, (h c).2⟩
    obtain ⟨e0, e1, e2, e3⟩ := hagree c
    refine (Cert.OutRefIdeal.Read.val_main_v4_eq _ _ _ _).trans ?_
    rw [e0, e1, e2, e3]
    exact (Cert.OutIdeal.Hand.final m c).symm

/-- The reference of the even layer's norm and projections runs and leaves its arguments and semaphores alone. -/
theorem frame_ab_ref : Cert.quiescent_AbRefIdeal := by
  intro m g _
  exact θ_run_mono (Cert.AbRefIdeal.Value.run m g) fun r h =>
    ⟨fun c => (h c).2.2, sem_eq_zero_of_no_sems (by decide) r.2⟩

/-- Both results of the even layer's norm and projections equal the reference's over the extended reals. -/
theorem algebraic_ab : Cert.algebraic_AbIdeal_AbRefIdeal := by
  intro m g m' g' _ hagree
  refine ⟨fun c => (Cert.AbIdeal.Gen.dats m 0 c).arrAt 4 Cert.AbIdeal.cfg0.N,
    fun c => (Cert.AbIdeal.Gen.dats m 0 c).arrAt 5 Cert.AbIdeal.cfg0.N, ?_, ?_⟩
  · exact θ_run_mono (θ_run_and (Cert.AbIdeal.Gen.run_main m g) (Cert.AbIdeal.Gen.unchanged m g))
      fun r h c => ⟨(h.1 c).1 4, (h.1 c).1 5, h.2 c⟩
  · refine θ_run_mono (Cert.AbRefIdeal.Value.run m' g') fun r h c => ⟨(h c).1.trans ?_, (h c).2.1.trans ?_, (h c).2.2⟩
    · obtain ⟨e0, e1, e2⟩ := hagree c
      refine (Cert.AbRefIdeal.Read.val_main_v27_eq m' c).trans ?_
      rw [e0, e1, e2]
      exact (Cert.AbIdeal.Hand.final_wide m c).symm
    · obtain ⟨e0, e1, e2⟩ := hagree c
      refine (Cert.AbRefIdeal.Read.val_main_v26_eq m' c).trans ?_
      rw [e0, e1, e2]
      exact (Cert.AbIdeal.Hand.final_narrow m c).symm

/-- The reference of the sparse attention's preparation runs and leaves its arguments and semaphores alone. -/
theorem frame_dsa_ref : Cert.quiescent_DsaRefIdeal := by
  intro m g _
  exact θ_run_mono (Cert.DsaRefIdeal.Value.run m g) fun r h =>
    ⟨fun c => (h c).2.2.2.2.2.2, sem_eq_zero_of_no_sems (by decide) r.2⟩

/-- The six results of the sparse attention's preparation equal the reference's over the extended reals. -/
theorem algebraic_dsa : Cert.algebraic_DsaIdeal_DsaRefIdeal := by
  intro m g m' g' _ hagree
  refine ⟨fun c => (Cert.DsaIdeal.Gen.dats m 0 c).arrAt 13 Cert.DsaIdeal.cfg0.N,
    fun c => (Cert.DsaIdeal.Gen.dats m 0 c).arrAt 14 Cert.DsaIdeal.cfg0.N,
    fun c => (Cert.DsaIdeal.Gen.dats m 0 c).arrAt 15 Cert.DsaIdeal.cfg0.N,
    fun c => (Cert.DsaIdeal.Gen.dats m 0 c).arrAt 16 Cert.DsaIdeal.cfg0.N,
    fun c => (Cert.DsaIdeal.Gen.dats m 0 c).arrAt 17 Cert.DsaIdeal.cfg0.N,
    fun c => (Cert.DsaIdeal.Gen.dats m 0 c).arrAt 18 Cert.DsaIdeal.cfg0.N, ?_, ?_⟩
  · exact θ_run_mono (θ_run_and (Cert.DsaIdeal.Gen.run_main m g) (Cert.DsaIdeal.Gen.unchanged m g))
      fun r h c => ⟨(h.1 c).1 13, (h.1 c).1 14, (h.1 c).1 15, (h.1 c).1 16, (h.1 c).1 17, (h.1 c).1 18, h.2 c⟩
  · refine θ_run_mono (Cert.DsaRefIdeal.Value.run m' g') fun r h c => ?_
    obtain ⟨e0, e1, e2, e3, e4, e5, e6, e7, e8, e9, e10, e11⟩ := hagree c
    obtain ⟨r0, r1, r2, r3, r4, r5, rest⟩ := h c
    refine ⟨r0.trans ?_, r1.trans ?_, r2.trans ?_, r3.trans ?_, r4.trans ?_, r5.trans ?_, rest⟩
    · refine (Cert.DsaRefIdeal.Read.val_main_v97_eq m' c).trans ?_
      rw [e0, e2, e4, e8]
      exact (Cert.DsaIdeal.Hand.final13 m c).symm
    · refine (Cert.DsaRefIdeal.Read.val_main_v98_eq m' c).trans ?_
      rw [e0, e3, e6, e9]
      exact (Cert.DsaIdeal.Hand.final14 m c).symm
    · refine (Cert.DsaRefIdeal.Read.val_main_v99_eq _ _ _).trans ?_
      rw [e0, e3, e7]
      exact (Cert.DsaIdeal.Hand.final15 m c).symm
    · refine (Cert.DsaRefIdeal.Read.val_main_v100_eq _ _ _).trans ?_
      rw [e0, e2, e5]
      exact (Cert.DsaIdeal.Hand.final16 m c).symm
    · refine (Cert.DsaRefIdeal.Read.val_main_v101_eq _ _ _).trans ?_
      rw [e1, e10, e11]
      exact (Cert.DsaIdeal.Hand.final17 m c).symm
    · refine (Cert.DsaRefIdeal.Read.val_main_v102_eq _ _ _).trans ?_
      rw [e1, e10, e11]
      exact (Cert.DsaIdeal.Hand.final18 m c).symm

/-- The reference of the recurrence's preparation runs without fault and leaves its arguments unchanged. -/
theorem frame_gdn_ref : Cert.quiescent_GdnRefIdeal := by
  intro m g _
  exact θ_run_mono (Cert.GdnRefIdeal.Value.run m g) fun r h =>
    ⟨fun c => (h c).2.2.2.2.2.2, sem_eq_zero_of_no_sems (by decide) r.2⟩

/-- The six results of the recurrence's preparation equal the reference's over the extended reals. -/
theorem algebraic_gdn : Cert.algebraic_GdnIdeal_GdnRefIdeal := by
  intro m g m' g' _ hagree
  refine ⟨fun c => (Cert.GdnIdeal.Gen.dats m 0 c).arrAt 6 Cert.GdnIdeal.cfg0.N,
    fun c => (Cert.GdnIdeal.Gen.dats m 0 c).arrAt 7 Cert.GdnIdeal.cfg0.N,
    fun c => (Cert.GdnIdeal.Gen.dats m 0 c).arrAt 8 Cert.GdnIdeal.cfg0.N,
    fun c => (Cert.GdnIdeal.Gen.dats m 0 c).arrAt 9 Cert.GdnIdeal.cfg0.N,
    fun c => (Cert.GdnIdeal.Gen.dats m 0 c).arrAt 10 Cert.GdnIdeal.cfg0.N,
    fun c => (Cert.GdnIdeal.Gen.dats m 0 c).arrAt 11 Cert.GdnIdeal.cfg0.N, ?_, ?_⟩
  · exact Cert.GdnIdeal.Value.run_blocks m g
  · refine θ_run_mono (Cert.GdnRefIdeal.Value.run m' g') fun r h c => ?_
    obtain ⟨e0, e1, e2, e3, e4⟩ := hagree c
    obtain ⟨r0, r1, r2, r3, r4, r5, rest⟩ := h c
    refine ⟨r0.trans ?_, r1.trans ?_, r2.trans ?_, r3.trans ?_, r4.trans ?_, r5.trans ?_, rest⟩
    · refine (Cert.GdnRefIdeal.Read.val_main_v91_eq m' c).trans ?_
      rw [e0, e2]
      exact (Cert.GdnIdeal.Hand.final6 m c).symm
    · refine (Cert.GdnRefIdeal.Read.val_main_v92_eq m' c).trans ?_
      rw [e0, e2]
      exact (Cert.GdnIdeal.Hand.final7 m c).symm
    · refine (Cert.GdnRefIdeal.Read.val_main_v93_eq m' c).trans ?_
      rw [e0, e2]
      exact (Cert.GdnIdeal.Hand.final8 m c).symm
    · refine (Cert.GdnRefIdeal.Read.val_main_v94_eq _ _ _).trans ?_
      rw [e1, e3, e4]
      exact (Cert.GdnIdeal.Hand.final9 m c).symm
    · refine (Cert.GdnRefIdeal.Read.val_main_v95_eq _).trans ?_
      rw [e1]
      exact (Cert.GdnIdeal.Hand.final10 m c).symm
    · refine (Cert.GdnRefIdeal.Read.val_main_v96_eq _ _ _).trans ?_
      rw [e1, e3, e4]
      exact (Cert.GdnIdeal.Hand.final11 m c).symm

/-- What the precondition's function states of its shapes. -/
theorem facts_finite : Cert.Pre_last_bucket_finite.Facts where
  slices_S32x8_S1x8_31_0 := by decide
  shapeCasts_S1x8_S8 := by decide
  bcast_S_S8 := by decide

/-- The reference of the position bias runs without fault and leaves its argument unchanged. -/
theorem frame_bias_ref : Cert.quiescent_BiasRefIdeal := by
  intro m g _
  exact θ_run_mono (Cert.BiasRefIdeal.Value.run m g) fun r h =>
    ⟨fun c => (h c).2, sem_eq_zero_of_no_sems (by decide) r.2⟩

/-- The position bias equals the reference's over the extended reals, where the table's last row is finite. -/
theorem algebraic_bias : Cert.algebraic_BiasIdeal_BiasRefIdeal_pre_last_bucket_finite (hPre_last_bucket_finite := facts_finite) := by
  intro m g m' g' hpre hagree
  refine ⟨fun c => (Cert.BiasIdeal.Gen.dats m 0 c).arrAt 1 Cert.BiasIdeal.cfg0.N, ?_, ?_⟩
  · exact Cert.BiasIdeal.Value.run_blocks m g
  · refine θ_run_mono (Cert.BiasRefIdeal.Value.run m' g') fun r h c => ⟨(h c).1.trans ?_, (h c).2⟩
    refine (Cert.BiasRefIdeal.Read.val_main_v67_eq m' c).trans ?_
    rw [hagree c]
    exact (Cert.BiasIdeal.Hand.final m c fun n =>
      @Cert.BiasIdeal.Hand.last_row facts_finite _ (hpre c) n).symm

theorem claim : Cert.Claim :=
  ⟨Cert.Cd.Gen.facts, Cert.CdIdeal.Gen.facts, Cert.CdRefIdeal.Gen.facts, Cert.Nm.Gen.facts,
    Cert.NmIdeal.Gen.facts, Cert.NmRefIdeal.Gen.facts, Cert.Out.Gen.facts, Cert.OutIdeal.Gen.facts,
    Cert.OutRefIdeal.Gen.facts, Cert.Ab.Gen.facts, Cert.AbIdeal.Gen.facts, Cert.AbRefIdeal.Gen.facts,
    Cert.Dsa.Gen.facts, Cert.DsaIdeal.Gen.facts, Cert.DsaRefIdeal.Gen.facts,
    Cert.Gdn.Gen.facts, Cert.GdnIdeal.Gen.facts, Cert.GdnRefIdeal.Gen.facts,
    Cert.Bias.Gen.facts, Cert.BiasIdeal.Gen.facts, Cert.BiasRefIdeal.Gen.facts, facts_finite,
    fun m ρ _ => Cert.Cd.Gen.frame m ρ,
    fun m ρ _ => Cert.CdIdeal.Gen.frame m ρ,
    frame_cd_ref,
    fun m ρ _ => Cert.Nm.Gen.frame m ρ,
    fun m ρ _ => Cert.NmIdeal.Gen.frame m ρ,
    frame_nm_ref,
    fun m ρ _ => Cert.Out.Gen.frame m ρ,
    fun m ρ _ => Cert.OutIdeal.Gen.frame m ρ,
    frame_out_ref,
    fun m ρ _ => Cert.Ab.Gen.frame m ρ,
    fun m ρ _ => Cert.AbIdeal.Gen.frame m ρ,
    frame_ab_ref,
    fun m ρ _ => Cert.Dsa.Gen.frame m ρ,
    fun m ρ _ => Cert.DsaIdeal.Gen.frame m ρ,
    frame_dsa_ref,
    fun m ρ _ => Cert.Gdn.Gen.frame m ρ,
    fun m ρ _ => Cert.GdnIdeal.Gen.frame m ρ,
    frame_gdn_ref,
    fun m ρ _ => Cert.Bias.Gen.frame m ρ,
    fun m ρ _ => Cert.BiasIdeal.Gen.frame m ρ,
    fun m ρ _ => Cert.BiasIdeal.Gen.frame m ρ,
    frame_bias_ref,
    fun m ρ _ => frame_bias_ref m ρ True.intro,
    trivial, algebraic_cd, trivial, algebraic_nm, trivial, algebraic_out, trivial, algebraic_ab, trivial, algebraic_dsa,
    trivial, algebraic_gdn, trivial, algebraic_bias⟩

end Cert.Proof

end
